-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)) →
    ∃ (v0 : (c : Dev Cert.KernelIdeal.nD) → Buf (Elt Ideal) ((c.tc : Thread Cert.KernelIdeal.nD Cert.KernelIdeal.τ).loc Cert.KernelIdeal.main_v69)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v209) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S16384x3 : Shape := ⟨2, ![16384, 3]⟩
abbrev S2x327680 : Shape := ⟨2, ![2, 327680]⟩
abbrev S16384 : Shape := ⟨1, ![16384]⟩
abbrev S3x60 : Shape := ⟨2, ![3, 60]⟩
abbrev S60 : Shape := ⟨1, ![60]⟩
abbrev S180x128 : Shape := ⟨2, ![180, 128]⟩
abbrev S128 : Shape := ⟨1, ![128]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x265 : Shape := ⟨2, ![512, 265]⟩
abbrev S265 : Shape := ⟨1, ![265]⟩
abbrev S265x40 : Shape := ⟨2, ![265, 40]⟩
abbrev S40 : Shape := ⟨1, ![40]⟩
abbrev S_ : Shape := ⟨0, ![]⟩

class Facts : Prop where
  bcast_S_S16384x3 : S_.BroadcastsInDim S16384x3 (![] : Fin 0 → Fin S16384x3.rank)
  reducesTo_S16384x3_S_d0_1 : S16384x3.ReducesTo [0, 1] S_
  h_S_ : 0 < S_.numel
  bcast_S_S60 : S_.BroadcastsInDim S60 (![] : Fin 0 → Fin S60.rank)
  reducesTo_S60_S_d0 : S60.ReducesTo [0] S_
  bcast_S_S128 : S_.BroadcastsInDim S128 (![] : Fin 0 → Fin S128.rank)
  reducesTo_S128_S_d0 : S128.ReducesTo [0] S_

variable [Facts]

def fn {F : FTy → Type} [FloatOps F] (main_arg0 : FVec F S16384x3 .f32) (main_arg1 : IVec S2x327680 32) (main_arg2 : IVec S16384 32) (main_arg3 : FVec F S3x60 .f32) (main_arg4 : FVec F S60 .f32) (main_arg5 : FVec F S60 .f32) (main_arg6 : FVec F S60 .f32) (main_arg7 : FVec F S180x128 .f32) (main_arg8 : FVec F S128 .f32) (main_arg9 : FVec F S128 .f32) (main_arg10 : FVec F S128 .f32) (main_arg11 : FVec F S128x1024 .f32) (main_arg12 : FVec F S1024 .f32) (main_arg13 : FVec F S1024 .f32) (main_arg14 : FVec F S1024 .f32) (main_arg15 : FVec F S1024x512 .f32) (main_arg16 : FVec F S512 .f32) (main_arg17 : FVec F S512 .f32) (main_arg18 : FVec F S512 .f32) (main_arg19 : FVec F S512x265 .f32) (main_arg20 : FVec F S265 .f32) (main_arg21 : FVec F S265 .f32) (main_arg22 : FVec F S265 .f32) (main_arg23 : FVec F S265x40 .f32) (main_arg24 : FVec F S40 .f32) : IVec S_ 1 :=
  let main_v0 : FVec F S16384x3 .f32 := Host.absf main_arg0
  let main_cst : FVec F S_ .f32 := constant S_ .f32 0x46E18600#32
  let main_v1 : FVec F S16384x3 .f32 := broadcastInDim S16384x3 ![] bcast_S_S16384x3 main_cst
  let main_v2 : IVec S16384x3 1 := cmpf .ole main_v0 main_v1
  let main_c : IVec S_ 1 := constantI S_ 1 1#1
  let main_v3 : IVec S_ 1 := (fun x v => Host.reduce IntOp.andi x v reducesTo_S16384x3_S_d0_1 h_S_) main_v2 main_c
  let main_v4 : FVec F S60 .f32 := Host.absf main_arg5
  let main_cst_0 : FVec F S_ .f32 := constant S_ .f32 0x7F800000#32
  let main_v5 : FVec F S60 .f32 := broadcastInDim S60 ![] bcast_S_S60 main_cst_0
  let main_v6 : IVec S60 1 := cmpf .olt main_v4 main_v5
  let main_c_1 : IVec S_ 1 := constantI S_ 1 1#1
  let main_v7 : IVec S_ 1 := (fun x v => Host.reduce IntOp.andi x v reducesTo_S60_S_d0 h_S_) main_v6 main_c_1
  let main_v8 : IVec S_ 1 := andi main_v3 main_v7
  let main_cst_2 : FVec F S_ .f32 := constant S_ .f32 0x00000000#32
  let main_v9 : FVec F S128 .f32 := broadcastInDim S128 ![] bcast_S_S128 main_cst_2
  let main_v10 : IVec S128 1 := cmpf .oge main_arg9 main_v9
  let main_c_3 : IVec S_ 1 := constantI S_ 1 1#1
  let main_v11 : IVec S_ 1 := (fun x v => Host.reduce IntOp.andi x v reducesTo_S128_S_d0 h_S_) main_v10 main_c_3
  let main_v12 : IVec S_ 1 := andi main_v8 main_v11
  main_v12
-- ==== Kernel.lean ====
abbrev S16384x3 : Shape := ⟨2, ![16384, 3]⟩
abbrev S2x327680 : Shape := ⟨2, ![2, 327680]⟩
abbrev S16384 : Shape := ⟨1, ![16384]⟩
abbrev S3x60 : Shape := ⟨2, ![3, 60]⟩
abbrev S60 : Shape := ⟨1, ![60]⟩
abbrev S180x128 : Shape := ⟨2, ![180, 128]⟩
abbrev S128 : Shape := ⟨1, ![128]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x265 : Shape := ⟨2, ![512, 265]⟩
abbrev S265 : Shape := ⟨1, ![265]⟩
abbrev S265x40 : Shape := ⟨2, ![265, 40]⟩
abbrev S40 : Shape := ⟨1, ![40]⟩
abbrev S16x1024x3 : Shape := ⟨3, ![16, 1024, 3]⟩
abbrev S16x3x1024 : Shape := ⟨3, ![16, 3, 1024]⟩
abbrev S1x60 : Shape := ⟨2, ![1, 60]⟩
abbrev S16x1024x20 : Shape := ⟨3, ![16, 1024, 20]⟩
abbrev S16x1024x60 : Shape := ⟨3, ![16, 1024, 60]⟩
abbrev S1x1024x3 : Shape := ⟨3, ![1, 1024, 3]⟩
abbrev S1x3x1024 : Shape := ⟨3, ![1, 3, 1024]⟩
abbrev S1x1024x20 : Shape := ⟨3, ![1, 1024, 20]⟩
abbrev S1x1024x60 : Shape := ⟨3, ![1, 1024, 60]⟩
abbrev S1024x3 : Shape := ⟨2, ![1024, 3]⟩
abbrev S3x1024 : Shape := ⟨2, ![3, 1024]⟩
abbrev S1024x1 : Shape := ⟨2, ![1024, 1]⟩
abbrev S1x1024 : Shape := ⟨2, ![1, 1024]⟩
abbrev S1024x1024 : Shape := ⟨2, ![1024, 1024]⟩
abbrev S1024x9 : Shape := ⟨2, ![1024, 9]⟩
abbrev S1024x60 : Shape := ⟨2, ![1024, 60]⟩
abbrev S1024x20 : Shape := ⟨2, ![1024, 20]⟩
abbrev S16384x60 : Shape := ⟨2, ![16384, 60]⟩
abbrev S_ : Shape := ⟨0, ![]⟩
abbrev S60x128 : Shape := ⟨2, ![60, 128]⟩
abbrev S1x128 : Shape := ⟨2, ![1, 128]⟩
abbrev S16x1024x128 : Shape := ⟨3, ![16, 1024, 128]⟩
abbrev S16x1x128 : Shape := ⟨3, ![16, 1, 128]⟩
abbrev S1x1024x128 : Shape := ⟨3, ![1, 1024, 128]⟩
abbrev S1x1x128 : Shape := ⟨3, ![1, 1, 128]⟩
abbrev S1024x180 : Shape := ⟨2, ![1024, 180]⟩
abbrev S1024x128 : Shape := ⟨2, ![1024, 128]⟩
abbrev S16x1x1024 : Shape := ⟨3, ![16, 1, 1024]⟩
abbrev S1x1x1024 : Shape := ⟨3, ![1, 1, 1024]⟩
abbrev S16x1024 : Shape := ⟨2, ![16, 1024]⟩
abbrev S1x512 : Shape := ⟨2, ![1, 512]⟩
abbrev S1x265 : Shape := ⟨2, ![1, 265]⟩
abbrev S1x40 : Shape := ⟨2, ![1, 40]⟩
abbrev S16x40 : Shape := ⟨2, ![16, 40]⟩
abbrev S16x512 : Shape := ⟨2, ![16, 512]⟩
abbrev S16x265 : Shape := ⟨2, ![16, 265]⟩
abbrev S16 : Shape := ⟨1, ![16]⟩
abbrev S16x1 : Shape := ⟨2, ![16, 1]⟩

abbrev nBuf : Space → Nat
  | .hbm => 128
  | .vmem => 43
  | .smem => 0
  | _ => 0

abbrev bufTy : (tb : Table) → Fin (tcTables nBuf tb) → BufTy
  | .hbm, ⟨0, _⟩ => ⟨S16384x3, .f32⟩
  | .hbm, ⟨1, _⟩ => ⟨S2x327680, .i32⟩
  | .hbm, ⟨2, _⟩ => ⟨S16384, .i32⟩
  | .hbm, ⟨3, _⟩ => ⟨S3x60, .f32⟩
  | .hbm, ⟨4, _⟩ => ⟨S60, .f32⟩
  | .hbm, ⟨5, _⟩ => ⟨S60, .f32⟩
  | .hbm, ⟨6, _⟩ => ⟨S60, .f32⟩
  | .hbm, ⟨7, _⟩ => ⟨S180x128, .f32⟩
  | .hbm, ⟨8, _⟩ => ⟨S128, .f32⟩
  | .hbm, ⟨9, _⟩ => ⟨S128, .f32⟩
  | .hbm, ⟨10, _⟩ => ⟨S128, .f32⟩
  | .hbm, ⟨11, _⟩ => ⟨S128x1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S1024x512, .f32⟩
  | .hbm, ⟨16, _⟩ => ⟨S512, .f32⟩
  | .hbm, ⟨17, _⟩ => ⟨S512, .f32⟩
  | .hbm, ⟨18, _⟩ => ⟨S512, .f32⟩
  | .hbm, ⟨19, _⟩ => ⟨S512x265, .f32⟩
  | .hbm, ⟨20, _⟩ => ⟨S265, .f32⟩
  | .hbm, ⟨21, _⟩ => ⟨S265, .f32⟩
  | .hbm, ⟨22, _⟩ => ⟨S265, .f32⟩
  | .hbm, ⟨23, _⟩ => ⟨S265x40, .f32⟩
  | .hbm, ⟨24, _⟩ => ⟨S40, .f32⟩
  | .hbm, ⟨25, _⟩ => ⟨S16x1024x3, .f32⟩
  | .hbm, ⟨26, _⟩ => ⟨S16x3x1024, .f32⟩
  | .hbm, ⟨27, _⟩ => ⟨S3x60, .bf16⟩
  | .hbm, ⟨28, _⟩ => ⟨S3x60, .f32⟩
  | .hbm, ⟨29, _⟩ => ⟨S1x60, .f32⟩
  | .hbm, ⟨30, _⟩ => ⟨S16x1024x20, .i32⟩
  | .hbm, ⟨31, _⟩ => ⟨S16x1024x60, .f32⟩
  | .hbm, ⟨32, _⟩ => ⟨S16384x60, .f32⟩
  | .hbm, ⟨33, _⟩ => ⟨S_, .f32⟩
  | .hbm, ⟨34, _⟩ => ⟨S60, .f32⟩
  | .hbm, ⟨35, _⟩ => ⟨S_, .f32⟩
  | .hbm, ⟨36, _⟩ => ⟨S60, .f32⟩
  | .hbm, ⟨37, _⟩ => ⟨S60, .f32⟩
  | .hbm, ⟨38, _⟩ => ⟨S1x60, .f32⟩
  | .hbm, ⟨39, _⟩ => ⟨S16384x60, .f32⟩
  | .hbm, ⟨40, _⟩ => ⟨S16384x60, .f32⟩
  | .hbm, ⟨41, _⟩ => ⟨S_, .i32⟩
  | .hbm, ⟨42, _⟩ => ⟨S_, .f32⟩
  | .hbm, ⟨43, _⟩ => ⟨S60, .f32⟩
  | .hbm, ⟨44, _⟩ => ⟨S1x60, .f32⟩
  | .hbm, ⟨45, _⟩ => ⟨S_, .f32⟩
  | .hbm, ⟨46, _⟩ => ⟨S1x60, .f32⟩
  | .hbm, ⟨47, _⟩ => ⟨S1x60, .f32⟩
  | .hbm, ⟨48, _⟩ => ⟨S16384x60, .f32⟩
  | .hbm, ⟨49, _⟩ => ⟨S16384x60, .f32⟩
  | .hbm, ⟨50, _⟩ => ⟨S16384x60, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S60, .f32⟩
  | .hbm, ⟨56, _⟩ => ⟨S60, .f32⟩
  | .hbm, ⟨57, _⟩ => ⟨S60, .f32⟩
  | .hbm, ⟨58, _⟩ => ⟨S_, .f32⟩
  | .hbm, ⟨59, _⟩ => ⟨S_, .i1⟩
  | .hbm, ⟨60, _⟩ => ⟨S_, .f32⟩
  | .hbm, ⟨61, _⟩ => ⟨S_, .f32⟩
  | .hbm, ⟨62, _⟩ => ⟨S60, .f32⟩
  | .hbm, ⟨63, _⟩ => ⟨S60, .f32⟩
  | .hbm, ⟨64, _⟩ => ⟨S_, .f32⟩
  | .hbm, ⟨65, _⟩ => ⟨S60, .f32⟩
  | .hbm, ⟨66, _⟩ => ⟨S60, .f32⟩
  | .hbm, ⟨67, _⟩ => ⟨S60, .f32⟩
  | .hbm, ⟨68, _⟩ => ⟨S1x60, .f32⟩
  | .hbm, ⟨69, _⟩ => ⟨S16384x60, .f32⟩
  | .hbm, ⟨70, _⟩ => ⟨S16384x60, .f32⟩
  | .hbm, ⟨71, _⟩ => ⟨S1x60, .f32⟩
  | .hbm, ⟨72, _⟩ => ⟨S16384x60, .f32⟩
  | .hbm, ⟨73, _⟩ => ⟨S16384x60, .f32⟩
  | .hbm, ⟨74, _⟩ => ⟨S1x60, .f32⟩
  | .hbm, ⟨75, _⟩ => ⟨S16384x60, .f32⟩
  | .hbm, ⟨76, _⟩ => ⟨S16384x60, .f32⟩
  | .hbm, ⟨77, _⟩ => ⟨S16x1024x60, .f32⟩
  | .hbm, ⟨78, _⟩ => ⟨S60x128, .f32⟩
  | .hbm, ⟨79, _⟩ => ⟨S60x128, .f32⟩
  | .hbm, ⟨80, _⟩ => ⟨S60x128, .f32⟩
  | .hbm, ⟨81, _⟩ => ⟨S1x128, .f32⟩
  | .hbm, ⟨82, _⟩ => ⟨S16x1024x128, .f32⟩
  | .hbm, ⟨83, _⟩ => ⟨S16x1x128, .f32⟩
  | .hbm, ⟨84, _⟩ => ⟨S16x1x128, .f32⟩
  | .hbm, ⟨85, _⟩ => ⟨S_, .f32⟩
  | .hbm, ⟨86, _⟩ => ⟨S128, .f32⟩
  | .hbm, ⟨87, _⟩ => ⟨S_, .f32⟩
  | .hbm, ⟨88, _⟩ => ⟨S128, .f32⟩
  | .hbm, ⟨89, _⟩ => ⟨S128, .f32⟩
  | .hbm, ⟨90, _⟩ => ⟨S_, .f32⟩
  | .hbm, ⟨91, _⟩ => ⟨S128, .f32⟩
  | .hbm, ⟨92, _⟩ => ⟨S_, .f32⟩
  | .hbm, ⟨93, _⟩ => ⟨S128, .f32⟩
  | .hbm, ⟨94, _⟩ => ⟨S128, .f32⟩
  | .hbm, ⟨95, _⟩ => ⟨S128, .f32⟩
  | .hbm, ⟨96, _⟩ => ⟨S128, .f32⟩
  | .hbm, ⟨97, _⟩ => ⟨S1x1x128, .f32⟩
  | .hbm, ⟨98, _⟩ => ⟨S16x1024x128, .f32⟩
  | .hbm, ⟨99, _⟩ => ⟨S16x1024x128, .f32⟩
  | .hbm, ⟨100, _⟩ => ⟨S_, .f32⟩
  | .hbm, ⟨101, _⟩ => ⟨S128, .f32⟩
  | .hbm, ⟨102, _⟩ => ⟨S128, .f32⟩
  | .hbm, ⟨103, _⟩ => ⟨S128, .f32⟩
  | .hbm, ⟨104, _⟩ => ⟨S1x1x128, .f32⟩
  | .hbm, ⟨105, _⟩ => ⟨S16x1024x128, .f32⟩
  | .hbm, ⟨106, _⟩ => ⟨S16x1024x128, .f32⟩
  | .hbm, ⟨107, _⟩ => ⟨S1x1x128, .f32⟩
  | .hbm, ⟨108, _⟩ => ⟨S16x1024x128, .f32⟩
  | .hbm, ⟨109, _⟩ => ⟨S16x1024x128, .f32⟩
  | .hbm, ⟨110, _⟩ => ⟨S1x1x128, .f32⟩
  | .hbm, ⟨111, _⟩ => ⟨S16x1024x128, .f32⟩
  | .hbm, ⟨112, _⟩ => ⟨S16x1024x128, .f32⟩
  | .hbm, ⟨113, _⟩ => ⟨S16x1x1024, .f32⟩
  | .hbm, ⟨114, _⟩ => ⟨S16x1024, .f32⟩
  | .hbm, ⟨115, _⟩ => ⟨S1x1024, .f32⟩
  | .hbm, ⟨116, _⟩ => ⟨S16x1024, .f32⟩
  | .hbm, ⟨117, _⟩ => ⟨S16x1024, .f32⟩
  | .hbm, ⟨118, _⟩ => ⟨S1x1024, .f32⟩
  | .hbm, ⟨119, _⟩ => ⟨S1x1024, .f32⟩
  | .hbm, ⟨120, _⟩ => ⟨S1x512, .f32⟩
  | .hbm, ⟨121, _⟩ => ⟨S1x512, .f32⟩
  | .hbm, ⟨122, _⟩ => ⟨S1x512, .f32⟩
  | .hbm, ⟨123, _⟩ => ⟨S1x265, .f32⟩
  | .hbm, ⟨124, _⟩ => ⟨S1x265, .f32⟩
  | .hbm, ⟨125, _⟩ => ⟨S1x265, .f32⟩
  | .hbm, ⟨126, _⟩ => ⟨S1x40, .f32⟩
  | .hbm, ⟨127, _⟩ => ⟨S16x40, .f32⟩
  | .local _ .vmem, ⟨0, _⟩ => ⟨S1x1024x3, .f32⟩
  | .local _ .vmem, ⟨1, _⟩ => ⟨S1x1024x3, .f32⟩
  | .local _ .vmem, ⟨2, _⟩ => ⟨S1x3x1024, .f32⟩
  | .local _ .vmem, ⟨3, _⟩ => ⟨S1x3x1024, .f32⟩
  | .local _ .vmem, ⟨4, _⟩ => ⟨S3x60, .f32⟩
  | .local _ .vmem, ⟨5, _⟩ => ⟨S1x60, .f32⟩
  | .local _ .vmem, ⟨6, _⟩ => ⟨S1x1024x20, .i32⟩
  | .local _ .vmem, ⟨7, _⟩ => ⟨S1x1024x20, .i32⟩
  | .local _ .vmem, ⟨8, _⟩ => ⟨S1x1024x60, .f32⟩
  | .local _ .vmem, ⟨9, _⟩ => ⟨S1x1024x60, .f32⟩
  | .local _ .vmem, ⟨10, _⟩ => ⟨S1x1024x60, .f32⟩
  | .local _ .vmem, ⟨11, _⟩ => ⟨S1x1024x60, .f32⟩
  | .local _ .vmem, ⟨12, _⟩ => ⟨S1x1024x20, .i32⟩
  | .local _ .vmem, ⟨13, _⟩ => ⟨S1x1024x20, .i32⟩
  | .local _ .vmem, ⟨14, _⟩ => ⟨S60x128, .f32⟩
  | .local _ .vmem, ⟨15, _⟩ => ⟨S60x128, .f32⟩
  | .local _ .vmem, ⟨16, _⟩ => ⟨S60x128, .f32⟩
  | .local _ .vmem, ⟨17, _⟩ => ⟨S1x128, .f32⟩
  | .local _ .vmem, ⟨18, _⟩ => ⟨S1x1024x128, .f32⟩
  | .local _ .vmem, ⟨19, _⟩ => ⟨S1x1024x128, .f32⟩
  | .local _ .vmem, ⟨20, _⟩ => ⟨S1x1x128, .f32⟩
  | .local _ .vmem, ⟨21, _⟩ => ⟨S1x1x128, .f32⟩
  | .local _ .vmem, ⟨22, _⟩ => ⟨S1x1x128, .f32⟩
  | .local _ .vmem, ⟨23, _⟩ => ⟨S1x1x128, .f32⟩
  | .local _ .vmem, ⟨24, _⟩ => ⟨S1x1024x128, .f32⟩
  | .local _ .vmem, ⟨25, _⟩ => ⟨S1x1024x128, .f32⟩
  | .local _ .vmem, ⟨26, _⟩ => ⟨S128x1024, .f32⟩
  | .local _ .vmem, ⟨27, _⟩ => ⟨S1x1x1024, .f32⟩
  | .local _ .vmem, ⟨28, _⟩ => ⟨S1x1x1024, .f32⟩
  | .local _ .vmem, ⟨29, _⟩ => ⟨S16x1024, .f32⟩
  | .local _ .vmem, ⟨30, _⟩ => ⟨S1x1024, .f32⟩
  | .local _ .vmem, ⟨31, _⟩ => ⟨S1x1024, .f32⟩
  | .local _ .vmem, ⟨32, _⟩ => ⟨S1024x512, .f32⟩
  | .local _ .vmem, ⟨33, _⟩ => ⟨S1x512, .f32⟩
  | .local _ .vmem, ⟨34, _⟩ => ⟨S1x512, .f32⟩
  | .local _ .vmem, ⟨35, _⟩ => ⟨S1x512, .f32⟩
  | .local _ .vmem, ⟨36, _⟩ => ⟨S512x265, .f32⟩
  | .local _ .vmem, ⟨37, _⟩ => ⟨S1x265, .f32⟩
  | .local _ .vmem, ⟨38, _⟩ => ⟨S1x265, .f32⟩
  | .local _ .vmem, ⟨39, _⟩ => ⟨S1x265, .f32⟩
  | .local _ .vmem, ⟨40, _⟩ => ⟨S265x40, .f32⟩
  | .local _ .vmem, ⟨41, _⟩ => ⟨S1x40, .f32⟩
  | .local _ .vmem, ⟨42, _⟩ => ⟨S16x40, .f32⟩
  | _, _ => ⟨S16384x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_v2 : Ref sig .tc := ⟨.hbm, 27, rfl⟩
abbrev main_v3 : Ref sig .tc := ⟨.hbm, 28, rfl⟩
abbrev main_v4 : Ref sig .tc := ⟨.hbm, 29, rfl⟩
abbrev main_v5_0 : Ref sig .tc := ⟨.hbm, 30, rfl⟩
abbrev main_v5_1 : Ref sig .tc := ⟨.hbm, 31, rfl⟩
abbrev main_v6 : Ref sig .tc := ⟨.hbm, 32, rfl⟩
abbrev main_cst : Ref sig .tc := ⟨.hbm, 33, rfl⟩
abbrev main_v7 : Ref sig .tc := ⟨.hbm, 34, rfl⟩
abbrev main_cst_0 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_c : Ref sig .tc := ⟨.hbm, 41, rfl⟩
abbrev main_call0_cst : Ref sig .tc := ⟨.hbm, 42, rfl⟩
abbrev main_call0_v0 : Ref sig .tc := ⟨.hbm, 43, rfl⟩
abbrev main_call0_v1 : Ref sig .tc := ⟨.hbm, 44, rfl⟩
abbrev main_call0_cst_0 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_call0_v5 : Ref sig .tc := ⟨.hbm, 49, rfl⟩
abbrev main_call0_v6 : Ref sig .tc := ⟨.hbm, 50, rfl⟩
abbrev main_call0_v7 : Ref sig .tc := ⟨.hbm, 51, rfl⟩
abbrev main_call0_cst_1 : Ref sig .tc := ⟨.hbm, 52, rfl⟩
abbrev main_call0_v8 : Ref sig .tc := ⟨.hbm, 53, rfl⟩
abbrev main_call0_cst_2 : Ref sig .tc := ⟨.hbm, 54, rfl⟩
abbrev main_call0_v9 : Ref sig .tc := ⟨.hbm, 55, rfl⟩
abbrev main_call0_v10 : Ref sig .tc := ⟨.hbm, 56, rfl⟩
abbrev main_call0_v11 : Ref sig .tc := ⟨.hbm, 57, rfl⟩
abbrev main_call0_cst_3 : Ref sig .tc := ⟨.hbm, 58, rfl⟩
abbrev main_call0_v12 : Ref sig .tc := ⟨.hbm, 59, rfl⟩
abbrev main_call0_cst_4 : Ref sig .tc := ⟨.hbm, 60, rfl⟩
abbrev main_call0_call0_v0 : Ref sig .tc := ⟨.hbm, 61, rfl⟩
abbrev main_call0_call0_v1 : Ref sig .tc := ⟨.hbm, 62, rfl⟩
abbrev main_v13 : Ref sig .tc := ⟨.hbm, 63, rfl⟩
abbrev main_cst_1 : Ref sig .tc := ⟨.hbm, 64, rfl⟩
abbrev main_v14 : Ref sig .tc := ⟨.hbm, 65, rfl⟩
abbrev main_v15 : Ref sig .tc := ⟨.hbm, 66, rfl⟩
abbrev main_v16 : Ref sig .tc := ⟨.hbm, 67, rfl⟩
abbrev main_v17 : Ref sig .tc := ⟨.hbm, 68, rfl⟩
abbrev main_v18 : Ref sig .tc := ⟨.hbm, 69, rfl⟩
abbrev main_v19 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_v29 : Ref sig .tc := ⟨.hbm, 80, rfl⟩
abbrev main_v30 : Ref sig .tc := ⟨.hbm, 81, rfl⟩
abbrev main_v31_0 : Ref sig .tc := ⟨.hbm, 82, rfl⟩
abbrev main_v31_1 : Ref sig .tc := ⟨.hbm, 83, rfl⟩
abbrev main_v31_2 : Ref sig .tc := ⟨.hbm, 84, rfl⟩
abbrev main_cst_2 : Ref sig .tc := ⟨.hbm, 85, rfl⟩
abbrev main_v32 : Ref sig .tc := ⟨.hbm, 86, rfl⟩
abbrev main_cst_3 : Ref sig .tc := ⟨.hbm, 87, rfl⟩
abbrev main_v33 : Ref sig .tc := ⟨.hbm, 88, rfl⟩
abbrev main_v34 : Ref sig .tc := ⟨.hbm, 89, rfl⟩
abbrev main_cst_4 : Ref sig .tc := ⟨.hbm, 90, rfl⟩
abbrev main_v35 : Ref sig .tc := ⟨.hbm, 91, rfl⟩
abbrev main_cst_5 : Ref sig .tc := ⟨.hbm, 92, rfl⟩
abbrev main_v36 : Ref sig .tc := ⟨.hbm, 93, rfl⟩
abbrev main_v37 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_v42 : Ref sig .tc := ⟨.hbm, 99, rfl⟩
abbrev main_cst_6 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_v68 : Ref sig .tc := ⟨.hbm, 126, rfl⟩
abbrev main_v69 : Ref sig .tc := ⟨.hbm, 127, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg1_1 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc1_stg7_0 : Ref sig .tc := ⟨.vmem, 20, rfl⟩
abbrev cc1_stg7_1 : Ref sig .tc := ⟨.vmem, 21, rfl⟩
abbrev cc1_stg8_0 : Ref sig .tc := ⟨.vmem, 22, rfl⟩
abbrev cc1_stg8_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg2_1 : Ref sig .tc := ⟨.vmem, 28, rfl⟩
abbrev cc3_stg0_0 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg4_0 : Ref sig .tc := ⟨.vmem, 33, rfl⟩
abbrev cc3_stg5_0 : Ref sig .tc := ⟨.vmem, 34, rfl⟩
abbrev cc3_stg6_0 : Ref sig .tc := ⟨.vmem, 35, rfl⟩
abbrev cc3_stg7_0 : Ref sig .tc := ⟨.vmem, 36, rfl⟩
abbrev cc3_stg8_0 : Ref sig .tc := ⟨.vmem, 37, rfl⟩
abbrev cc3_stg9_0 : Ref sig .tc := ⟨.vmem, 38, rfl⟩
abbrev cc3_stg10_0 : Ref sig .tc := ⟨.vmem, 39, rfl⟩
abbrev cc3_stg11_0 : Ref sig .tc := ⟨.vmem, 40, rfl⟩
abbrev cc3_stg12_0 : Ref sig .tc := ⟨.vmem, 41, rfl⟩
abbrev cc3_stg13_0 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc1_sem0_0 : DmaSem sig := 10
abbrev cc1_sem0_1 : DmaSem sig := 11
abbrev cc1_sem1_0 : DmaSem sig := 12
abbrev cc1_sem1_1 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19
abbrev cc1_sem7_0 : DmaSem sig := 20
abbrev cc1_sem7_1 : DmaSem sig := 21
abbrev cc1_sem8_0 : DmaSem sig := 22
abbrev cc1_sem8_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem2_1 : DmaSem sig := 28
abbrev cc3_sem0_0 : DmaSem sig := 29
abbrev cc3_sem1_0 : DmaSem sig := 30
abbrev cc3_sem2_0 : DmaSem sig := 31
abbrev cc3_sem3_0 : DmaSem sig := 32
abbrev cc3_sem4_0 : DmaSem sig := 33
abbrev cc3_sem5_0 : DmaSem sig := 34
abbrev cc3_sem6_0 : DmaSem sig := 35
abbrev cc3_sem7_0 : DmaSem sig := 36
abbrev cc3_sem8_0 : DmaSem sig := 37
abbrev cc3_sem9_0 : DmaSem sig := 38
abbrev cc3_sem10_0 : DmaSem sig := 39
abbrev cc3_sem11_0 : DmaSem sig := 40
abbrev cc3_sem12_0 : DmaSem sig := 41
abbrev cc3_sem13_0 : DmaSem sig := 42

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3x60 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x60 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x1024x20 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1024x60 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![16], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_8 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x60 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1024x20 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S60x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S60x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S60x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S1x1024x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev stage1_7 : Fin 2 → Memref sig .tc .vmem S1x1x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x128 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev grid2 : Pipeline.Grid := ⟨1, ![16], ![false]⟩

def cc2_transform_0 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage2_0 : Fin 2 → Memref sig .tc .vmem S1x1024x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1x1x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_6 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_8 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_9 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_10 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_11 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_12 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_13 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S16x1024 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S1x1024 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1024x512 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x512 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 1 → Memref sig .tc .vmem S1x512 .f32 := fun | 0 => Memref.whole cc3_stg5_0 | ⟨_ + 1, h⟩ => absurd h (Nat.not_lt.2 (Nat.le_add_left _ _))
abbrev sem3_5 : Fin 1 → DmaSem sig := fun | 0 => cc3_sem5_0 | ⟨_ + 1, h⟩ => absurd h (Nat.not_lt.2 (Nat.le_add_left _ _))
abbrev reads3_5 : Fin grid3.rank → Bool := ![false]

abbrev stage3_6 : Fin 1 → Memref sig .tc .vmem S1x512 .f32 := fun | 0 => Memref.whole cc3_stg6_0 | ⟨_ + 1, h⟩ => absurd h (Nat.not_lt.2 (Nat.le_add_left _ _))
abbrev sem3_6 : Fin 1 → DmaSem sig := fun | 0 => cc3_sem6_0 | ⟨_ + 1, h⟩ => absurd h (Nat.not_lt.2 (Nat.le_add_left _ _))
abbrev reads3_6 : Fin grid3.rank → Bool := ![false]

abbrev stage3_7 : Fin 1 → Memref sig .tc .vmem S512x265 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev stage3_8 : Fin 1 → Memref sig .tc .vmem S1x265 .f32 := fun | 0 => Memref.whole cc3_stg8_0 | ⟨_ + 1, h⟩ => absurd h (Nat.not_lt.2 (Nat.le_add_left _ _))
abbrev sem3_8 : Fin 1 → DmaSem sig := fun | 0 => cc3_sem8_0 | ⟨_ + 1, h⟩ => absurd h (Nat.not_lt.2 (Nat.le_add_left _ _))
abbrev reads3_8 : Fin grid3.rank → Bool := ![false]

abbrev stage3_9 : Fin 1 → Memref sig .tc .vmem S1x265 .f32 := fun | 0 => Memref.whole cc3_stg9_0 | ⟨_ + 1, h⟩ => absurd h (Nat.not_lt.2 (Nat.le_add_left _ _))
abbrev sem3_9 : Fin 1 → DmaSem sig := fun | 0 => cc3_sem9_0 | ⟨_ + 1, h⟩ => absurd h (Nat.not_lt.2 (Nat.le_add_left _ _))
abbrev reads3_9 : Fin grid3.rank → Bool := ![false]

abbrev stage3_10 : Fin 1 → Memref sig .tc .vmem S1x265 .f32 := fun | 0 => Memref.whole cc3_stg10_0 | ⟨_ + 1, h⟩ => absurd h (Nat.not_lt.2 (Nat.le_add_left _ _))
abbrev sem3_10 : Fin 1 → DmaSem sig := fun | 0 => cc3_sem10_0 | ⟨_ + 1, h⟩ => absurd h (Nat.not_lt.2 (Nat.le_add_left _ _))
abbrev reads3_10 : Fin grid3.rank → Bool := ![false]

abbrev stage3_11 : Fin 1 → Memref sig .tc .vmem S265x40 .f32 := fun | 0 => Memref.whole cc3_stg11_0 | ⟨_ + 1, h⟩ => absurd h (Nat.not_lt.2 (Nat.le_add_left _ _))
abbrev sem3_11 : Fin 1 → DmaSem sig := fun | 0 => cc3_sem11_0 | ⟨_ + 1, h⟩ => absurd h (Nat.not_lt.2 (Nat.le_add_left _ _))
abbrev reads3_11 : Fin grid3.rank → Bool := ![false]

abbrev stage3_12 : Fin 1 → Memref sig .tc .vmem S1x40 .f32 := fun | 0 => Memref.whole cc3_stg12_0 | ⟨_ + 1, h⟩ => absurd h (Nat.not_lt.2 (Nat.le_add_left _ _))
abbrev sem3_12 : Fin 1 → DmaSem sig := fun | 0 => cc3_sem12_0 | ⟨_ + 1, h⟩ => absurd h (Nat.not_lt.2 (Nat.le_add_left _ _))
abbrev reads3_12 : Fin grid3.rank → Bool := ![false]

abbrev stage3_13 : Fin 1 → Memref sig .tc .vmem S16x40 .f32 := fun | 0 => Memref.whole cc3_stg13_0 | ⟨_ + 1, h⟩ => absurd h (Nat.not_lt.2 (Nat.le_add_left _ _))
abbrev sem3_13 : Fin 1 → DmaSem sig := fun | 0 => cc3_sem13_0 | ⟨_ + 1, h⟩ => absurd h (Nat.not_lt.2 (Nat.le_add_left _ _))
abbrev reads3_13 : Fin grid3.rank → Bool := ![false]
-- ==== ReferenceIdeal.lean ====
abbrev S16384x3 : Shape := ⟨2, ![16384, 3]⟩
abbrev S2x327680 : Shape := ⟨2, ![2, 327680]⟩
abbrev S16384 : Shape := ⟨1, ![16384]⟩
abbrev S3x60 : Shape := ⟨2, ![3, 60]⟩
abbrev S60 : Shape := ⟨1, ![60]⟩
abbrev S180x128 : Shape := ⟨2, ![180, 128]⟩
abbrev S128 : Shape := ⟨1, ![128]⟩
abbrev S128x1024 : Shape := ⟨2, ![128, 1024]⟩
abbrev S1024 : Shape := ⟨1, ![1024]⟩
abbrev S1024x512 : Shape := ⟨2, ![1024, 512]⟩
abbrev S512 : Shape := ⟨1, ![512]⟩
abbrev S512x265 : Shape := ⟨2, ![512, 265]⟩
abbrev S265 : Shape := ⟨1, ![265]⟩
abbrev S265x40 : Shape := ⟨2, ![265, 40]⟩
abbrev S40 : Shape := ⟨1, ![40]⟩
abbrev S16x1024x3 : Shape := ⟨3, ![16, 1024, 3]⟩
abbrev S_ : Shape := ⟨0, ![]⟩
abbrev S16x1024 : Shape := ⟨2, ![16, 1024]⟩
abbrev S16x1024x1 : Shape := ⟨3, ![16, 1024, 1]⟩
abbrev S16x1x1024 : Shape := ⟨3, ![16, 1, 1024]⟩
abbrev S16x1024x1024 : Shape := ⟨3, ![16, 1024, 1024]⟩
abbrev S1024x1024 : Shape := ⟨2, ![1024, 1024]⟩
abbrev S1x1024x1024 : Shape := ⟨3, ![1, 1024, 1024]⟩
abbrev S16x1024x20 : Shape := ⟨3, ![16, 1024, 20]⟩
abbrev S16 : Shape := ⟨1, ![16]⟩
abbrev S16x1x1 : Shape := ⟨3, ![16, 1, 1]⟩
abbrev S327680 : Shape := ⟨1, ![327680]⟩
abbrev S16384x20 : Shape := ⟨2, ![16384, 20]⟩
abbrev S327680x1 : Shape := ⟨2, ![327680, 1]⟩
abbrev S327680x3 : Shape := ⟨2, ![327680, 3]⟩
abbrev S327680x60 : Shape := ⟨2, ![327680, 60]⟩
abbrev S1x60 : Shape := ⟨2, ![1, 60]⟩
abbrev S16384x20x60 : Shape := ⟨3, ![16384, 20, 60]⟩
abbrev S16384x60 : Shape := ⟨2, ![16384, 60]⟩
abbrev S327680x180 : Shape := ⟨2, ![327680, 180]⟩
abbrev S327680x128 : Shape := ⟨2, ![327680, 128]⟩
abbrev S1x128 : Shape := ⟨2, ![1, 128]⟩
abbrev S16384x20x128 : Shape := ⟨3, ![16384, 20, 128]⟩
abbrev S16384x128 : Shape := ⟨2, ![16384, 128]⟩
abbrev S16384x1024 : Shape := ⟨2, ![16384, 1024]⟩
abbrev S1x1024 : Shape := ⟨2, ![1, 1024]⟩
abbrev S16x512 : Shape := ⟨2, ![16, 512]⟩
abbrev S1x512 : Shape := ⟨2, ![1, 512]⟩
abbrev S16x265 : Shape := ⟨2, ![16, 265]⟩
abbrev S1x265 : Shape := ⟨2, ![1, 265]⟩
abbrev S16x40 : Shape := ⟨2, ![16, 40]⟩
abbrev S1x40 : Shape := ⟨2, ![1, 40]⟩
abbrev S16x1 : Shape := ⟨2, ![16, 1]⟩

abbrev nBuf : Space → Nat
  | .hbm => 406
  | .vmem => 0
  | .smem => 0
  | _ => 0

abbrev hbmTy0_0 (i : Nat) : BufTy := match i % 128 with
  | 0 => ⟨S16384x3, .f32⟩
  | 1 => ⟨S2x327680, .i32⟩
  | 2 => ⟨S16384, .i32⟩
  | 3 => ⟨S3x60, .f32⟩
  | 4 => ⟨S60, .f32⟩
  | 5 => ⟨S60, .f32⟩
  | 6 => ⟨S60, .f32⟩
  | 7 => ⟨S180x128, .f32⟩
  | 8 => ⟨S128, .f32⟩
  | 9 => ⟨S128, .f32⟩
  | 10 => ⟨S128, .f32⟩
  | 11 => ⟨S128x1024, .f32⟩
  | 12 => ⟨S1024, .f32⟩
  | 13 => ⟨S1024, .f32⟩
  | 14 => ⟨S1024, .f32⟩
  | 15 => ⟨S1024x512, .f32⟩
  | 16 => ⟨S512, .f32⟩
  | 17 => ⟨S512, .f32⟩
  | 18 => ⟨S512, .f32⟩
  | 19 => ⟨S512x265, .f32⟩
  | 20 => ⟨S265, .f32⟩
  | 21 => ⟨S265, .f32⟩
  | 22 => ⟨S265, .f32⟩
  | 23 => ⟨S265x40, .f32⟩
  | 24 => ⟨S40, .f32⟩
  | 25 => ⟨S16x1024x3, .f32⟩
  | 26 => ⟨S16x1024x3, .f32⟩
  | 27 => ⟨S_, .f32⟩
  | 28 => ⟨S16x1024, .f32⟩
  | 29 => ⟨S16x1024x1, .f32⟩
  | 30 => ⟨S16x1x1024, .f32⟩
  | 31 => ⟨S16x1024x1024, .f32⟩
  | 32 => ⟨S16x1024x1024, .f32⟩
  | 33 => ⟨S16x1024x1024, .f32⟩
  | 34 => ⟨S16x1024x1024, .f32⟩
  | 35 => ⟨S_, .f32⟩
  | 36 => ⟨S16x1024x1024, .f32⟩
  | 37 => ⟨S16x1024x1024, .f32⟩
  | 38 => ⟨S16x1024x1024, .f32⟩
  | 39 => ⟨S1024x1024, .i32⟩
  | 40 => ⟨S1024x1024, .i32⟩
  | 41 => ⟨S_, .i32⟩
  | 42 => ⟨S1024x1024, .i32⟩
  | 43 => ⟨S1024x1024, .i32⟩
  | 44 => ⟨S1024x1024, .i1⟩
  | 45 => ⟨S1024x1024, .f32⟩
  | 46 => ⟨S1x1024x1024, .f32⟩
  | 47 => ⟨S_, .f32⟩
  | 48 => ⟨S1x1024x1024, .f32⟩
  | 49 => ⟨S1x1024x1024, .f32⟩
  | 50 => ⟨S16x1024x1024, .f32⟩
  | 51 => ⟨S16x1024x1024, .f32⟩
  | 52 => ⟨S16x1024x1024, .f32⟩
  | 53 => ⟨S16x1024x20, .f32⟩
  | 54 => ⟨S16x1024x20, .i32⟩
  | 55 => ⟨S16, .i32⟩
  | 56 => ⟨S_, .i32⟩
  | 57 => ⟨S16, .i32⟩
  | 58 => ⟨S16, .i32⟩
  | 59 => ⟨S16x1x1, .i32⟩
  | 60 => ⟨S16x1024x20, .i32⟩
  | 61 => ⟨S16x1024x20, .i32⟩
  | 62 => ⟨S327680, .i32⟩
  | 63 => ⟨S16384, .i32⟩
  | 64 => ⟨S16384x20, .i32⟩
  | 65 => ⟨S327680, .i32⟩
  | 66 => ⟨S_, .i32⟩
  | 67 => ⟨S327680, .i32⟩
  | 68 => ⟨S327680, .i1⟩
  | 69 => ⟨S_, .i32⟩
  | 70 => ⟨S327680, .i32⟩
  | 71 => ⟨S327680, .i32⟩
  | 72 => ⟨S327680, .i32⟩
  | 73 => ⟨S327680x1, .i32⟩
  | 74 => ⟨S327680x3, .f32⟩
  | 75 => ⟨S_, .i32⟩
  | 76 => ⟨S327680, .i32⟩
  | 77 => ⟨S327680, .i1⟩
  | 78 => ⟨S_, .i32⟩
  | 79 => ⟨S327680, .i32⟩
  | 80 => ⟨S327680, .i32⟩
  | 81 => ⟨S327680, .i32⟩
  | 82 => ⟨S327680x1, .i32⟩
  | 83 => ⟨S327680x3, .f32⟩
  | 84 => ⟨S327680x3, .f32⟩
  | 85 => ⟨S327680x60, .f32⟩
  | 86 => ⟨S1x60, .f32⟩
  | 87 => ⟨S327680x60, .f32⟩
  | 88 => ⟨S327680x60, .f32⟩
  | 89 => ⟨S_, .f32⟩
  | 90 => ⟨S327680x60, .f32⟩
  | 91 => ⟨S327680x60, .f32⟩
  | 92 => ⟨S16384x20x60, .f32⟩
  | 93 => ⟨S_, .f32⟩
  | 94 => ⟨S16384x60, .f32⟩
  | 95 => ⟨S_, .f32⟩
  | 96 => ⟨S60, .f32⟩
  | 97 => ⟨S_, .f32⟩
  | 98 => ⟨S60, .f32⟩
  | 99 => ⟨S60, .f32⟩
  | 100 => ⟨S_, .i32⟩
  | 101 => ⟨S_, .f32⟩
  | 102 => ⟨S60, .f32⟩
  | 103 => ⟨S1x60, .f32⟩
  | 104 => ⟨S_, .f32⟩
  | 105 => ⟨S1x60, .f32⟩
  | 106 => ⟨S1x60, .f32⟩
  | 107 => ⟨S16384x60, .f32⟩
  | 108 => ⟨S16384x60, .f32⟩
  | 109 => ⟨S16384x60, .f32⟩
  | 110 => ⟨S_, .f32⟩
  | 111 => ⟨S_, .f32⟩
  | 112 => ⟨S_, .f32⟩
  | 113 => ⟨S_, .f32⟩
  | 114 => ⟨S60, .f32⟩
  | 115 => ⟨S60, .f32⟩
  | 116 => ⟨S60, .f32⟩
  | 117 => ⟨S_, .f32⟩
  | 118 => ⟨S_, .i1⟩
  | 119 => ⟨S_, .f32⟩
  | 120 => ⟨S_, .f32⟩
  | 121 => ⟨S60, .f32⟩
  | 122 => ⟨S60, .f32⟩
  | 123 => ⟨S1x60, .f32⟩
  | 124 => ⟨S16384x60, .f32⟩
  | 125 => ⟨S16384x60, .f32⟩
  | 126 => ⟨S_, .f32⟩
  | 127 => ⟨S60, .f32⟩
  | _ => ⟨S16384x3, .f32⟩

abbrev hbmTy0_1 (i : Nat) : BufTy := match i % 128 with
  | 0 => ⟨S60, .f32⟩
  | 1 => ⟨S60, .f32⟩
  | 2 => ⟨S1x60, .f32⟩
  | 3 => ⟨S16384x60, .f32⟩
  | 4 => ⟨S16384x60, .f32⟩
  | 5 => ⟨S1x60, .f32⟩
  | 6 => ⟨S16384x60, .f32⟩
  | 7 => ⟨S16384x60, .f32⟩
  | 8 => ⟨S1x60, .f32⟩
  | 9 => ⟨S16384x60, .f32⟩
  | 10 => ⟨S16384x60, .f32⟩
  | 11 => ⟨S_, .i32⟩
  | 12 => ⟨S327680, .i32⟩
  | 13 => ⟨S327680, .i1⟩
  | 14 => ⟨S_, .i32⟩
  | 15 => ⟨S327680, .i32⟩
  | 16 => ⟨S327680, .i32⟩
  | 17 => ⟨S327680, .i32⟩
  | 18 => ⟨S327680x1, .i32⟩
  | 19 => ⟨S327680x60, .f32⟩
  | 20 => ⟨S_, .i32⟩
  | 21 => ⟨S327680, .i32⟩
  | 22 => ⟨S327680, .i1⟩
  | 23 => ⟨S_, .i32⟩
  | 24 => ⟨S327680, .i32⟩
  | 25 => ⟨S327680, .i32⟩
  | 26 => ⟨S327680, .i32⟩
  | 27 => ⟨S327680x1, .i32⟩
  | 28 => ⟨S327680x60, .f32⟩
  | 29 => ⟨S_, .i32⟩
  | 30 => ⟨S327680, .i32⟩
  | 31 => ⟨S327680, .i1⟩
  | 32 => ⟨S_, .i32⟩
  | 33 => ⟨S327680, .i32⟩
  | 34 => ⟨S327680, .i32⟩
  | 35 => ⟨S327680, .i32⟩
  | 36 => ⟨S327680x1, .i32⟩
  | 37 => ⟨S327680x60, .f32⟩
  | 38 => ⟨S327680x60, .f32⟩
  | 39 => ⟨S_, .i32⟩
  | 40 => ⟨S327680, .i32⟩
  | 41 => ⟨S327680, .i1⟩
  | 42 => ⟨S_, .i32⟩
  | 43 => ⟨S327680, .i32⟩
  | 44 => ⟨S327680, .i32⟩
  | 45 => ⟨S327680, .i32⟩
  | 46 => ⟨S327680x1, .i32⟩
  | 47 => ⟨S327680x60, .f32⟩
  | 48 => ⟨S327680x180, .f32⟩
  | 49 => ⟨S327680x128, .f32⟩
  | 50 => ⟨S1x128, .f32⟩
  | 51 => ⟨S327680x128, .f32⟩
  | 52 => ⟨S327680x128, .f32⟩
  | 53 => ⟨S_, .f32⟩
  | 54 => ⟨S327680x128, .f32⟩
  | 55 => ⟨S327680x128, .f32⟩
  | 56 => ⟨S_, .f32⟩
  | 57 => ⟨S128, .f32⟩
  | 58 => ⟨S_, .f32⟩
  | 59 => ⟨S128, .f32⟩
  | 60 => ⟨S128, .f32⟩
  | 61 => ⟨S_, .i32⟩
  | 62 => ⟨S_, .f32⟩
  | 63 => ⟨S128, .f32⟩
  | 64 => ⟨S1x128, .f32⟩
  | 65 => ⟨S_, .f32⟩
  | 66 => ⟨S1x128, .f32⟩
  | 67 => ⟨S1x128, .f32⟩
  | 68 => ⟨S327680x128, .f32⟩
  | 69 => ⟨S327680x128, .f32⟩
  | 70 => ⟨S327680x128, .f32⟩
  | 71 => ⟨S_, .f32⟩
  | 72 => ⟨S_, .f32⟩
  | 73 => ⟨S_, .f32⟩
  | 74 => ⟨S_, .f32⟩
  | 75 => ⟨S128, .f32⟩
  | 76 => ⟨S128, .f32⟩
  | 77 => ⟨S128, .f32⟩
  | 78 => ⟨S_, .f32⟩
  | 79 => ⟨S_, .i1⟩
  | 80 => ⟨S_, .f32⟩
  | 81 => ⟨S_, .f32⟩
  | 82 => ⟨S128, .f32⟩
  | 83 => ⟨S128, .f32⟩
  | 84 => ⟨S1x128, .f32⟩
  | 85 => ⟨S327680x128, .f32⟩
  | 86 => ⟨S327680x128, .f32⟩
  | 87 => ⟨S_, .f32⟩
  | 88 => ⟨S128, .f32⟩
  | 89 => ⟨S128, .f32⟩
  | 90 => ⟨S128, .f32⟩
  | 91 => ⟨S1x128, .f32⟩
  | 92 => ⟨S327680x128, .f32⟩
  | 93 => ⟨S327680x128, .f32⟩
  | 94 => ⟨S1x128, .f32⟩
  | 95 => ⟨S327680x128, .f32⟩
  | 96 => ⟨S327680x128, .f32⟩
  | 97 => ⟨S1x128, .f32⟩
  | 98 => ⟨S327680x128, .f32⟩
  | 99 => ⟨S327680x128, .f32⟩
  | 100 => ⟨S16384x20x128, .f32⟩
  | 101 => ⟨S_, .f32⟩
  | 102 => ⟨S16384x128, .f32⟩
  | 103 => ⟨S16384x1024, .f32⟩
  | 104 => ⟨S1x1024, .f32⟩
  | 105 => ⟨S16384x1024, .f32⟩
  | 106 => ⟨S16384x1024, .f32⟩
  | 107 => ⟨S16x1024x1024, .f32⟩
  | 108 => ⟨S_, .f32⟩
  | 109 => ⟨S16x1024, .f32⟩
  | 110 => ⟨S_, .f32⟩
  | 111 => ⟨S16x1024, .f32⟩
  | 112 => ⟨S16x1024, .f32⟩
  | 113 => ⟨S_, .f32⟩
  | 114 => ⟨S1024, .f32⟩
  | 115 => ⟨S_, .f32⟩
  | 116 => ⟨S1024, .f32⟩
  | 117 => ⟨S1024, .f32⟩
  | 118 => ⟨S_, .i32⟩
  | 119 => ⟨S_, .f32⟩
  | 120 => ⟨S1024, .f32⟩
  | 121 => ⟨S1x1024, .f32⟩
  | 122 => ⟨S_, .f32⟩
  | 123 => ⟨S1x1024, .f32⟩
  | 124 => ⟨S1x1024, .f32⟩
  | 125 => ⟨S16x1024, .f32⟩
  | 126 => ⟨S16x1024, .f32⟩
  | 127 => ⟨S16x1024, .f32⟩
  | _ => ⟨S16384x3, .f32⟩

abbrev hbmTy0_2 (i : Nat) : BufTy := match i % 128 with
  | 0 => ⟨S_, .f32⟩
  | 1 => ⟨S_, .f32⟩
  | 2 => ⟨S_, .f32⟩
  | 3 => ⟨S_, .f32⟩
  | 4 => ⟨S1024, .f32⟩
  | 5 => ⟨S1024, .f32⟩
  | 6 => ⟨S1024, .f32⟩
  | 7 => ⟨S_, .f32⟩
  | 8 => ⟨S_, .i1⟩
  | 9 => ⟨S_, .f32⟩
  | 10 => ⟨S_, .f32⟩
  | 11 => ⟨S1024, .f32⟩
  | 12 => ⟨S1024, .f32⟩
  | 13 => ⟨S1x1024, .f32⟩
  | 14 => ⟨S16x1024, .f32⟩
  | 15 => ⟨S16x1024, .f32⟩
  | 16 => ⟨S_, .f32⟩
  | 17 => ⟨S1024, .f32⟩
  | 18 => ⟨S1024, .f32⟩
  | 19 => ⟨S1024, .f32⟩
  | 20 => ⟨S1x1024, .f32⟩
  | 21 => ⟨S16x1024, .f32⟩
  | 22 => ⟨S16x1024, .f32⟩
  | 23 => ⟨S1x1024, .f32⟩
  | 24 => ⟨S16x1024, .f32⟩
  | 25 => ⟨S16x1024, .f32⟩
  | 26 => ⟨S1x1024, .f32⟩
  | 27 => ⟨S16x1024, .f32⟩
  | 28 => ⟨S16x1024, .f32⟩
  | 29 => ⟨S16x512, .f32⟩
  | 30 => ⟨S1x512, .f32⟩
  | 31 => ⟨S16x512, .f32⟩
  | 32 => ⟨S16x512, .f32⟩
  | 33 => ⟨S_, .f32⟩
  | 34 => ⟨S16x512, .f32⟩
  | 35 => ⟨S16x512, .f32⟩
  | 36 => ⟨S_, .f32⟩
  | 37 => ⟨S512, .f32⟩
  | 38 => ⟨S_, .f32⟩
  | 39 => ⟨S512, .f32⟩
  | 40 => ⟨S512, .f32⟩
  | 41 => ⟨S_, .i32⟩
  | 42 => ⟨S_, .f32⟩
  | 43 => ⟨S512, .f32⟩
  | 44 => ⟨S1x512, .f32⟩
  | 45 => ⟨S_, .f32⟩
  | 46 => ⟨S1x512, .f32⟩
  | 47 => ⟨S1x512, .f32⟩
  | 48 => ⟨S16x512, .f32⟩
  | 49 => ⟨S16x512, .f32⟩
  | 50 => ⟨S16x512, .f32⟩
  | 51 => ⟨S_, .f32⟩
  | 52 => ⟨S_, .f32⟩
  | 53 => ⟨S_, .f32⟩
  | 54 => ⟨S_, .f32⟩
  | 55 => ⟨S512, .f32⟩
  | 56 => ⟨S512, .f32⟩
  | 57 => ⟨S512, .f32⟩
  | 58 => ⟨S_, .f32⟩
  | 59 => ⟨S_, .i1⟩
  | 60 => ⟨S_, .f32⟩
  | 61 => ⟨S_, .f32⟩
  | 62 => ⟨S512, .f32⟩
  | 63 => ⟨S512, .f32⟩
  | 64 => ⟨S1x512, .f32⟩
  | 65 => ⟨S16x512, .f32⟩
  | 66 => ⟨S16x512, .f32⟩
  | 67 => ⟨S_, .f32⟩
  | 68 => ⟨S512, .f32⟩
  | 69 => ⟨S512, .f32⟩
  | 70 => ⟨S512, .f32⟩
  | 71 => ⟨S1x512, .f32⟩
  | 72 => ⟨S16x512, .f32⟩
  | 73 => ⟨S16x512, .f32⟩
  | 74 => ⟨S1x512, .f32⟩
  | 75 => ⟨S16x512, .f32⟩
  | 76 => ⟨S16x512, .f32⟩
  | 77 => ⟨S1x512, .f32⟩
  | 78 => ⟨S16x512, .f32⟩
  | 79 => ⟨S16x512, .f32⟩
  | 80 => ⟨S16x265, .f32⟩
  | 81 => ⟨S1x265, .f32⟩
  | 82 => ⟨S16x265, .f32⟩
  | 83 => ⟨S16x265, .f32⟩
  | 84 => ⟨S_, .f32⟩
  | 85 => ⟨S16x265, .f32⟩
  | 86 => ⟨S16x265, .f32⟩
  | 87 => ⟨S_, .f32⟩
  | 88 => ⟨S265, .f32⟩
  | 89 => ⟨S_, .f32⟩
  | 90 => ⟨S265, .f32⟩
  | 91 => ⟨S265, .f32⟩
  | 92 => ⟨S_, .i32⟩
  | 93 => ⟨S_, .f32⟩
  | 94 => ⟨S265, .f32⟩
  | 95 => ⟨S1x265, .f32⟩
  | 96 => ⟨S_, .f32⟩
  | 97 => ⟨S1x265, .f32⟩
  | 98 => ⟨S1x265, .f32⟩
  | 99 => ⟨S16x265, .f32⟩
  | 100 => ⟨S16x265, .f32⟩
  | 101 => ⟨S16x265, .f32⟩
  | 102 => ⟨S_, .f32⟩
  | 103 => ⟨S_, .f32⟩
  | 104 => ⟨S_, .f32⟩
  | 105 => ⟨S_, .f32⟩
  | 106 => ⟨S265, .f32⟩
  | 107 => ⟨S265, .f32⟩
  | 108 => ⟨S265, .f32⟩
  | 109 => ⟨S_, .f32⟩
  | 110 => ⟨S_, .i1⟩
  | 111 => ⟨S_, .f32⟩
  | 112 => ⟨S_, .f32⟩
  | 113 => ⟨S265, .f32⟩
  | 114 => ⟨S265, .f32⟩
  | 115 => ⟨S1x265, .f32⟩
  | 116 => ⟨S16x265, .f32⟩
  | 117 => ⟨S16x265, .f32⟩
  | 118 => ⟨S_, .f32⟩
  | 119 => ⟨S265, .f32⟩
  | 120 => ⟨S265, .f32⟩
  | 121 => ⟨S265, .f32⟩
  | 122 => ⟨S1x265, .f32⟩
  | 123 => ⟨S16x265, .f32⟩
  | 124 => ⟨S16x265, .f32⟩
  | 125 => ⟨S1x265, .f32⟩
  | 126 => ⟨S16x265, .f32⟩
  | 127 => ⟨S16x265, .f32⟩
  | _ => ⟨S16384x3, .f32⟩

abbrev hbmTy0_3 (i : Nat) : BufTy := match i % 128 with
  | 0 => ⟨S1x265, .f32⟩
  | 1 => ⟨S16x265, .f32⟩
  | 2 => ⟨S16x265, .f32⟩
  | 3 => ⟨S16x40, .f32⟩
  | 4 => ⟨S1x40, .f32⟩
  | 5 => ⟨S16x40, .f32⟩
  | 6 => ⟨S16x40, .f32⟩
  | 7 => ⟨S_, .f32⟩
  | 8 => ⟨S16, .f32⟩
  | 9 => ⟨S_, .f32⟩
  | 10 => ⟨S16, .f32⟩
  | 11 => ⟨S16, .f32⟩
  | 12 => ⟨S16x1, .f32⟩
  | 13 => ⟨S16x40, .f32⟩
  | 14 => ⟨S16x40, .f32⟩
  | 15 => ⟨S16x40, .f32⟩
  | 16 => ⟨S_, .f32⟩
  | 17 => ⟨S16, .f32⟩
  | 18 => ⟨S16x1, .f32⟩
  | 19 => ⟨S16x1, .f32⟩
  | 20 => ⟨S16x40, .f32⟩
  | 21 => ⟨S16x40, .f32⟩
  | _ => ⟨S16384x3, .f32⟩

abbrev hbmTy (i : Nat) : BufTy := match i / 128 with
  | 0 => hbmTy0_0 i
  | 1 => hbmTy0_1 i
  | 2 => hbmTy0_2 i
  | 3 => hbmTy0_3 i
  | _ => ⟨S16384x3, .f32⟩

abbrev bufTy : (tb : Table) → Fin (tcTables nBuf tb) → BufTy
  | .hbm, ⟨i, _⟩ => hbmTy i
  | _, _ => ⟨S16384x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_v0 : Ref sig .tc := ⟨.hbm, 25, rfl⟩
abbrev main_v1 : Ref sig .tc := ⟨.hbm, 26, rfl⟩
abbrev main_cst : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_cst_0 : Ref sig .tc := ⟨.hbm, 35, rfl⟩
abbrev main_v9 : Ref sig .tc := ⟨.hbm, 36, rfl⟩
abbrev main_v10 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_c : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_cst_1 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_values : Ref sig .tc := ⟨.hbm, 53, rfl⟩
abbrev main_indices : Ref sig .tc := ⟨.hbm, 54, rfl⟩
abbrev main_v24 : Ref sig .tc := ⟨.hbm, 55, rfl⟩
abbrev main_c_2 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_c_3 : Ref sig .tc := ⟨.hbm, 66, rfl⟩
abbrev main_v34 : Ref sig .tc := ⟨.hbm, 67, rfl⟩
abbrev main_v35 : Ref sig .tc := ⟨.hbm, 68, rfl⟩
abbrev main_c_4 : Ref sig .tc := ⟨.hbm, 69, rfl⟩
abbrev main_v36 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_c_5 : Ref sig .tc := ⟨.hbm, 75, rfl⟩
abbrev main_v41 : Ref sig .tc := ⟨.hbm, 76, rfl⟩
abbrev main_v42 : Ref sig .tc := ⟨.hbm, 77, rfl⟩
abbrev main_c_6 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_call0_cst : Ref sig .tc := ⟨.hbm, 89, rfl⟩
abbrev main_call0_v0 : Ref sig .tc := ⟨.hbm, 90, rfl⟩
abbrev main_v53 : Ref sig .tc := ⟨.hbm, 91, rfl⟩
abbrev main_v54 : Ref sig .tc := ⟨.hbm, 92, rfl⟩
abbrev main_cst_7 : Ref sig .tc := ⟨.hbm, 93, rfl⟩
abbrev main_v55 : Ref sig .tc := ⟨.hbm, 94, rfl⟩
abbrev main_cst_8 : Ref sig .tc := ⟨.hbm, 95, rfl⟩
abbrev main_v56 : Ref sig .tc := ⟨.hbm, 96, rfl⟩
abbrev main_cst_9 : Ref sig .tc := ⟨.hbm, 97, rfl⟩
abbrev main_v57 : Ref sig .tc := ⟨.hbm, 98, rfl⟩
abbrev main_v58 : Ref sig .tc := ⟨.hbm, 99, rfl⟩
abbrev main_c_10 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_cst_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_cst_1 : Ref sig .tc := ⟨.hbm, 111, rfl⟩
abbrev main_call1_v8 : Ref sig .tc := ⟨.hbm, 112, rfl⟩
abbrev main_call1_cst_2 : Ref sig .tc := ⟨.hbm, 113, rfl⟩
abbrev main_call1_v9 : Ref sig .tc := ⟨.hbm, 114, rfl⟩
abbrev main_call1_v10 : Ref sig .tc := ⟨.hbm, 115, rfl⟩
abbrev main_call1_v11 : Ref sig .tc := ⟨.hbm, 116, rfl⟩
abbrev main_call1_cst_3 : Ref sig .tc := ⟨.hbm, 117, rfl⟩
abbrev main_call1_v12 : Ref sig .tc := ⟨.hbm, 118, rfl⟩
abbrev main_call1_cst_4 : Ref sig .tc := ⟨.hbm, 119, rfl⟩
abbrev main_call1_call0_v0 : Ref sig .tc := ⟨.hbm, 120, rfl⟩
abbrev main_call1_call0_v1 : Ref sig .tc := ⟨.hbm, 121, rfl⟩
abbrev main_v59 : Ref sig .tc := ⟨.hbm, 122, rfl⟩
abbrev main_v60 : Ref sig .tc := ⟨.hbm, 123, rfl⟩
abbrev main_v61 : Ref sig .tc := ⟨.hbm, 124, rfl⟩
abbrev main_v62 : Ref sig .tc := ⟨.hbm, 125, rfl⟩
abbrev main_cst_11 : Ref sig .tc := ⟨.hbm, 126, rfl⟩
abbrev main_v63 : Ref sig .tc := ⟨.hbm, 127, rfl⟩
abbrev main_v64 : Ref sig .tc := ⟨.hbm, 128, rfl⟩
abbrev main_v65 : Ref sig .tc := ⟨.hbm, 129, rfl⟩
abbrev main_v66 : Ref sig .tc := ⟨.hbm, 130, rfl⟩
abbrev main_v67 : Ref sig .tc := ⟨.hbm, 131, rfl⟩
abbrev main_v68 : Ref sig .tc := ⟨.hbm, 132, rfl⟩
abbrev main_v69 : Ref sig .tc := ⟨.hbm, 133, rfl⟩
abbrev main_v70 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_c_12 : Ref sig .tc := ⟨.hbm, 139, rfl⟩
abbrev main_v75 : Ref sig .tc := ⟨.hbm, 140, rfl⟩
abbrev main_v76 : Ref sig .tc := ⟨.hbm, 141, rfl⟩
abbrev main_c_13 : Ref sig .tc := ⟨.hbm, 142, rfl⟩
abbrev main_v77 : Ref sig .tc := ⟨.hbm, 143, rfl⟩
abbrev main_v78 : Ref sig .tc := ⟨.hbm, 144, rfl⟩
abbrev main_v79 : Ref sig .tc := ⟨.hbm, 145, rfl⟩
abbrev main_v80 : Ref sig .tc := ⟨.hbm, 146, rfl⟩
abbrev main_v81 : Ref sig .tc := ⟨.hbm, 147, rfl⟩
abbrev main_c_14 : Ref sig .tc := ⟨.hbm, 148, rfl⟩
abbrev main_v82 : Ref sig .tc := ⟨.hbm, 149, rfl⟩
abbrev main_v83 : Ref sig .tc := ⟨.hbm, 150, rfl⟩
abbrev main_c_15 : Ref sig .tc := ⟨.hbm, 151, rfl⟩
abbrev main_v84 : Ref sig .tc := ⟨.hbm, 152, rfl⟩
abbrev main_v85 : Ref sig .tc := ⟨.hbm, 153, rfl⟩
abbrev main_v86 : Ref sig .tc := ⟨.hbm, 154, rfl⟩
abbrev main_v87 : Ref sig .tc := ⟨.hbm, 155, rfl⟩
abbrev main_v88 : Ref sig .tc := ⟨.hbm, 156, rfl⟩
abbrev main_c_16 : Ref sig .tc := ⟨.hbm, 157, rfl⟩
abbrev main_v89 : Ref sig .tc := ⟨.hbm, 158, rfl⟩
abbrev main_v90 : Ref sig .tc := ⟨.hbm, 159, rfl⟩
abbrev main_c_17 : Ref sig .tc := ⟨.hbm, 160, rfl⟩
abbrev main_v91 : Ref sig .tc := ⟨.hbm, 161, rfl⟩
abbrev main_v92 : Ref sig .tc := ⟨.hbm, 162, rfl⟩
abbrev main_v93 : Ref sig .tc := ⟨.hbm, 163, rfl⟩
abbrev main_v94 : Ref sig .tc := ⟨.hbm, 164, rfl⟩
abbrev main_v95 : Ref sig .tc := ⟨.hbm, 165, rfl⟩
abbrev main_v96 : Ref sig .tc := ⟨.hbm, 166, rfl⟩
abbrev main_c_18 : Ref sig .tc := ⟨.hbm, 167, rfl⟩
abbrev main_v97 : Ref sig .tc := ⟨.hbm, 168, rfl⟩
abbrev main_v98 : Ref sig .tc := ⟨.hbm, 169, rfl⟩
abbrev main_c_19 : Ref sig .tc := ⟨.hbm, 170, rfl⟩
abbrev main_v99 : Ref sig .tc := ⟨.hbm, 171, rfl⟩
abbrev main_v100 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_call2_cst : Ref sig .tc := ⟨.hbm, 181, rfl⟩
abbrev main_call2_v0 : Ref sig .tc := ⟨.hbm, 182, rfl⟩
abbrev main_v109 : Ref sig .tc := ⟨.hbm, 183, rfl⟩
abbrev main_cst_20 : Ref sig .tc := ⟨.hbm, 184, rfl⟩
abbrev main_v110 : Ref sig .tc := ⟨.hbm, 185, rfl⟩
abbrev main_cst_21 : Ref sig .tc := ⟨.hbm, 186, rfl⟩
abbrev main_v111 : Ref sig .tc := ⟨.hbm, 187, rfl⟩
abbrev main_v112 : Ref sig .tc := ⟨.hbm, 188, rfl⟩
abbrev main_c_22 : Ref sig .tc := ⟨.hbm, 189, rfl⟩
abbrev main_call3_cst : Ref sig .tc := ⟨.hbm, 190, rfl⟩
abbrev main_call3_v0 : Ref sig .tc := ⟨.hbm, 191, rfl⟩
abbrev main_call3_v1 : Ref sig .tc := ⟨.hbm, 192, rfl⟩
abbrev main_call3_cst_0 : Ref sig .tc := ⟨.hbm, 193, rfl⟩
abbrev main_call3_v2 : Ref sig .tc := ⟨.hbm, 194, rfl⟩
abbrev main_call3_v3 : Ref sig .tc := ⟨.hbm, 195, rfl⟩
abbrev main_call3_v4 : Ref sig .tc := ⟨.hbm, 196, rfl⟩
abbrev main_call3_v5 : Ref sig .tc := ⟨.hbm, 197, rfl⟩
abbrev main_call3_v6 : Ref sig .tc := ⟨.hbm, 198, rfl⟩
abbrev main_call3_v7 : Ref sig .tc := ⟨.hbm, 199, rfl⟩
abbrev main_call3_cst_1 : Ref sig .tc := ⟨.hbm, 200, rfl⟩
abbrev main_call3_v8 : Ref sig .tc := ⟨.hbm, 201, rfl⟩
abbrev main_call3_cst_2 : Ref sig .tc := ⟨.hbm, 202, rfl⟩
abbrev main_call3_v9 : Ref sig .tc := ⟨.hbm, 203, rfl⟩
abbrev main_call3_v10 : Ref sig .tc := ⟨.hbm, 204, rfl⟩
abbrev main_call3_v11 : Ref sig .tc := ⟨.hbm, 205, rfl⟩
abbrev main_call3_cst_3 : Ref sig .tc := ⟨.hbm, 206, rfl⟩
abbrev main_call3_v12 : Ref sig .tc := ⟨.hbm, 207, rfl⟩
abbrev main_call3_cst_4 : Ref sig .tc := ⟨.hbm, 208, rfl⟩
abbrev main_call3_call0_v0 : Ref sig .tc := ⟨.hbm, 209, rfl⟩
abbrev main_call3_call0_v1 : Ref sig .tc := ⟨.hbm, 210, rfl⟩
abbrev main_v113 : Ref sig .tc := ⟨.hbm, 211, rfl⟩
abbrev main_v114 : Ref sig .tc := ⟨.hbm, 212, rfl⟩
abbrev main_v115 : Ref sig .tc := ⟨.hbm, 213, rfl⟩
abbrev main_v116 : Ref sig .tc := ⟨.hbm, 214, rfl⟩
abbrev main_cst_23 : Ref sig .tc := ⟨.hbm, 215, rfl⟩
abbrev main_v117 : Ref sig .tc := ⟨.hbm, 216, rfl⟩
abbrev main_v118 : Ref sig .tc := ⟨.hbm, 217, rfl⟩
abbrev main_v119 : Ref sig .tc := ⟨.hbm, 218, rfl⟩
abbrev main_v120 : Ref sig .tc := ⟨.hbm, 219, rfl⟩
abbrev main_v121 : Ref sig .tc := ⟨.hbm, 220, rfl⟩
abbrev main_v122 : Ref sig .tc := ⟨.hbm, 221, rfl⟩
abbrev main_v123 : Ref sig .tc := ⟨.hbm, 222, rfl⟩
abbrev main_v124 : Ref sig .tc := ⟨.hbm, 223, rfl⟩
abbrev main_v125 : Ref sig .tc := ⟨.hbm, 224, rfl⟩
abbrev main_v126 : Ref sig .tc := ⟨.hbm, 225, rfl⟩
abbrev main_v127 : Ref sig .tc := ⟨.hbm, 226, rfl⟩
abbrev main_v128 : Ref sig .tc := ⟨.hbm, 227, rfl⟩
abbrev main_v129 : Ref sig .tc := ⟨.hbm, 228, rfl⟩
abbrev main_cst_24 : Ref sig .tc := ⟨.hbm, 229, rfl⟩
abbrev main_v130 : Ref sig .tc := ⟨.hbm, 230, rfl⟩
abbrev main_v131 : Ref sig .tc := ⟨.hbm, 231, rfl⟩
abbrev main_v132 : Ref sig .tc := ⟨.hbm, 232, rfl⟩
abbrev main_v133 : Ref sig .tc := ⟨.hbm, 233, rfl⟩
abbrev main_v134 : Ref sig .tc := ⟨.hbm, 234, rfl⟩
abbrev main_v135 : Ref sig .tc := ⟨.hbm, 235, rfl⟩
abbrev main_cst_25 : Ref sig .tc := ⟨.hbm, 236, rfl⟩
abbrev main_v136 : Ref sig .tc := ⟨.hbm, 237, rfl⟩
abbrev main_call4_cst : Ref sig .tc := ⟨.hbm, 238, rfl⟩
abbrev main_call4_v0 : Ref sig .tc := ⟨.hbm, 239, rfl⟩
abbrev main_v137 : Ref sig .tc := ⟨.hbm, 240, rfl⟩
abbrev main_cst_26 : Ref sig .tc := ⟨.hbm, 241, rfl⟩
abbrev main_v138 : Ref sig .tc := ⟨.hbm, 242, rfl⟩
abbrev main_cst_27 : Ref sig .tc := ⟨.hbm, 243, rfl⟩
abbrev main_v139 : Ref sig .tc := ⟨.hbm, 244, rfl⟩
abbrev main_v140 : Ref sig .tc := ⟨.hbm, 245, rfl⟩
abbrev main_c_28 : Ref sig .tc := ⟨.hbm, 246, rfl⟩
abbrev main_call5_cst : Ref sig .tc := ⟨.hbm, 247, rfl⟩
abbrev main_call5_v0 : Ref sig .tc := ⟨.hbm, 248, rfl⟩
abbrev main_call5_v1 : Ref sig .tc := ⟨.hbm, 249, rfl⟩
abbrev main_call5_cst_0 : Ref sig .tc := ⟨.hbm, 250, rfl⟩
abbrev main_call5_v2 : Ref sig .tc := ⟨.hbm, 251, rfl⟩
abbrev main_call5_v3 : Ref sig .tc := ⟨.hbm, 252, rfl⟩
abbrev main_call5_v4 : Ref sig .tc := ⟨.hbm, 253, rfl⟩
abbrev main_call5_v5 : Ref sig .tc := ⟨.hbm, 254, rfl⟩
abbrev main_call5_v6 : Ref sig .tc := ⟨.hbm, 255, rfl⟩
abbrev main_call5_v7 : Ref sig .tc := ⟨.hbm, 256, rfl⟩
abbrev main_call5_cst_1 : Ref sig .tc := ⟨.hbm, 257, rfl⟩
abbrev main_call5_v8 : Ref sig .tc := ⟨.hbm, 258, rfl⟩
abbrev main_call5_cst_2 : Ref sig .tc := ⟨.hbm, 259, rfl⟩
abbrev main_call5_v9 : Ref sig .tc := ⟨.hbm, 260, rfl⟩
abbrev main_call5_v10 : Ref sig .tc := ⟨.hbm, 261, rfl⟩
abbrev main_call5_v11 : Ref sig .tc := ⟨.hbm, 262, rfl⟩
abbrev main_call5_cst_3 : Ref sig .tc := ⟨.hbm, 263, rfl⟩
abbrev main_call5_v12 : Ref sig .tc := ⟨.hbm, 264, rfl⟩
abbrev main_call5_cst_4 : Ref sig .tc := ⟨.hbm, 265, rfl⟩
abbrev main_call5_call0_v0 : Ref sig .tc := ⟨.hbm, 266, rfl⟩
abbrev main_call5_call0_v1 : Ref sig .tc := ⟨.hbm, 267, rfl⟩
abbrev main_v141 : Ref sig .tc := ⟨.hbm, 268, rfl⟩
abbrev main_v142 : Ref sig .tc := ⟨.hbm, 269, rfl⟩
abbrev main_v143 : Ref sig .tc := ⟨.hbm, 270, rfl⟩
abbrev main_v144 : Ref sig .tc := ⟨.hbm, 271, rfl⟩
abbrev main_cst_29 : Ref sig .tc := ⟨.hbm, 272, rfl⟩
abbrev main_v145 : Ref sig .tc := ⟨.hbm, 273, rfl⟩
abbrev main_v146 : Ref sig .tc := ⟨.hbm, 274, rfl⟩
abbrev main_v147 : Ref sig .tc := ⟨.hbm, 275, rfl⟩
abbrev main_v148 : Ref sig .tc := ⟨.hbm, 276, rfl⟩
abbrev main_v149 : Ref sig .tc := ⟨.hbm, 277, rfl⟩
abbrev main_v150 : Ref sig .tc := ⟨.hbm, 278, rfl⟩
abbrev main_v151 : Ref sig .tc := ⟨.hbm, 279, rfl⟩
abbrev main_v152 : Ref sig .tc := ⟨.hbm, 280, rfl⟩
abbrev main_v153 : Ref sig .tc := ⟨.hbm, 281, rfl⟩
abbrev main_v154 : Ref sig .tc := ⟨.hbm, 282, rfl⟩
abbrev main_v155 : Ref sig .tc := ⟨.hbm, 283, rfl⟩
abbrev main_v156 : Ref sig .tc := ⟨.hbm, 284, rfl⟩
abbrev main_v157 : Ref sig .tc := ⟨.hbm, 285, rfl⟩
abbrev main_v158 : Ref sig .tc := ⟨.hbm, 286, rfl⟩
abbrev main_v159 : Ref sig .tc := ⟨.hbm, 287, rfl⟩
abbrev main_v160 : Ref sig .tc := ⟨.hbm, 288, rfl⟩
abbrev main_call6_cst : Ref sig .tc := ⟨.hbm, 289, rfl⟩
abbrev main_call6_v0 : Ref sig .tc := ⟨.hbm, 290, rfl⟩
abbrev main_v161 : Ref sig .tc := ⟨.hbm, 291, rfl⟩
abbrev main_cst_30 : Ref sig .tc := ⟨.hbm, 292, rfl⟩
abbrev main_v162 : Ref sig .tc := ⟨.hbm, 293, rfl⟩
abbrev main_cst_31 : Ref sig .tc := ⟨.hbm, 294, rfl⟩
abbrev main_v163 : Ref sig .tc := ⟨.hbm, 295, rfl⟩
abbrev main_v164 : Ref sig .tc := ⟨.hbm, 296, rfl⟩
abbrev main_c_32 : Ref sig .tc := ⟨.hbm, 297, rfl⟩
abbrev main_call7_cst : Ref sig .tc := ⟨.hbm, 298, rfl⟩
abbrev main_call7_v0 : Ref sig .tc := ⟨.hbm, 299, rfl⟩
abbrev main_call7_v1 : Ref sig .tc := ⟨.hbm, 300, rfl⟩
abbrev main_call7_cst_0 : Ref sig .tc := ⟨.hbm, 301, rfl⟩
abbrev main_call7_v2 : Ref sig .tc := ⟨.hbm, 302, rfl⟩
abbrev main_call7_v3 : Ref sig .tc := ⟨.hbm, 303, rfl⟩
abbrev main_call7_v4 : Ref sig .tc := ⟨.hbm, 304, rfl⟩
abbrev main_call7_v5 : Ref sig .tc := ⟨.hbm, 305, rfl⟩
abbrev main_call7_v6 : Ref sig .tc := ⟨.hbm, 306, rfl⟩
abbrev main_call7_v7 : Ref sig .tc := ⟨.hbm, 307, rfl⟩
abbrev main_call7_cst_1 : Ref sig .tc := ⟨.hbm, 308, rfl⟩
abbrev main_call7_v8 : Ref sig .tc := ⟨.hbm, 309, rfl⟩
abbrev main_call7_cst_2 : Ref sig .tc := ⟨.hbm, 310, rfl⟩
abbrev main_call7_v9 : Ref sig .tc := ⟨.hbm, 311, rfl⟩
abbrev main_call7_v10 : Ref sig .tc := ⟨.hbm, 312, rfl⟩
abbrev main_call7_v11 : Ref sig .tc := ⟨.hbm, 313, rfl⟩
abbrev main_call7_cst_3 : Ref sig .tc := ⟨.hbm, 314, rfl⟩
abbrev main_call7_v12 : Ref sig .tc := ⟨.hbm, 315, rfl⟩
abbrev main_call7_cst_4 : Ref sig .tc := ⟨.hbm, 316, rfl⟩
abbrev main_call7_call0_v0 : Ref sig .tc := ⟨.hbm, 317, rfl⟩
abbrev main_call7_call0_v1 : Ref sig .tc := ⟨.hbm, 318, rfl⟩
abbrev main_v165 : Ref sig .tc := ⟨.hbm, 319, rfl⟩
abbrev main_v166 : Ref sig .tc := ⟨.hbm, 320, rfl⟩
abbrev main_v167 : Ref sig .tc := ⟨.hbm, 321, rfl⟩
abbrev main_v168 : Ref sig .tc := ⟨.hbm, 322, rfl⟩
abbrev main_cst_33 : Ref sig .tc := ⟨.hbm, 323, rfl⟩
abbrev main_v169 : Ref sig .tc := ⟨.hbm, 324, rfl⟩
abbrev main_v170 : Ref sig .tc := ⟨.hbm, 325, rfl⟩
abbrev main_v171 : Ref sig .tc := ⟨.hbm, 326, rfl⟩
abbrev main_v172 : Ref sig .tc := ⟨.hbm, 327, rfl⟩
abbrev main_v173 : Ref sig .tc := ⟨.hbm, 328, rfl⟩
abbrev main_v174 : Ref sig .tc := ⟨.hbm, 329, rfl⟩
abbrev main_v175 : Ref sig .tc := ⟨.hbm, 330, rfl⟩
abbrev main_v176 : Ref sig .tc := ⟨.hbm, 331, rfl⟩
abbrev main_v177 : Ref sig .tc := ⟨.hbm, 332, rfl⟩
abbrev main_v178 : Ref sig .tc := ⟨.hbm, 333, rfl⟩
abbrev main_v179 : Ref sig .tc := ⟨.hbm, 334, rfl⟩
abbrev main_v180 : Ref sig .tc := ⟨.hbm, 335, rfl⟩
abbrev main_v181 : Ref sig .tc := ⟨.hbm, 336, rfl⟩
abbrev main_v182 : Ref sig .tc := ⟨.hbm, 337, rfl⟩
abbrev main_v183 : Ref sig .tc := ⟨.hbm, 338, rfl⟩
abbrev main_v184 : Ref sig .tc := ⟨.hbm, 339, rfl⟩
abbrev main_call8_cst : Ref sig .tc := ⟨.hbm, 340, rfl⟩
abbrev main_call8_v0 : Ref sig .tc := ⟨.hbm, 341, rfl⟩
abbrev main_v185 : Ref sig .tc := ⟨.hbm, 342, rfl⟩
abbrev main_cst_34 : Ref sig .tc := ⟨.hbm, 343, rfl⟩
abbrev main_v186 : Ref sig .tc := ⟨.hbm, 344, rfl⟩
abbrev main_cst_35 : Ref sig .tc := ⟨.hbm, 345, rfl⟩
abbrev main_v187 : Ref sig .tc := ⟨.hbm, 346, rfl⟩
abbrev main_v188 : Ref sig .tc := ⟨.hbm, 347, rfl⟩
abbrev main_c_36 : Ref sig .tc := ⟨.hbm, 348, rfl⟩
abbrev main_call9_cst : Ref sig .tc := ⟨.hbm, 349, rfl⟩
abbrev main_call9_v0 : Ref sig .tc := ⟨.hbm, 350, rfl⟩
abbrev main_call9_v1 : Ref sig .tc := ⟨.hbm, 351, rfl⟩
abbrev main_call9_cst_0 : Ref sig .tc := ⟨.hbm, 352, rfl⟩
abbrev main_call9_v2 : Ref sig .tc := ⟨.hbm, 353, rfl⟩
abbrev main_call9_v3 : Ref sig .tc := ⟨.hbm, 354, rfl⟩
abbrev main_call9_v4 : Ref sig .tc := ⟨.hbm, 355, rfl⟩
abbrev main_call9_v5 : Ref sig .tc := ⟨.hbm, 356, rfl⟩
abbrev main_call9_v6 : Ref sig .tc := ⟨.hbm, 357, rfl⟩
abbrev main_call9_v7 : Ref sig .tc := ⟨.hbm, 358, rfl⟩
abbrev main_call9_cst_1 : Ref sig .tc := ⟨.hbm, 359, rfl⟩
abbrev main_call9_v8 : Ref sig .tc := ⟨.hbm, 360, rfl⟩
abbrev main_call9_cst_2 : Ref sig .tc := ⟨.hbm, 361, rfl⟩
abbrev main_call9_v9 : Ref sig .tc := ⟨.hbm, 362, rfl⟩
abbrev main_call9_v10 : Ref sig .tc := ⟨.hbm, 363, rfl⟩
abbrev main_call9_v11 : Ref sig .tc := ⟨.hbm, 364, rfl⟩
abbrev main_call9_cst_3 : Ref sig .tc := ⟨.hbm, 365, rfl⟩
abbrev main_call9_v12 : Ref sig .tc := ⟨.hbm, 366, rfl⟩
abbrev main_call9_cst_4 : Ref sig .tc := ⟨.hbm, 367, rfl⟩
abbrev main_call9_call0_v0 : Ref sig .tc := ⟨.hbm, 368, rfl⟩
abbrev main_call9_call0_v1 : Ref sig .tc := ⟨.hbm, 369, rfl⟩
abbrev main_v189 : Ref sig .tc := ⟨.hbm, 370, rfl⟩
abbrev main_v190 : Ref sig .tc := ⟨.hbm, 371, rfl⟩
abbrev main_v191 : Ref sig .tc := ⟨.hbm, 372, rfl⟩
abbrev main_v192 : Ref sig .tc := ⟨.hbm, 373, rfl⟩
abbrev main_cst_37 : Ref sig .tc := ⟨.hbm, 374, rfl⟩
abbrev main_v193 : Ref sig .tc := ⟨.hbm, 375, rfl⟩
abbrev main_v194 : Ref sig .tc := ⟨.hbm, 376, rfl⟩
abbrev main_v195 : Ref sig .tc := ⟨.hbm, 377, rfl⟩
abbrev main_v196 : Ref sig .tc := ⟨.hbm, 378, rfl⟩
abbrev main_v197 : Ref sig .tc := ⟨.hbm, 379, rfl⟩
abbrev main_v198 : Ref sig .tc := ⟨.hbm, 380, rfl⟩
abbrev main_v199 : Ref sig .tc := ⟨.hbm, 381, rfl⟩
abbrev main_v200 : Ref sig .tc := ⟨.hbm, 382, rfl⟩
abbrev main_v201 : Ref sig .tc := ⟨.hbm, 383, rfl⟩
abbrev main_v202 : Ref sig .tc := ⟨.hbm, 384, rfl⟩
abbrev main_v203 : Ref sig .tc := ⟨.hbm, 385, rfl⟩
abbrev main_v204 : Ref sig .tc := ⟨.hbm, 386, rfl⟩
abbrev main_v205 : Ref sig .tc := ⟨.hbm, 387, rfl⟩
abbrev main_v206 : Ref sig .tc := ⟨.hbm, 388, rfl⟩
abbrev main_v207 : Ref sig .tc := ⟨.hbm, 389, rfl⟩
abbrev main_v208 : Ref sig .tc := ⟨.hbm, 390, rfl⟩
abbrev main_call10_cst : Ref sig .tc := ⟨.hbm, 391, rfl⟩
abbrev main_call10_v0 : Ref sig .tc := ⟨.hbm, 392, rfl⟩
abbrev main_call10_cst_0 : Ref sig .tc := ⟨.hbm, 393, rfl⟩
abbrev main_call10_v1 : Ref sig .tc := ⟨.hbm, 394, rfl⟩
abbrev main_call10_v2 : Ref sig .tc := ⟨.hbm, 395, rfl⟩
abbrev main_call10_v3 : Ref sig .tc := ⟨.hbm, 396, rfl⟩
abbrev main_call10_v4 : Ref sig .tc := ⟨.hbm, 397, rfl⟩
abbrev main_call10_v5 : Ref sig .tc := ⟨.hbm, 398, rfl⟩
abbrev main_call10_v6 : Ref sig .tc := ⟨.hbm, 399, rfl⟩
abbrev main_call10_cst_1 : Ref sig .tc := ⟨.hbm, 400, rfl⟩
abbrev main_call10_v7 : Ref sig .tc := ⟨.hbm, 401, rfl⟩
abbrev main_call10_v8 : Ref sig .tc := ⟨.hbm, 402, rfl⟩
abbrev main_call10_v9 : Ref sig .tc := ⟨.hbm, 403, rfl⟩
abbrev main_call10_v10 : Ref sig .tc := ⟨.hbm, 404, rfl⟩
abbrev main_v209 : Ref sig .tc := ⟨.hbm, 405, rfl⟩

abbrev nD : Nat := 1
abbrev τ : Topo := Topo.v7x

variable {F : FTy → Type} [FloatOps F]
-- ==== Proof.Run.lean ====
/- The kernel program's run: every buffer ends at what the last segment boundary gives it. -/
module

public import proofs.«01_k».proof.Proof.Gen.KernelIdeal.Frame
public import Idealize.ShloMosaic.Lib.Pointwise

@[expose] public section

set_option maxRecDepth 16384

noncomputable section

namespace Cert.KernelIdeal.Launch

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable (m : (ℓ : Loc nD τ sig) → Buf (Elt Ideal) ℓ) (ρ : Dev nD → PrngReg)

set_option backward.isDefEq.respectTransparency.types false in
/-- Every weakly fair run ends, with every unscoped buffer at its last contents. -/
theorem run : θ_run defs (onTc (τ := τ) (main (F := Ideal))) ⟨m, fun _ => 0, ρ⟩ (fun r => ∀ c : Dev nD,
    ∀ b ∈ Pipeline.ucRefs τ sig, r.2.mem (((c : Thread nD τ)).1, b) = W10 m ρ c b) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt Ideal) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt Ideal) ℕ (UR sig nD τ) ℕ)) ⊢ bigSep Finset.univ (fun _ : Dev nD => (BI.emp : sProp (MT nD τ sig Unit (Elt Ideal) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h hz c => h c)

end Cert.KernelIdeal.Launch

end
-- ==== Proof.Select.lean ====
module

public import Idealize.ShloMosaic.Lib.SortPrefix
public import Idealize.ShloMosaic.PureOps.Ideal.Laws

@[expose] public section

noncomputable section

namespace Cert.Select

open Idealize.ShloMosaic

variable {n : ℕ} [NeZero n]

/-- Some index of a finite row holds its least value. -/
theorem least_exists (d : Fin n → EReal) : (Finset.univ.filter fun i => ∀ j, d i ≤ d j).Nonempty := by
  obtain ⟨i, hi⟩ := Finite.exists_min d
  exact ⟨i, by simpa using hi⟩

/-- The first index at which a row is least. -/
def argLeast (d : Fin n → EReal) : Fin n := (Finset.univ.filter fun i => ∀ j, d i ≤ d j).min' (least_exists d)

/-- The row is least there. -/
theorem argLeast_le (d : Fin n → EReal) (j : Fin n) : d (argLeast d) ≤ d j := by
  have h := Finset.min'_mem _ (least_exists d)
  simp only [Finset.mem_filter, Finset.mem_univ, true_and] at h
  exact h j

/-- It is the first such index. -/
theorem argLeast_first (d : Fin n → EReal) (i : Fin n) (hi : ∀ j, d i ≤ d j) : argLeast d ≤ i :=
  Finset.min'_le _ _ (by simpa using hi)

/-- The two facts that single the first least index out. -/
theorem eq_argLeast (d : Fin n → EReal) (i : Fin n) (hi : ∀ j, d i ≤ d j) (hf : ∀ j, d j = d i → i ≤ j) : i = argLeast d :=
  le_antisymm (hf _ (le_antisymm (argLeast_le d i) (hi _))) (argLeast_first d i hi)

/-- The row with the first least entry overwritten by `M`. -/
def mask (M : EReal) (d : Fin n → EReal) : Fin n → EReal := fun j => if j = argLeast d then M else d j

/-- What the `k`-th round of "take the first least entry, overwrite it" takes. -/
def pick (M : EReal) (d : Fin n → EReal) (k : ℕ) : Fin n := argLeast ((mask M)^[k] d)

/-- After `k` rounds exactly the entries taken so far are overwritten. -/
theorem mask_iterate (M : EReal) (d : Fin n → EReal) (k : ℕ) (j : Fin n) :
    (mask M)^[k] d j = if ∃ i, i < k ∧ pick M d i = j then M else d j := by
  induction k generalizing j with
  | zero => simp
  | succ k ih =>
    rw [Function.iterate_succ_apply']
    change (if j = pick M d k then M else (mask M)^[k] d j) = _
    rw [ih j]
    by_cases h : j = pick M d k
    · rw [if_pos h, if_pos ⟨k, Nat.lt_succ_self k, h.symm⟩]
    · rw [if_neg h]
      refine if_congr ⟨fun ⟨i, hi, e⟩ => ⟨i, Nat.lt_succ_of_lt hi, e⟩, fun ⟨i, hi, e⟩ => ⟨i, ?_, e⟩⟩ rfl rfl
      rcases Nat.lt_succ_iff_lt_or_eq.mp hi with h' | rfl
      · exact h'
      · exact absurd e.symm h

variable {M : EReal} {d : Fin n → EReal} {K : ℕ}

/-- While more entries are below `M` than rounds have run, a round takes an entry below `M` not taken before. -/
theorem pick_fresh (hK : ∀ S : Finset (Fin n), S.card < K → ∃ j, j ∉ S ∧ d j < M) (k : ℕ) (hk : k < K) :
    d (pick M d k) < M ∧ ∀ i, i < k → pick M d i ≠ pick M d k := by
  obtain ⟨j, hj, hjM⟩ := hK ((Finset.range k).image (pick M d))
    (lt_of_le_of_lt Finset.card_image_le (by simpa using hk))
  have hj' : ¬ ∃ i, i < k ∧ pick M d i = j := fun ⟨i, hi, e⟩ => hj (by
    rw [← e]; exact Finset.mem_image_of_mem _ (Finset.mem_range.mpr hi))
  have hle := argLeast_le ((mask M)^[k] d) j
  rw [mask_iterate M d k j, if_neg hj'] at hle
  have hlt : (mask M)^[k] d (pick M d k) < M := lt_of_le_of_lt hle hjM
  rw [mask_iterate M d k (pick M d k)] at hlt
  by_cases h : ∃ i, i < k ∧ pick M d i = pick M d k
  · rw [if_pos h] at hlt; exact absurd hlt (lt_irrefl _)
  · rw [if_neg h] at hlt
    exact ⟨hlt, fun i hi e => h ⟨i, hi, e⟩⟩

/-- The entry a round takes comes before every entry not taken by then, in the order of value and then index. -/
theorem pick_before (hK : ∀ S : Finset (Fin n), S.card < K → ∃ j, j ∉ S ∧ d j < M) (k : ℕ) (hk : k < K) (p : Fin n)
    (hp : ∀ i, i < k → pick M d i ≠ p) : d (pick M d k) ≤ d p ∧ (d p = d (pick M d k) → pick M d k ≤ p) := by
  have e1 : ∀ q, (∀ i, i < k → pick M d i ≠ q) → (mask M)^[k] d q = d q := fun q hq => by
    rw [mask_iterate, if_neg fun ⟨i, hi, e⟩ => hq i hi e]
  have ep := e1 p hp
  have ek := e1 _ (pick_fresh hK k hk).2
  have hle := argLeast_le ((mask M)^[k] d)
  refine ⟨?_, fun h => argLeast_first _ _ fun j => ?_⟩
  · have := hle p; rw [ep] at this; exact ek ▸ this
  · rw [ep, h, ← ek]; exact hle j

/-- The order of value and then index. -/
def lexBefore (d : Fin n → EReal) (k k' : Fin n) : Bool :=
  decide (d k < d k') || (decide (d k = d k') && decide (k < k'))

omit [NeZero n] in
/-- The order by value, then by position, is strict and total. -/
theorem lexBefore_total (d : Fin n → EReal) : StrictTotalBefore (lexBefore d) :=
  StrictTotalBefore.of_key_then_position (fun a b : EReal => decide (a < b)) d (by simp)
    (fun a b c h h' => by simp only [decide_eq_true_eq] at h h' ⊢; exact lt_trans h h')
    (fun a b => by simpa using lt_trichotomy a b)

omit [NeZero n] in
/-- A stable sort of increasing positions by value alone is the sort by value and then position. -/
theorem stableSort_lex (d : Fin n → EReal) (l : List (Fin n)) (hl : l.Pairwise (· < ·)) :
    stableSort (fun k k' => decide (d k < d k')) l = stableSort (lexBefore d) l := by
  induction l with
  | nil => rfl
  | cons a l ih =>
    obtain ⟨ha, hl'⟩ := List.pairwise_cons.mp hl
    unfold stableSort
    rw [ih hl']
    refine insertBefore_congr _ _ a _ fun b hb => ?_
    have hab := ha b ((perm_stableSort _ l).mem_iff.mp hb)
    simp [lexBefore, not_lt.mpr hab.le]

omit [NeZero n] in
/-- So are their sources. -/
theorem sortedFrom_lex (d : Fin n → EReal) : sortedFrom (fun k k' => decide (d k < d k')) = sortedFrom (lexBefore d) := by
  funext k
  unfold sortedFrom
  have h : sortPositions n (fun k k' => decide (d k < d k')) = sortPositions n (lexBefore d) :=
    stableSort_lex d _ (List.pairwise_lt_finRange n)
  rw [List.get_of_eq h]
  rfl

/-- The first `K` positions of the stable sort by value are what `K` rounds of "take the first least entry and
    overwrite it" take, as long as more entries than rounds run are below the overwriting value. -/
theorem sortedFrom_eq_pick (hK : ∀ S : Finset (Fin n), S.card < K → ∃ j, j ∉ S ∧ d j < M) (hn : K ≤ n) (i : Fin K) :
    sortedFrom (fun k k' => decide (d k < d k')) (i.castLE hn) = pick M d i := by
  rw [sortedFrom_lex]
  have hB := lexBefore_total d
  have hno : ∀ (k : ℕ) (_ : k < K) (p : Fin n), (∀ i, i < k → pick M d i ≠ p) → lexBefore d p (pick M d k) = false := by
    intro k hk p hp
    obtain ⟨h1, h2⟩ := pick_before hK k hk p hp
    simp only [lexBefore, Bool.or_eq_false_iff, decide_eq_false_iff_not, not_lt, Bool.and_eq_false_iff]
    refine ⟨h1, ?_⟩
    by_cases e : d p = d (pick M d k)
    · exact Or.inr (h2 e)
    · exact Or.inl e
  refine hB.sortedFrom_eq_of_prefix hn (fun i : Fin K => pick M d i) ?_ ?_ ?_ i
  · intro i j hij
    rcases lt_trichotomy i j with h | h | h
    · exact absurd hij ((pick_fresh hK j j.isLt).2 i h)
    · exact h
    · exact absurd hij.symm ((pick_fresh hK i i.isLt).2 j h)
  · intro i j hij
    exact hno i i.isLt _ fun i' hi' => (pick_fresh hK j j.isLt).2 i' (lt_trans hi' hij)
  · intro i p hp
    exact hno i i.isLt p fun i' hi' => hp ⟨i', lt_trans hi' i.isLt⟩

/-- Rows that are below `M` but at one place have enough entries below it for any number of rounds below their length. -/
theorem enough_below (p : Fin n) (h : ∀ j, j ≠ p → d j < M) (hK : K < n) (S : Finset (Fin n)) (hS : S.card < K) :
    ∃ j, j ∉ S ∧ d j < M := by
  by_contra hc
  push Not at hc
  have : Finset.univ ⊆ insert p S := fun j _ => by
    by_cases e : j = p
    · exact e ▸ Finset.mem_insert_self _ _
    · by_cases hj : j ∈ S
      · exact Finset.mem_insert_of_mem hj
      · exact absurd (h j e) (not_lt.mpr (hc j hj))
  have h1 := Finset.card_le_card this
  have h2 := Finset.card_insert_le p S
  simp at h1
  omega

end Cert.Select

end
-- ==== Proof.Spec.lean ====
/- What both programs compute, over arrays of extended reals indexed by numbers: the neighbours of a point in its
   cloud, the features of the first layer, and those of the second. -/
module

public import proofs.«01_k».proof.Proof.Select
public import Idealize.ShloMosaic.Lib.Pointwise

@[expose] public section

noncomputable section

namespace Cert.Spec

open Idealize.ShloMosaic

/-- The value that stands for a distance to a point that is not to be chosen. -/
def far : EReal := Ideal.ofBits .f32 0x501502F9#32

/-- The squared distance of two points of a cloud; of a point to itself, `far`. -/
def sqd (x : Fin 1024 → Fin 3 → EReal) (p j : Fin 1024) : EReal :=
  if p = j then far else
    ((∑ k, x p k * x p k) + ∑ k, x j k * x j k) - Ideal.ofBits .f32 0x40000000#32 * ∑ k, x p k * x j k

/-- The `k`-th nearest point of the cloud. -/
def nb (x : Fin 1024 → Fin 3 → EReal) (p : Fin 1024) (k : ℕ) : Fin 1024 := Select.pick far (sqd x p) k

/-- The feature of the edge from `s` to `p`. -/
def edge (x : Fin 1024 → Fin 3 → EReal) (w : Fin 3 → Fin 60 → EReal) (b : Fin 60 → EReal) (s p : Fin 1024) (c : Fin 60) : EReal :=
  max ((∑ k, (x s k - x p k) * w k c) + b c) 0

/-- The first layer's feature of a point: the greatest over its twenty nearest points. -/
def feat (x : Fin 1024 → Fin 3 → EReal) (w : Fin 3 → Fin 60 → EReal) (b : Fin 60 → EReal) (p : Fin 1024) (c : Fin 60) : EReal :=
  (Finset.range 20).sup fun k => edge x w b (nb x p k) p c

/-- The second layer's value at the edge from `s` to `p`, its weight in three parts, the source's features taken from `g` and the target's from `f`. -/
def zedG (f g : Fin 1024 → Fin 60 → EReal) (wa wb wc : Fin 60 → Fin 128 → EReal) (b : Fin 128 → EReal)
    (s p : Fin 1024) (c : Fin 128) : EReal :=
  max ((((∑ i, f p i * wa i c) + ∑ i, (g s i - f p i) * wb i c) + ∑ i, g s i * wc i c) + b c) 0

/-- The second layer's value at the edge from `s` to `p`, its weight in three parts. -/
def zed (f : Fin 1024 → Fin 60 → EReal) (wa wb wc : Fin 60 → Fin 128 → EReal) (b : Fin 128 → EReal)
    (s p : Fin 1024) (c : Fin 128) : EReal := zedG f f wa wb wc b s p c

/-- The sum of the three parts a value is split into: itself, the rest, and the rest of the rest. -/
def back (x : EReal) : EReal := (x + (x - x)) + ((x - x) - (x - x))

/-- A supremum over the numbers below `n`, over `Fin n`. -/
theorem sup_range {n : ℕ} (g : ℕ → EReal) : (Finset.range n).sup g = Finset.univ.sup fun k : Fin n => g k := by
  refine le_antisymm (Finset.sup_le fun k hk => ?_) (Finset.sup_le fun k _ => ?_)
  · exact Finset.le_sup (f := fun k : Fin n => g k) (Finset.mem_univ ⟨k, Finset.mem_range.1 hk⟩)
  · exact Finset.le_sup (f := g) (Finset.mem_range.2 k.2)

/-- The word of minus infinity denotes the least extended real. -/
theorem ofBits_bot : Ideal.ofBits .f32 0xFF800000#32 = (⊥ : EReal) := by
  simp [Ideal.ofBits, Ideal.ieee]

end Cert.Spec

end
-- ==== Proof.Mid.lean ====
/- The normalisation of columns over any number of rows, from a given count: what both programs compute between their layers. -/
module

public import proofs.«01_k».proof.Proof.Spec

@[expose] public section

noncomputable section

namespace Cert.Spec

open Idealize.ShloMosaic

variable {n m : ℕ}

/-- The mean of a column, over the count `N`. -/
def meanC (N : EReal) (y : Fin n → Fin m → EReal) (c : Fin m) : EReal := Ideal.div (∑ q, y q c) N

/-- The mean square of a column less its mean. -/
def varC (N : EReal) (y : Fin n → Fin m → EReal) (c : Fin m) : EReal :=
  meanC N (fun q c => (y q c - meanC N y c) * (y q c - meanC N y c)) c

/-- A value less a mean `u`, over the square root of a variance `v` raised a little, with gain and offset. -/
def affC (u v g b x : EReal) : EReal := Ideal.div (x - u) (Ideal.sqrt (v + Ideal.ofBits .f32 0x3727C5AC#32)) * g + b

/-- Columns normalised to mean zero and variance one, with gain and offset. -/
def bnC (N : EReal) (y : Fin n → Fin m → EReal) (g b : Fin m → EReal) (q : Fin n) (c : Fin m) : EReal :=
  affC (meanC N y c) (varC N y c) (g c) (b c) (y q c)

end Cert.Spec

end
-- ==== Proof.Const.lean ====
/- The float constants of the two programs, as the real numbers they denote. -/
module

public import Idealize.ShloMosaic.Lib.Pointwise

@[expose] public section

noncomputable section

namespace Cert.Spec

open Idealize.ShloMosaic

/-- The word of two. -/
theorem bits_two : Ideal.ofBits .f32 0x40000000#32 = ((2 : ℝ) : EReal) := by
  simp [Ideal.ofBits, Ideal.ieee, ← EReal.coe_mul]; norm_num
/-- The word of sixteen. -/
theorem bits_sixteen : Ideal.ofBits .f32 0x41800000#32 = ((16 : ℝ) : EReal) := by
  simp [Ideal.ofBits, Ideal.ieee, ← EReal.coe_mul]; norm_num
/-- The word of the number of points. -/
theorem bits_points : Ideal.ofBits .f32 0x46800000#32 = ((16384 : ℝ) : EReal) := by
  simp [Ideal.ofBits, Ideal.ieee, ← EReal.coe_mul]; norm_num
/-- The word of the number of edges. -/
theorem bits_edges : Ideal.ofBits .f32 0x48A00000#32 = ((327680 : ℝ) : EReal) := by
  simp [Ideal.ofBits, Ideal.ieee, ← EReal.coe_mul]; norm_num
/-- The word of the mask value. -/
theorem bits_far : Ideal.ofBits .f32 0x501502F9#32 = ((10000000000 : ℝ) : EReal) := by
  simp [Ideal.ofBits, Ideal.ieee, ← EReal.coe_mul]; norm_num
/-- The word of the bound on the coordinates. -/
theorem bits_bound : Ideal.ofBits .f32 0x46E18600#32 = ((28867 : ℝ) : EReal) := by
  simp [Ideal.ofBits, Ideal.ieee, ← EReal.coe_mul]; norm_num
/-- The word of infinity. -/
theorem bits_top : Ideal.ofBits .f32 0x7F800000#32 = (⊤ : EReal) := by
  simp [Ideal.ofBits, Ideal.ieee]

/-- The small number added to a variance is a positive real. -/
theorem bits_eps : ∃ e : ℝ, 0 < e ∧ Ideal.ofBits .f32 0x3727C5AC#32 = (e : EReal) := by
  refine ⟨_, ?_, by simp [Ideal.ofBits, Ideal.ieee, ← EReal.coe_mul]; rfl⟩
  positivity

end Cert.Spec

end
-- ==== Proof.RefKnn.lean ====
/- The reference's nearest points: its scores, and the words its selection of the twenty greatest scores gives. -/
module

public import proofs.«01_k».proof.Proof.Spec
public import proofs.«01_k».proof.Proof.Const
public import proofs.«01_k».proof.Proof.Gen.ReferenceIdeal.Run

@[expose] public section

set_option maxRecDepth 16384

noncomputable section

namespace Cert.ReferenceIdeal.Knn

open Idealize.ShloMosaic Idealize.ShloMosaic.TcCoe Idealize.SL.Sem
open Cert.ReferenceIdeal Cert.ReferenceIdeal.Gen Cert.Spec

/-- The number of a cloud's point among all the points. -/
def pt (b : Fin 16) (p : Fin 1024) : Fin 16384 := ⟨b.val * 1024 + p.val, by omega⟩

/-- The number of the edge of a point to its `k`-th nearest among all the edges. -/
def eg (q : Fin 16384) (k : Fin 20) : Fin 327680 := ⟨q.val * 20 + k.val, by omega⟩

/-- The scores from the clouds, as the program computes them. -/
def score (x : FVec Ideal S16x1024x3 .f32) : FVec Ideal S16x1024x1024 .f32 :=
  Host.negf (addf (subf (addf (broadcastInDim S16x1024x1024 ![0, 1, 2] bcast_S16x1024x1_S16x1024x1024_0_1_2 (broadcastInDim S16x1024x1 ![0, 1] bcast_S16x1024_S16x1024x1_0_1 (Host.reduceAdd (mulf x x) (constant S_ .f32 0x00000000#32) reducesTo_S16x1024x3_S16x1024_d2 h_S_))) (broadcastInDim S16x1024x1024 ![0, 1, 2] bcast_S16x1x1024_S16x1024x1024_0_1_2 (broadcastInDim S16x1x1024 ![0, 2] bcast_S16x1024_S16x1x1024_0_2 (Host.reduceAdd (mulf x x) (constant S_ .f32 0x00000000#32) reducesTo_S16x1024x3_S16x1024_d2 h_S_)))) (mulf (broadcastInDim S16x1024x1024 ![] bcast_S_S16x1024x1024 (constant S_ .f32 0x40000000#32)) (Host.dotGeneral dot_S16x1024x3_S16x1024x3_S16x1024x1024_2_2_1_1_0_0 none x x))) (broadcastInDim S16x1024x1024 ![0, 1, 2] bcast_S1x1024x1024_S16x1024x1024_0_1_2 (mulf (broadcastInDim S1x1024x1024 ![1, 2] bcast_S1024x1024_S1x1024x1024_1_2 (uitofp .f32 (cmpi .eq (addi (iotaInDim S1024x1024 32 0) (broadcastInDim S1024x1024 ![] bcast_S_S1024x1024 (constantI S_ 32 0#32))) (iotaInDim S1024x1024 32 1)))) (broadcastInDim S1x1024x1024 ![] bcast_S_S1x1024x1024 (constant S_ .f32 0x501502F9#32)))))

/-- They are what the program's scores are. -/
theorem v23_eq (V0 : Valuation τ sig (Elt Ideal)) : Value.res_main_v23 V0 = score (Value.res_main_v0 V0) := rfl

/-- The words of the diagonal mask: one where row and column agree. -/
def eyeW : FVec Ideal S1024x1024 .f32 :=
  uitofp .f32 (cmpi .eq (addi (iotaInDim S1024x1024 32 0) (broadcastInDim S1024x1024 ![] bcast_S_S1024x1024 (constantI S_ 32 0#32))) (iotaInDim S1024x1024 32 1))

/-- The diagonal mask at an entry. -/
theorem eyeW_apply (p j : Fin 1024) : eyeW (ix2 p j) = if p = j then 1 else 0 := by
  have h : eyeW (ix2 p j) = ((((IntOp.cmpi .eq (BitVec.ofNat 32 p.val + 0#32) (BitVec.ofNat 32 j.val)).toNat : ℝ)) : EReal) := rfl
  rw [h]
  unfold IntOp.cmpi
  by_cases e : p = j
  · subst e; simp
  · have : ¬ (BitVec.ofNat 32 p.val = BitVec.ofNat 32 j.val) := fun h' => e (Fin.ext (by
      have := congrArg BitVec.toNat h'
      simp only [BitVec.toNat_ofNat] at this
      omega))
    simp [e, this]

/-- A score: minus the sum of squares less twice the product, plus the mask. -/
theorem score_apply (x : FVec Ideal S16x1024x3 .f32) (b : Fin 16) (p j : Fin 1024) :
    score x (ix3 b p j) = -((((∑ k : Fin 3, x (ix3 b p k) * x (ix3 b p k)) + ∑ k : Fin 3, x (ix3 b j k) * x (ix3 b j k))
      - Ideal.ofBits .f32 0x40000000#32 * ∑ k : Fin 3, x (ix3 b p k) * x (ix3 b j k)) + eyeW (ix2 p j) * far) := by
  unfold score
  change Host.negf (addf _ (broadcastInDim S16x1024x1024 ![0, 1, 2] bcast_S1x1024x1024_S16x1024x1024_0_1_2 (mulf (broadcastInDim S1x1024x1024 ![1, 2] bcast_S1024x1024_S1x1024x1024_1_2 eyeW) _))) _ = _
  generalize eyeW = e
  pointwise []
  rfl

/-- An index of the scores with its last coordinate replaced. -/
theorem along_eq (b : Fin 16) (p i j : Fin 1024) : (ix3 b p j : S16x1024x1024.Idx).along (2 : Fin 3) i = ix3 b p i := by
  funext a
  match a with
  | ⟨0, _⟩ => rfl
  | ⟨1, _⟩ => rfl
  | ⟨2, _⟩ => rfl

/-- The positions of a row in its sorted order. -/
theorem sorted_apply (gt : Ideal .f32 → Ideal .f32 → BitVec 1) (x : FVec Ideal S16x1024x1024 .f32) (b : Fin 16) (p j : Fin 1024) :
    (Host.sort2 S16x1024x1024 2 (fun l r => gt l.1 r.1) x
      (fun i => if hd : 2 < S16x1024x1024.rank then iotaInDim S16x1024x1024 32 ⟨2, hd⟩ i else 0#32)).2 (ix3 b p j)
      = BitVec.ofNat 32 (sortedFrom (fun i j : Fin 1024 => gt (x (ix3 b p i)) (x (ix3 b p j)) == 1#1) j).val := by
  have h2 : 2 < S16x1024x1024.rank := by decide
  unfold Host.sort2
  simp only [dif_pos h2]
  have e : ∀ i, (ix3 b p j : S16x1024x1024.Idx).along ⟨2, h2⟩ i = ix3 b p i := fun i => along_eq b p i j
  simp only [e]
  rfl

/-- The selected positions: those of the stable order of the row by its scores, greatest first. -/
theorem topK_apply (x : FVec Ideal S16x1024x1024 .f32) (b : Fin 16) (p : Fin 1024) (k : Fin 20) :
    (Host.topK S16x1024x20 2 (FloatOps.cmpfTotal (F := Ideal) (φ := .f32) .gt) x sliceFits_S16x1024x1024_S16x1024x20).2 (ix3 b p k)
      = BitVec.ofNat 32 (sortedFrom (fun i j : Fin 1024 => decide (x (ix3 b p j) < x (ix3 b p i))) (k.castLE (by norm_num))).val := by
  have hcmp : ∀ i j : Fin 1024, ((FloatOps.cmpfTotal (F := Ideal) (φ := .f32) .gt) (x (ix3 b p i)) (x (ix3 b p j)) == 1#1)
      = decide (x (ix3 b p j) < x (ix3 b p i)) := fun i j => by
    change (BitVec.ofBool (decide ((x (ix3 b p j) : EReal) < x (ix3 b p i))) == 1#1) = _
    cases decide ((x (ix3 b p j) : EReal) < x (ix3 b p i)) <;> rfl
  simp only [← hcmp]
  have hsl : ∀ v : IVec S16x1024x1024 32, extractStridedSlice S16x1024x20 (fun _ => 0) v sliceFits_S16x1024x1024_S16x1024x20 (ix3 b p k)
      = v (ix3 b p (k.castLE (by norm_num))) := fun v => by
    pointwise []
    rfl
  exact (hsl _).trans (sorted_apply _ x b p _)

/-- Where all but one entry are below the mask's value and the scores are minus the distances, the selected positions are
    the nearest points. -/
theorem topK_nb (x : FVec Ideal S16x1024x1024 .f32) (y : Fin 1024 → Fin 3 → EReal) (b : Fin 16) (p : Fin 1024)
    (hx : ∀ j, x (ix3 b p j) = -(sqd y p j)) (hy : ∀ j, j ≠ p → sqd y p j < far) (k : Fin 20) :
    (Host.topK S16x1024x20 2 (FloatOps.cmpfTotal (F := Ideal) (φ := .f32) .gt) x sliceFits_S16x1024x1024_S16x1024x20).2 (ix3 b p k)
      = BitVec.ofNat 32 (nb y p k).val := by
  rw [topK_apply]
  simp only [hx, EReal.neg_lt_neg_iff]
  rw [Select.sortedFrom_eq_pick (M := far) (d := sqd y p) (K := 20) (Select.enough_below p hy (by norm_num)) (by norm_num) k]
  rfl

end Cert.ReferenceIdeal.Knn

end
-- ==== Proof.RefGraph.lean ====
/- The reference's edges: the words of their end points, the rows gathered at them, and the first layer's features. -/
module

public import proofs.«01_k».proof.Proof.RefKnn
public import Idealize.ShloMosaic.Lib.Pipeline.Value

@[expose] public section

set_option maxRecDepth 16384

noncomputable section

namespace Cert.ReferenceIdeal.Graph

open Idealize.ShloMosaic Idealize.ShloMosaic.TcCoe Idealize.SL.Sem
open Cert.ReferenceIdeal Cert.ReferenceIdeal.Gen Cert.ReferenceIdeal.Knn Cert.Spec

/-- A cloud of the points, from the array of all the points. -/
def cloudR (x : FVec Ideal S16384x3 .f32) (b : Fin 16) (p : Fin 1024) (c : Fin 3) : EReal := x (ix2 (pt b p) c)

/-- The source words, from the selected positions. -/
def srcW (t : IVec S16x1024x20 32) : IVec S327680 32 :=
  shapeCast S327680 (addi t (broadcastInDim S16x1024x20 ![0, 1, 2] bcast_S16x1x1_S16x1024x20_0_1_2 (broadcastInDim S16x1x1 ![0] bcast_S16_S16x1x1_0 (muli (iotaInDim S16 32 0) (broadcastInDim S16 ![] bcast_S_S16 (constantI S_ 32 1024#32)))))) shapeCasts_S16x1024x20_S327680

/-- The target words. -/
def dstW : IVec S327680 32 :=
  shapeCast S327680 (broadcastInDim S16384x20 ![0] bcast_S16384_S16384x20_0 (iotaInDim S16384 32 0)) shapeCasts_S16384x20_S327680

/-- The start indices of a gather at given words: negative ones are raised by the number of points. -/
def startW (v : IVec S327680 32) : IVec S327680x1 32 :=
  broadcastInDim S327680x1 ![0] bcast_S327680_S327680x1_0 (select (cmpi .slt v (broadcastInDim S327680 ![] bcast_S_S327680 (constantI S_ 32 0#32))) (addi v (broadcastInDim S327680 ![] bcast_S_S327680 (constantI S_ 32 16384#32))) v)

/-- The words of the edges from the positions of the points. -/
theorem srcW_apply (t : IVec S16x1024x20 32) (b : Fin 16) (p : Fin 1024) (k : Fin 20) (s : Fin 1024)
    (h : t (ix3 b p k) = BitVec.ofNat 32 s.val) : srcW t (ix1 (eg (pt b p) k)) = BitVec.ofNat 32 (pt b s).val := by
  have e : srcW t (ix1 (eg (pt b p) k)) = t (ix3 b p k) + BitVec.ofNat 32 b.val * 1024#32 := by
    unfold srcW
    have hs : ∀ v : IVec S16x1024x20 32, shapeCast S327680 v shapeCasts_S16x1024x20_S327680 (ix1 (eg (pt b p) k)) = v (ix3 b p k) := fun v =>
      shapeCast_apply _ _ _ _ (by
        simp [Shape.rowMajor_val_three, Shape.rowMajor_val_one, eg, pt])
    rw [hs]
    pointwise []
    rfl
  rw [e, h]
  apply BitVec.eq_of_toNat_eq
  simp [pt]
  omega

/-- The target word of an edge is its point's number. -/
theorem dstW_apply (q : Fin 16384) (k : Fin 20) : dstW (ix1 (eg q k)) = BitVec.ofNat 32 q.val := by
  unfold dstW
  have hs : ∀ v : IVec S16384x20 32, shapeCast S327680 v shapeCasts_S16384x20_S327680 (ix1 (eg q k)) = v (ix2 q k) := fun v =>
    shapeCast_apply _ _ _ _ (by
      simp [Shape.rowMajor_val_two, Shape.rowMajor_val_one, eg])
  rw [hs]
  pointwise []

/-- At a word that is a point's number the start index is that word. -/
theorem startW_apply (v : IVec S327680 32) (e : Fin 327680) (q : Fin 16384) (h : v (ix1 e) = BitVec.ofNat 32 q.val) :
    startW v (ix2 e 0) = BitVec.ofNat 32 q.val := by
  have hq : startW v (ix2 e 0) = Scalar.select (IntOp.cmpi .slt (v (ix1 e)) 0#32) (v (ix1 e) + 16384#32) (v (ix1 e)) := by
    unfold startW
    pointwise []
    rfl
  rw [hq, h]
  have : IntOp.cmpi .slt (BitVec.ofNat 32 q.val) 0#32 = 0#1 := by
    have hlt : ¬ (BitVec.ofNat 32 q.val).toInt < 0 := by
      rw [BitVec.toInt_ofNat']; have := q.2; simp [Int.bmod]; omega
    simp [IntOp.cmpi, BitVec.slt, hlt]
  rw [this]
  rfl

/-- The gather of whole rows of an array of all the points at one word per edge. -/
abbrev rowDims (C : ℕ) (wf : GatherDims.WF ⟨2, ![16384, C]⟩ S327680x1 ⟨2, ![327680, C]⟩ [1] [0] [] [0] [] 1 ![1, C]) :
    GatherDims ⟨2, ![16384, C]⟩ S327680x1 ⟨2, ![327680, C]⟩ where
  offsetDims := [1]
  collapsedSliceDims := [0]
  operandBatchingDims := []
  startIndicesBatchingDims := []
  startIndexMap := [0]
  indexVectorDim := 1
  sliceSizes := ![1, C]
  wf := wf

/-- That gather at an edge whose word is a point's number: that point's row. -/
theorem rows_apply (C : ℕ) (wf) (x : (⟨2, ![16384, C]⟩ : Shape).Idx → Ideal .f32) (v : IVec S327680 32) (e : Fin 327680) (c : Fin C)
    (q : Fin 16384) (h : v (ix1 e) = BitVec.ofNat 32 q.val) :
    Host.gather (rowDims C wf) x (startW v) (ix2 e c) = x (ix2 q c) := by
  unfold Host.gather
  refine congrArg x (funext fun a => Fin.ext ?_)
  have hst := startW_apply v e q h
  generalize startW v = st at hst
  have hw : (BitVec.ofNat 32 q.val).toInt.toNat = q.val := by
    rw [BitVec.toInt_ofNat']; have := q.2; simp [Int.bmod]; omega
  have hsi : (rowDims C wf).siIdx (ix2 e c) ⟨0, Nat.one_pos⟩ = ix2 e 0 := by
    funext a
    match a with
    | ⟨0, _⟩ => rfl
    | ⟨1, _⟩ => rfl
  match a with
  | ⟨0, _⟩ =>
    change min (st ((rowDims C wf).siIdx (ix2 e c) ⟨0, Nat.one_pos⟩)).toInt.toNat (16384 - 1) + 0 + 0 = q.val
    rw [hsi, hst, hw]
    have := q.2
    omega
  | ⟨1, _⟩ =>
    change 0 + 0 + c.val = c.val
    omega

/-- The gather of the points at an edge whose word is a point's number. -/
theorem rowsP_apply (x : FVec Ideal S16384x3 .f32) (v : IVec S327680 32) (e : Fin 327680) (c : Fin 3) (q : Fin 16384)
    (h : v (ix1 e) = BitVec.ofNat 32 q.val) :
    Host.gather gather_S16384x3_S327680x1_S327680x3_1_0_n_n_0_1_13 x (startW v) (ix2 e c) = x (ix2 q c) :=
  rows_apply 3 _ x v e c q h

/-- The gather of the features at an edge whose word is a point's number. -/
theorem rowsF_apply (x : FVec Ideal S16384x60 .f32) (v : IVec S327680 32) (e : Fin 327680) (c : Fin 60) (q : Fin 16384)
    (h : v (ix1 e) = BitVec.ofNat 32 q.val) :
    Host.gather gather_S16384x60_S327680x1_S327680x60_1_0_n_n_0_1_160 x (startW v) (ix2 e c) = x (ix2 q c) :=
  rows_apply 60 _ x v e c q h

/-- The first layer's edge features, from the gathered rows. -/
def edgeF (xs xd : FVec Ideal S327680x3 .f32) (w : FVec Ideal S3x60 .f32) (b : FVec Ideal S60 .f32) : FVec Ideal S327680x60 .f32 :=
  maximumf (addf (Host.dotGeneral dot_S327680x3_S3x60_S327680x60_1_0_0_1_n_n none (subf xs xd) w) (broadcastInDim S327680x60 ![0, 1] bcast_S1x60_S327680x60_0_1 (broadcastInDim S1x60 ![1] bcast_S60_S1x60_1 b))) (broadcastInDim S327680x60 ![] bcast_S_S327680x60 (constant S_ .f32 0x00000000#32))

/-- The greatest over the twenty edges of a point, first layer. -/
def top60 (y : FVec Ideal S327680x60 .f32) : FVec Ideal S16384x60 .f32 :=
  Host.reduce FloatOps.maximumf (shapeCast S16384x20x60 y shapeCasts_S327680x60_S16384x20x60) (constant S_ .f32 0xFF800000#32) reducesTo_S16384x20x60_S16384x60_d1 h_S_

/-- The second layer's edge values, from the gathered rows. -/
def edgeZ (fd fs : FVec Ideal S327680x60 .f32) (w : FVec Ideal S180x128 .f32) (b : FVec Ideal S128 .f32) : FVec Ideal S327680x128 .f32 :=
  maximumf (addf (Host.dotGeneral dot_S327680x180_S180x128_S327680x128_1_0_0_1_n_n none (concatenate S327680x180 1 [⟨S327680x60, fd⟩, ⟨S327680x60, subf fs fd⟩, ⟨S327680x60, fs⟩] concatenates_S327680x60_S327680x60_S327680x60_S327680x180_d1) w) (broadcastInDim S327680x128 ![0, 1] bcast_S1x128_S327680x128_0_1 (broadcastInDim S1x128 ![1] bcast_S128_S1x128_1 b))) (broadcastInDim S327680x128 ![] bcast_S_S327680x128 (constant S_ .f32 0x00000000#32))

/-- The greatest over the twenty edges of a point, second layer. -/
def top128 (y : FVec Ideal S327680x128 .f32) : FVec Ideal S16384x128 .f32 :=
  Host.reduce FloatOps.maximumf (shapeCast S16384x20x128 y shapeCasts_S327680x128_S16384x20x128) (constant S_ .f32 0xFF800000#32) reducesTo_S16384x20x128_S16384x128_d1 h_S_

/-- The program's first layer is these. -/
theorem v55_eq (V0 : Valuation τ sig (Elt Ideal)) :
    Value.res_main_v55 V0 = top60 (edgeF (Host.gather gather_S16384x3_S327680x1_S327680x3_1_0_n_n_0_1_13 (V0 (Proc.devRef .tc main_arg0)) (startW (Value.res_main_v30 V0)))
      (Host.gather gather_S16384x3_S327680x1_S327680x3_1_0_n_n_0_1_13 (V0 (Proc.devRef .tc main_arg0)) (startW (Value.res_main_v33 V0)))
      (V0 (Proc.devRef .tc main_arg3)) (V0 (Proc.devRef .tc main_arg4))) := rfl

/-- The program's second layer is these. -/
theorem v109_eq (V0 : Valuation τ sig (Elt Ideal)) :
    Value.res_main_v109 V0 = edgeZ (Host.gather gather_S16384x60_S327680x1_S327680x60_1_0_n_n_0_1_160 (Value.res_main_v74 V0) (startW (Value.res_main_v33 V0)))
      (Host.gather gather_S16384x60_S327680x1_S327680x60_1_0_n_n_0_1_160 (Value.res_main_v74 V0) (startW (Value.res_main_v30 V0)))
      (V0 (Proc.devRef .tc main_arg7)) (V0 (Proc.devRef .tc main_arg8)) := rfl

/-- The program's source words are these. -/
theorem v30_eq (V0 : Valuation τ sig (Elt Ideal)) :
    Value.res_main_v30 V0 = srcW ((Host.topK S16x1024x20 2 (FloatOps.cmpfTotal (F := Ideal) (φ := .f32) .gt) (score (Value.res_main_v0 V0)) sliceFits_S16x1024x1024_S16x1024x20).2) := rfl

/-- The program's target words are these. -/
theorem v33_eq (V0 : Valuation τ sig (Elt Ideal)) : Value.res_main_v33 V0 = dstW := rfl

/-- An edge feature. -/
theorem edgeF_apply (xs xd : FVec Ideal S327680x3 .f32) (w : FVec Ideal S3x60 .f32) (b : FVec Ideal S60 .f32) (e : Fin 327680) (c : Fin 60) :
    edgeF xs xd w b (ix2 e c) = max ((∑ k : Fin 3, (xs (ix2 e k) - xd (ix2 e k)) * w (ix2 k c)) + b (ix1 c)) 0 := by
  unfold edgeF
  pointwise []

/-- The greatest of a point's edge features. -/
theorem top60_apply (y : FVec Ideal S327680x60 .f32) (q : Fin 16384) (c : Fin 60) :
    top60 y (ix2 q c) = Finset.univ.sup fun k : Fin 20 => (y (ix2 (eg q k) c) : EReal) := by
  unfold top60
  have hs : ∀ k : Fin 20, shapeCast S16384x20x60 y shapeCasts_S327680x60_S16384x20x60 (ix3 q k c) = y (ix2 (eg q k) c) := fun k =>
    shapeCast_apply _ _ _ _ (by
      simp [Shape.rowMajor_val_three, Shape.rowMajor_val_two, eg])
  generalize shapeCast S16384x20x60 y shapeCasts_S327680x60_S16384x20x60 = y' at hs
  pointwise []
  simp only [hs, ofBits_bot]
  rfl

/-- The greatest of a point's edge values. -/
theorem top128_apply (y : FVec Ideal S327680x128 .f32) (q : Fin 16384) (c : Fin 128) :
    top128 y (ix2 q c) = Finset.univ.sup fun k : Fin 20 => (y (ix2 (eg q k) c) : EReal) := by
  unfold top128
  have hs : ∀ k : Fin 20, shapeCast S16384x20x128 y shapeCasts_S327680x128_S16384x20x128 (ix3 q k c) = y (ix2 (eg q k) c) := fun k =>
    shapeCast_apply _ _ _ _ (by
      simp [Shape.rowMajor_val_three, Shape.rowMajor_val_two, eg])
  generalize shapeCast S16384x20x128 y shapeCasts_S327680x128_S16384x20x128 = y' at hs
  pointwise []
  simp only [hs, ofBits_bot]
  rfl

/-- A sum over 180 numbers, in three parts. -/
theorem sum_three (g : Fin 180 → EReal) :
    ∑ k, g k = ((∑ i : Fin 60, g ⟨i.val, by omega⟩) + ∑ i : Fin 60, g ⟨60 + i.val, by omega⟩) + ∑ i : Fin 60, g ⟨120 + i.val, by omega⟩ :=
  (Fin.sum_univ_add (a := 120) (b := 60) g).trans (congrArg₂ (· + ·) (Fin.sum_univ_add (a := 60) (b := 60) fun i => g (Fin.castAdd 60 i)) rfl)

/-- An edge value of the second layer: the three parts of the weight apart. -/
theorem edgeZ_apply (fd fs : FVec Ideal S327680x60 .f32) (w : FVec Ideal S180x128 .f32) (b : FVec Ideal S128 .f32) (e : Fin 327680) (c : Fin 128) :
    edgeZ fd fs w b (ix2 e c) = max ((((∑ i : Fin 60, fd (ix2 e i) * w (ix2 ⟨i.val, by omega⟩ c)) + ∑ i : Fin 60, (fs (ix2 e i) - fd (ix2 e i)) * w (ix2 ⟨60 + i.val, by omega⟩ c))
      + ∑ i : Fin 60, fs (ix2 e i) * w (ix2 ⟨120 + i.val, by omega⟩ c)) + b (ix1 c)) 0 := by
  unfold edgeZ
  generalize hcat : concatenate S327680x180 1 [⟨S327680x60, fd⟩, ⟨S327680x60, subf fs fd⟩, ⟨S327680x60, fs⟩] concatenates_S327680x60_S327680x60_S327680x60_S327680x180_d1 = cat
  have h1 : ∀ i : Fin 60, cat (ix2 e ⟨i.val, by omega⟩) = fd (ix2 e i) := fun i => by
    subst hcat
    pointwise []
  have h2 : ∀ i : Fin 60, cat (ix2 e ⟨60 + i.val, by omega⟩) = fs (ix2 e i) - fd (ix2 e i) := fun i => by
    subst hcat
    pointwise []
  have h3 : ∀ i : Fin 60, cat (ix2 e ⟨120 + i.val, by omega⟩) = fs (ix2 e i) := fun i => by
    subst hcat
    pointwise []
    refine (dif_neg (by omega)).trans ((dif_neg (by omega)).trans ?_)
    refine congrArg fs ((ix2_inj ..).2 ⟨rfl, Fin.ext ?_⟩)
    change 120 + i.val - 60 - 60 = i.val
    omega
  pointwise []
  rw [sum_three]
  simp only [h1, h2, h3]

end Cert.ReferenceIdeal.Graph

end
-- ==== Proof.RefNorm.lean ====
/- The reference's two normalisations over the points and over the edges, at an index. -/
module

public import proofs.«01_k».proof.Proof.Mid
public import proofs.«01_k».proof.Proof.RefGraph

@[expose] public section

set_option maxRecDepth 16384

noncomputable section

namespace Cert.ReferenceIdeal.Norm

open Idealize.ShloMosaic Idealize.ShloMosaic.TcCoe Idealize.SL.Sem
open Cert.ReferenceIdeal Cert.ReferenceIdeal.Gen Cert.ReferenceIdeal.Value Cert.ReferenceIdeal.Graph Cert.Spec

/-- A number of rows as the variances divide by it: the count less zero. -/
def dof (w : BitVec 32) : FVec Ideal S_ .f32 := subf (constant S_ .f32 w) (sitofp .f32 (constantI S_ 32 0#32))

/-- It is the count. -/
theorem dof_eq (w : BitVec 32) : dof w = constant S_ .f32 w := by
  funext j
  show (Ideal.ofBits .f32 w : EReal) - ((((0#32 : BitVec 32).toInt : ℤ) : ℝ) : EReal) = Ideal.ofBits .f32 w
  simp

/-- A positive count is above zero. -/
theorem dof_pos (w : BitVec 32) (h : (0 : EReal) < Ideal.ofBits .f32 w) :
    cmpf .ogt (dof w) (constant S_ .f32 0x00000000#32) = fun _ => 1#1 := by
  rw [dof_eq]
  funext j
  show Ideal.cmp .ogt (Ideal.ofBits .f32 w) (Ideal.ofBits .f32 0x00000000#32) = 1#1
  rw [Ideal.ofBits_zero_f32]
  simp [Ideal.cmp, h]

/-- The variances of the columns of the first layer, over the columns less their means `d`. -/
def varF (d : FVec Ideal S16384x60 .f32) : FVec Ideal S60 .f32 :=
  select (broadcastInDim S60 ![] bcast_S_S60 (cmpf .ogt (dof 0x46800000#32) (constant S_ .f32 0x00000000#32)))
    (Host.divf (Host.reduceAdd (mulf d d) (constant S_ .f32 0x00000000#32) reducesTo_S16384x60_S60_d0 h_S_)
      (broadcastInDim S60 ![] bcast_S_S60 (dof 0x46800000#32))) (broadcastInDim S60 ![] bcast_S_S60 (id (constant S_ .f32 0x7FC00000#32)))

/-- The columns less their means. -/
def devF (y : FVec Ideal S16384x60 .f32) : FVec Ideal S16384x60 .f32 :=
  subf y (broadcastInDim S16384x60 ![0, 1] bcast_S1x60_S16384x60_0_1 (Host.divf (broadcastInDim S1x60 ![1] bcast_S60_S1x60_1
    (Host.reduceAdd y (constant S_ .f32 0x00000000#32) reducesTo_S16384x60_S60_d0 h_S_)) (broadcastInDim S1x60 ![] bcast_S_S1x60 (constant S_ .f32 0x46800000#32))))

/-- The normalised columns, from their variances `v`. -/
def bnF (y : FVec Ideal S16384x60 .f32) (v g b : FVec Ideal S60 .f32) : FVec Ideal S16384x60 .f32 :=
  addf (mulf (Host.divf (subf y (broadcastInDim S16384x60 ![0, 1] bcast_S1x60_S16384x60_0_1 (broadcastInDim S1x60 ![1] bcast_S60_S1x60_1
    (Host.divf (Host.reduceAdd y (constant S_ .f32 0x00000000#32) reducesTo_S16384x60_S60_d0 h_S_) (broadcastInDim S60 ![] bcast_S_S60 (constant S_ .f32 0x46800000#32))))))
    (broadcastInDim S16384x60 ![0, 1] bcast_S1x60_S16384x60_0_1 (broadcastInDim S1x60 ![1] bcast_S60_S1x60_1
      (Host.sqrt (addf v (broadcastInDim S60 ![] bcast_S_S60 (constant S_ .f32 0x3727C5AC#32)))))))
    (broadcastInDim S16384x60 ![0, 1] bcast_S1x60_S16384x60_0_1 (broadcastInDim S1x60 ![1] bcast_S60_S1x60_1 g)))
    (broadcastInDim S16384x60 ![0, 1] bcast_S1x60_S16384x60_0_1 (broadcastInDim S1x60 ![1] bcast_S60_S1x60_1 b))

/-- The variance at an index. -/
theorem varF_apply (d : FVec Ideal S16384x60 .f32) (c : Fin 60) :
    (varF d (ix1 c) : EReal) = meanC (Ideal.ofBits .f32 0x46800000#32) (fun r c => d (ix2 r c) * d (ix2 r c)) c := by
  unfold varF
  rw [dof_pos _ (by rw [bits_points]; exact EReal.coe_pos.2 (by norm_num)), dof_eq]
  pointwise []
  rfl

/-- The normalised columns at an index. -/
theorem bnF_apply (y : FVec Ideal S16384x60 .f32) (g b : FVec Ideal S60 .f32) (r : Fin 16384) (c : Fin 60) :
    (bnF y (varF (devF y)) g b (ix2 r c) : EReal)
      = bnC (Ideal.ofBits .f32 0x46800000#32) (fun r c => y (ix2 r c)) (fun c => g (ix1 c)) (fun c => b (ix1 c)) r c := by
  have e := varF_apply (devF y) c
  have h (r : Fin 16384) (c : Fin 60) : (devF y (ix2 r c) : EReal) = y (ix2 r c) - meanC (Ideal.ofBits .f32 0x46800000#32) (fun r c => y (ix2 r c)) c := by
    pointwise [devF]
    rfl
  simp only [h] at e
  generalize varF (devF y) = v at e ⊢
  pointwise [bnF]
  rw [e]
  rfl

/-- The variances of the columns of the second layer, over the columns less their means `d`. -/
def varZ (d : FVec Ideal S327680x128 .f32) : FVec Ideal S128 .f32 :=
  select (broadcastInDim S128 ![] bcast_S_S128 (cmpf .ogt (dof 0x48A00000#32) (constant S_ .f32 0x00000000#32)))
    (Host.divf (Host.reduceAdd (mulf d d) (constant S_ .f32 0x00000000#32) reducesTo_S327680x128_S128_d0 h_S_)
      (broadcastInDim S128 ![] bcast_S_S128 (dof 0x48A00000#32))) (broadcastInDim S128 ![] bcast_S_S128 (id (constant S_ .f32 0x7FC00000#32)))

/-- The columns less their means. -/
def devZ (y : FVec Ideal S327680x128 .f32) : FVec Ideal S327680x128 .f32 :=
  subf y (broadcastInDim S327680x128 ![0, 1] bcast_S1x128_S327680x128_0_1 (Host.divf (broadcastInDim S1x128 ![1] bcast_S128_S1x128_1
    (Host.reduceAdd y (constant S_ .f32 0x00000000#32) reducesTo_S327680x128_S128_d0 h_S_)) (broadcastInDim S1x128 ![] bcast_S_S1x128 (constant S_ .f32 0x48A00000#32))))

/-- The normalised columns, from their variances `v`. -/
def bnZ (y : FVec Ideal S327680x128 .f32) (v g b : FVec Ideal S128 .f32) : FVec Ideal S327680x128 .f32 :=
  addf (mulf (Host.divf (subf y (broadcastInDim S327680x128 ![0, 1] bcast_S1x128_S327680x128_0_1 (broadcastInDim S1x128 ![1] bcast_S128_S1x128_1
    (Host.divf (Host.reduceAdd y (constant S_ .f32 0x00000000#32) reducesTo_S327680x128_S128_d0 h_S_) (broadcastInDim S128 ![] bcast_S_S128 (constant S_ .f32 0x48A00000#32))))))
    (broadcastInDim S327680x128 ![0, 1] bcast_S1x128_S327680x128_0_1 (broadcastInDim S1x128 ![1] bcast_S128_S1x128_1
      (Host.sqrt (addf v (broadcastInDim S128 ![] bcast_S_S128 (constant S_ .f32 0x3727C5AC#32)))))))
    (broadcastInDim S327680x128 ![0, 1] bcast_S1x128_S327680x128_0_1 (broadcastInDim S1x128 ![1] bcast_S128_S1x128_1 g)))
    (broadcastInDim S327680x128 ![0, 1] bcast_S1x128_S327680x128_0_1 (broadcastInDim S1x128 ![1] bcast_S128_S1x128_1 b))

/-- The variance at an index. -/
theorem varZ_apply (d : FVec Ideal S327680x128 .f32) (c : Fin 128) :
    (varZ d (ix1 c) : EReal) = meanC (Ideal.ofBits .f32 0x48A00000#32) (fun r c => d (ix2 r c) * d (ix2 r c)) c := by
  unfold varZ
  rw [dof_pos _ (by rw [bits_edges]; exact EReal.coe_pos.2 (by norm_num)), dof_eq]
  pointwise []
  rfl

/-- The normalised columns at an index. -/
theorem bnZ_apply (y : FVec Ideal S327680x128 .f32) (g b : FVec Ideal S128 .f32) (r : Fin 327680) (c : Fin 128) :
    (bnZ y (varZ (devZ y)) g b (ix2 r c) : EReal)
      = bnC (Ideal.ofBits .f32 0x48A00000#32) (fun r c => y (ix2 r c)) (fun c => g (ix1 c)) (fun c => b (ix1 c)) r c := by
  have e := varZ_apply (devZ y) c
  have h (r : Fin 327680) (c : Fin 128) : (devZ y (ix2 r c) : EReal) = y (ix2 r c) - meanC (Ideal.ofBits .f32 0x48A00000#32) (fun r c => y (ix2 r c)) c := by
    pointwise [devZ]
    rfl
  simp only [h] at e
  generalize varZ (devZ y) = v at e ⊢
  pointwise [bnZ]
  rw [e]
  rfl

/-- The program's normalised first layer. -/
theorem v74_eq (V0 : Valuation τ sig (Elt Ideal)) :
    res_main_v74 V0 = bnF (res_main_v55 V0) (varF (devF (res_main_v55 V0))) (V0 (Proc.devRef .tc main_arg5)) (V0 (Proc.devRef .tc main_arg6)) := rfl

/-- The first dense layer with the greatest over the points of each cloud and the rectifier. -/
def poolR (y : FVec Ideal S16384x128 .f32) (w : FVec Ideal S128x1024 .f32) (b : FVec Ideal S1024 .f32) : FVec Ideal S16x1024 .f32 :=
  maximumf (Host.reduce FloatOps.maximumf (shapeCast S16x1024x1024 (addf (Host.dotGeneral dot_S16384x128_S128x1024_S16384x1024_1_0_0_1_n_n none y w)
    (broadcastInDim S16384x1024 ![0, 1] bcast_S1x1024_S16384x1024_0_1 (broadcastInDim S1x1024 ![1] bcast_S1024_S1x1024_1 b))) shapeCasts_S16384x1024_S16x1024x1024)
    (constant S_ .f32 0xFF800000#32) reducesTo_S16x1024x1024_S16x1024_d1 h_S_) (broadcastInDim S16x1024 ![] bcast_S_S16x1024 (constant S_ .f32 0x00000000#32))

/-- The program's pooled values. -/
theorem v137_eq (V0 : Valuation τ sig (Elt Ideal)) :
    res_main_v137 V0 = poolR (top128 (bnZ (res_main_v109 V0) (varZ (devZ (res_main_v109 V0))) (V0 (Proc.devRef .tc main_arg9)) (V0 (Proc.devRef .tc main_arg10))))
      (V0 (Proc.devRef .tc main_arg11)) (V0 (Proc.devRef .tc main_arg12)) := rfl

/-- The greatest along the middle axis of an array of any extents. -/
theorem colmax_apply {l n m : ℕ} (y : FVec Ideal ⟨3, ![l, n, m]⟩ .f32) (h : (⟨3, ![l, n, m]⟩ : Shape).ReducesTo [1] ⟨2, ![l, m]⟩) (r : Fin l) (c : Fin m) :
    (Host.reduce (FloatOps.maximumf (F := Ideal) (φ := .f32)) y (constant S_ .f32 0xFF800000#32) h h_S_ (ix2 r c) : Ideal .f32) = Finset.univ.sup fun q : Fin n => (y (ix3 r q c) : EReal) := by
  pointwise []
  rw [ofBits_bot]
  rfl

/-- The greatest of each cloud's values with the rectifier. -/
def poolM (v : FVec Ideal S16x1024x1024 .f32) : FVec Ideal S16x1024 .f32 :=
  maximumf (Host.reduce FloatOps.maximumf v
    (constant S_ .f32 0xFF800000#32) reducesTo_S16x1024x1024_S16x1024_d1 h_S_) (broadcastInDim S16x1024 ![] bcast_S_S16x1024 (constant S_ .f32 0x00000000#32))

/-- The rectifier at an index. -/
theorem relu1024_apply (z : FVec Ideal S16x1024 .f32) (r : Fin 16) (c : Fin 1024) :
    (maximumf z (broadcastInDim S16x1024 ![] bcast_S_S16x1024 (constant S_ .f32 0x00000000#32)) (ix2 r c) : EReal) = max (z (ix2 r c) : EReal) 0 := by
  pointwise []

/-- The greatest of a cloud's values at an index. -/
theorem poolM_apply (v : FVec Ideal S16x1024x1024 .f32) (r : Fin 16) (c : Fin 1024) :
    (poolM v (ix2 r c) : EReal) = max (Finset.univ.sup fun p : Fin 1024 => (v (ix3 r p c) : EReal)) 0 := by
  exact (relu1024_apply _ r c).trans (congrArg (fun z : EReal => max z 0) (colmax_apply v reducesTo_S16x1024x1024_S16x1024_d1 r c))

/-- The dense layer before the pooling. -/
def lin128 (y : FVec Ideal S16384x128 .f32) (w : FVec Ideal S128x1024 .f32) (b : FVec Ideal S1024 .f32) : FVec Ideal S16384x1024 .f32 :=
  addf (Host.dotGeneral dot_S16384x128_S128x1024_S16384x1024_1_0_0_1_n_n none y w)
    (broadcastInDim S16384x1024 ![0, 1] bcast_S1x1024_S16384x1024_0_1 (broadcastInDim S1x1024 ![1] bcast_S1024_S1x1024_1 b))

/-- The dense layer at an index. -/
theorem lin128_apply (y : FVec Ideal S16384x128 .f32) (w : FVec Ideal S128x1024 .f32) (b : FVec Ideal S1024 .f32) (q : Fin 16384) (c : Fin 1024) :
    (lin128 y w b (ix2 q c) : EReal) = (∑ k : Fin 128, (y (ix2 q k) : EReal) * w (ix2 k c)) + b (ix1 c) := by
  pointwise [lin128]

/-- The points' values cloud by cloud. -/
theorem clouds_apply (v : FVec Ideal S16384x1024 .f32) (r : Fin 16) (p : Fin 1024) (c : Fin 1024) :
    shapeCast S16x1024x1024 v shapeCasts_S16384x1024_S16x1024x1024 (ix3 r p c) = v (ix2 (Knn.pt r p) c) :=
  shapeCast_apply _ _ _ _ (by
    simp [Shape.rowMajor_val_three, Shape.rowMajor_val_two, Knn.pt])

/-- A pooled value. -/
theorem poolR_apply (y : FVec Ideal S16384x128 .f32) (w : FVec Ideal S128x1024 .f32) (b : FVec Ideal S1024 .f32) (r : Fin 16) (c : Fin 1024) :
    (poolR y w b (ix2 r c) : EReal) = max (Finset.univ.sup fun p : Fin 1024 => (∑ k : Fin 128, (y (ix2 (Knn.pt r p) k) : EReal) * w (ix2 k c)) + b (ix1 c)) 0 := by
  have e : poolR y w b = poolM (shapeCast S16x1024x1024 (lin128 y w b) shapeCasts_S16384x1024_S16x1024x1024) := rfl
  rw [e, poolM_apply]
  simp only [clouds_apply, lin128_apply]

end Cert.ReferenceIdeal.Norm

end
-- ==== Proof.Hosts.lean ====
/- What the kernel program's host operations between the calls leave. -/
module

public import proofs.«01_k».proof.Proof.RefNorm
public import proofs.«01_k».proof.Proof.Gen.KernelIdeal.Frame

@[expose] public section

set_option maxRecDepth 16384

noncomputable section

namespace Cert.KernelIdeal.Hosts

open Idealize.ShloMosaic Idealize.ShloMosaic.TcCoe Idealize.SL.Sem
open Cert.KernelIdeal Cert.KernelIdeal.Gen Cert.Spec

variable (W : Valuation τ sig (Elt Ideal))

/-- The clouds. -/
theorem host0_v0 : (StableHlo.after hostOps0 W (Proc.devRef .tc main_v0) : S16x1024x3.Idx → Ideal .f32)
    = shapeCast S16x1024x3 (W (Proc.devRef .tc main_arg0)) shapeCasts_S16384x3_S16x1024x3 := by
  after_results
  rfl

/-- The clouds transposed. -/
theorem host0_v1 : (StableHlo.after hostOps0 W (Proc.devRef .tc main_v1) : S16x3x1024.Idx → Ideal .f32)
    = transpose S16x3x1024 [0, 2, 1] (shapeCast S16x1024x3 (W (Proc.devRef .tc main_arg0)) shapeCasts_S16384x3_S16x1024x3) transposes_S16x1024x3_S16x3x1024_0_2_1 := by
  after_results
  rfl

/-- The first layer's weights. -/
theorem host0_v3 : (StableHlo.after hostOps0 W (Proc.devRef .tc main_v3) : S3x60.Idx → Ideal .f32) = W (Proc.devRef .tc main_arg3) := by
  after_results
  rfl

/-- The first layer's offsets. -/
theorem host0_v4 : (StableHlo.after hostOps0 W (Proc.devRef .tc main_v4) : S1x60.Idx → Ideal .f32)
    = shapeCast S1x60 (W (Proc.devRef .tc main_arg4)) shapeCasts_S60_S1x60 := by
  after_results
  rfl

/-- The features row by row. -/
def rowsF (f : FVec Ideal S16x1024x60 .f32) : FVec Ideal S16384x60 .f32 := shapeCast S16384x60 f shapeCasts_S16x1024x60_S16384x60

/-- The normalised features. -/
theorem host1_v26 : (StableHlo.after hostOps1_2 (StableHlo.after hostOps1_1 (StableHlo.after hostOps1 W)) (Proc.devRef .tc main_v26) : S16x1024x60.Idx → Ideal .f32)
    = shapeCast S16x1024x60 (Cert.ReferenceIdeal.Norm.bnF (rowsF (W (Proc.devRef .tc main_v5_1)))
        (Cert.ReferenceIdeal.Norm.varF (Cert.ReferenceIdeal.Norm.devF (rowsF (W (Proc.devRef .tc main_v5_1)))))
        (W (Proc.devRef .tc main_arg5)) (W (Proc.devRef .tc main_arg6))) shapeCasts_S16384x60_S16x1024x60 := by
  after_results
  rfl

/-- The first part of the second layer's weights. -/
theorem host1_v27 : (StableHlo.after hostOps1_2 W (Proc.devRef .tc main_v27) : S60x128.Idx → Ideal .f32)
    = extractStridedSlice S60x128 ![0, 0] (W (Proc.devRef .tc main_arg7)) slices_S180x128_S60x128_0_0 := by
  after_results

/-- The second part. -/
theorem host1_v28 : (StableHlo.after hostOps1_2 W (Proc.devRef .tc main_v28) : S60x128.Idx → Ideal .f32)
    = extractStridedSlice S60x128 ![60, 0] (W (Proc.devRef .tc main_arg7)) slices_S180x128_S60x128_60_0 := by
  after_results

/-- The third part. -/
theorem host1_v29 : (StableHlo.after hostOps1_2 W (Proc.devRef .tc main_v29) : S60x128.Idx → Ideal .f32)
    = extractStridedSlice S60x128 ![120, 0] (W (Proc.devRef .tc main_arg7)) slices_S180x128_S60x128_120_0 := by
  after_results

/-- The second layer's offsets. -/
theorem host1_v30 : (StableHlo.after hostOps1_2 W (Proc.devRef .tc main_v30) : S1x128.Idx → Ideal .f32)
    = shapeCast S1x128 (W (Proc.devRef .tc main_arg8)) shapeCasts_S128_S1x128 := by
  after_results
  rfl

/-- The mean over the edges, from the clouds' sums. -/
def meanE (s : FVec Ideal S16x1x128 .f32) : FVec Ideal S128 .f32 :=
  Host.divf (Host.reduceAdd s (constant S_ .f32 0x00000000#32) reducesTo_S16x1x128_S128_d0_1 h_S_) (broadcastInDim S128 ![] bcast_S_S128 (constant S_ .f32 0x48A00000#32))

/-- The normalised greatest values, from the mean and the variance. -/
def bnE (y : FVec Ideal S16x1024x128 .f32) (u v g b : FVec Ideal S128 .f32) : FVec Ideal S16x1024x128 .f32 :=
  addf (mulf (Host.divf (subf y (broadcastInDim S16x1024x128 ![0, 1, 2] bcast_S1x1x128_S16x1024x128_0_1_2 (broadcastInDim S1x1x128 ![2] bcast_S128_S1x1x128_2 u)))
    (broadcastInDim S16x1024x128 ![0, 1, 2] bcast_S1x1x128_S16x1024x128_0_1_2 (broadcastInDim S1x1x128 ![2] bcast_S128_S1x1x128_2
      (Host.sqrt (addf v (broadcastInDim S128 ![] bcast_S_S128 (constant S_ .f32 0x3727C5AC#32)))))))
    (broadcastInDim S16x1024x128 ![0, 1, 2] bcast_S1x1x128_S16x1024x128_0_1_2 (broadcastInDim S1x1x128 ![2] bcast_S128_S1x1x128_2 g)))
    (broadcastInDim S16x1024x128 ![0, 1, 2] bcast_S1x1x128_S16x1024x128_0_1_2 (broadcastInDim S1x1x128 ![2] bcast_S128_S1x1x128_2 b))

/-- The normalised greatest values. -/
theorem host2_v54 : (StableHlo.after hostOps2 W (Proc.devRef .tc main_v54) : S16x1024x128.Idx → Ideal .f32)
    = bnE (W (Proc.devRef .tc main_v31_0)) (meanE (W (Proc.devRef .tc main_v31_1)))
        (subf (meanE (W (Proc.devRef .tc main_v31_2))) (mulf (meanE (W (Proc.devRef .tc main_v31_1))) (meanE (W (Proc.devRef .tc main_v31_1)))))
        (W (Proc.devRef .tc main_arg9)) (W (Proc.devRef .tc main_arg10)) := by
  after_results
  rfl

/-- The pooled values with their offsets. -/
def addRow (y : FVec Ideal S16x1x1024 .f32) (b : FVec Ideal S1024 .f32) : FVec Ideal S16x1024 .f32 :=
  addf (shapeCast S16x1024 y shapeCasts_S16x1x1024_S16x1024) (broadcastInDim S16x1024 ![0, 1] bcast_S1x1024_S16x1024_0_1 (broadcastInDim S1x1024 ![1] bcast_S1024_S1x1024_1 b))

/-- The head's first input. -/
theorem host3_v59 : (StableHlo.after hostOps3 W (Proc.devRef .tc main_v59) : S16x1024.Idx → Ideal .f32)
    = addRow (W (Proc.devRef .tc main_v55)) (W (Proc.devRef .tc main_arg12)) := by
  after_results
  rfl

/-- The head's input from argument 13. -/
theorem host3_v60 : (StableHlo.after hostOps3 W (Proc.devRef .tc main_v60) : S1x1024.Idx → Ideal .f32)
    = shapeCast S1x1024 (W (Proc.devRef .tc main_arg13)) shapeCasts_S1024_S1x1024 := by
  after_results
  rfl

/-- The head's input from argument 14. -/
theorem host3_v61 : (StableHlo.after hostOps3 W (Proc.devRef .tc main_v61) : S1x1024.Idx → Ideal .f32)
    = shapeCast S1x1024 (W (Proc.devRef .tc main_arg14)) shapeCasts_S1024_S1x1024 := by
  after_results
  rfl

/-- The head's input from argument 16. -/
theorem host3_v62 : (StableHlo.after hostOps3 W (Proc.devRef .tc main_v62) : S1x512.Idx → Ideal .f32)
    = shapeCast S1x512 (W (Proc.devRef .tc main_arg16)) shapeCasts_S512_S1x512 := by
  after_results
  rfl

/-- The head's input from argument 17. -/
theorem host3_v63 : (StableHlo.after hostOps3 W (Proc.devRef .tc main_v63) : S1x512.Idx → Ideal .f32)
    = shapeCast S1x512 (W (Proc.devRef .tc main_arg17)) shapeCasts_S512_S1x512 := by
  after_results
  rfl

/-- The head's input from argument 18. -/
theorem host3_v64 : (StableHlo.after hostOps3 W (Proc.devRef .tc main_v64) : S1x512.Idx → Ideal .f32)
    = shapeCast S1x512 (W (Proc.devRef .tc main_arg18)) shapeCasts_S512_S1x512 := by
  after_results
  rfl

/-- The head's input from argument 20. -/
theorem host3_v65 : (StableHlo.after hostOps3 W (Proc.devRef .tc main_v65) : S1x265.Idx → Ideal .f32)
    = shapeCast S1x265 (W (Proc.devRef .tc main_arg20)) shapeCasts_S265_S1x265 := by
  after_results
  rfl

/-- The head's input from argument 21. -/
theorem host3_v66 : (StableHlo.after hostOps3 W (Proc.devRef .tc main_v66) : S1x265.Idx → Ideal .f32)
    = shapeCast S1x265 (W (Proc.devRef .tc main_arg21)) shapeCasts_S265_S1x265 := by
  after_results
  rfl

/-- The head's input from argument 22. -/
theorem host3_v67 : (StableHlo.after hostOps3 W (Proc.devRef .tc main_v67) : S1x265.Idx → Ideal .f32)
    = shapeCast S1x265 (W (Proc.devRef .tc main_arg22)) shapeCasts_S265_S1x265 := by
  after_results
  rfl

/-- The head's input from argument 24. -/
theorem host3_v68 : (StableHlo.after hostOps3 W (Proc.devRef .tc main_v68) : S1x40.Idx → Ideal .f32)
    = shapeCast S1x40 (W (Proc.devRef .tc main_arg24)) shapeCasts_S40_S1x40 := by
  after_results
  rfl

end Cert.KernelIdeal.Hosts

end
-- ==== Proof.Round.lean ====
/- One round of the first call's neighbour search, as functions of the remaining distances: the column chosen in
   each row, the distances with that column masked, and the running maximum of the edge features; each read at an
   index. -/
module

public import proofs.«01_k».proof.Proof.Select
public import proofs.«01_k».proof.Proof.Gen.KernelIdeal.Skeleton
public import Idealize.ShloMosaic.Lib.Pointwise

@[expose] public section

set_option maxRecDepth 16384

noncomputable section

namespace Cert.KernelIdeal.Round

open Idealize.ShloMosaic Idealize.ShloMosaic.TcCoe Idealize.SL.Sem
open Cert.KernelIdeal Cert.KernelIdeal.Gen

/-- The column numbers. -/
def colV : IVec S1024x1024 32 := iota .tc S1024x1024 32 [1] iota_S1024x1024_d1_w32

/-- In each row, the first column whose distance equals the row's least one. -/
def selV (d : FVec Ideal S1024x1024 .f32) : IVec S1024x1 32 :=
  shapeCast S1024x1 (multiReductionI .minsi [1] S1024 (select (cmpf .oeq d (broadcastTo S1024x1024
    (shapeCast S1024x1 (multiReduction .minimumf [1] S1024 d 0x7F800000#32 reduces_S1024x1024_S1024 (.inl rfl) rfl)
      shapeCasts_S1024_S1024x1) broadcasts_S1024x1_S1024x1024)) colV (broadcast S1024x1024 1073741824#32))
    2147483647#32 reduces_S1024x1024_S1024 rfl) shapeCasts_S1024_S1024x1

/-- The mask of the chosen columns. -/
def hitV (sel : IVec S1024x1 32) : IVec S1024x1024 1 :=
  cmpi .eq colV (broadcastTo S1024x1024 sel broadcasts_S1024x1_S1024x1024)

/-- The distances after the round: the chosen column of each row holds the mask value. -/
def nextD (d : FVec Ideal S1024x1024 .f32) : FVec Ideal S1024x1024 .f32 :=
  select (hitV (selV d)) (broadcast S1024x1024 (Scalar.ofBits .f32 0x501502F9#32)) d

/-- The distances after `k` rounds. -/
def dist (d : FVec Ideal S1024x1024 .f32) : ℕ → FVec Ideal S1024x1024 .f32
  | 0 => d
  | k + 1 => nextD (dist d k)

/-- The three parts of the gathered neighbour positions. -/
def gatherV (t3 : FVec Ideal S1024x9 .bf16) (hit : IVec S1024x1024 1) : FVec Ideal S1024x9 .f32 :=
  matmul dot_S1024x1024_S1024x9_S1024x9_1_0_0_1_n_n none
    (truncf .bf16 (select hit (broadcast S1024x1024 (Scalar.ofBits .f32 0x3F800000#32))
      (broadcast S1024x1024 (Scalar.ofBits .f32 0x00000000#32))) bitsLt_bf16_f32) t3
    (constant S1024x9 .f32 0x00000000#32)

/-- The relative position of the chosen neighbour. -/
def relV (x : FVec Ideal S1024x3 .f32) (t3 : FVec Ideal S1024x9 .bf16) (hit : IVec S1024x1024 1) :
    FVec Ideal S1024x3 .f32 :=
  extf .f32 (truncf .bf16 (subf (addf (addf
    (extractStridedSlice S1024x3 ![0, 0] (gatherV t3 hit) slices_S1024x9_o0_0_S1024x3)
    (extractStridedSlice S1024x3 ![0, 3] (gatherV t3 hit) slices_S1024x9_o0_3_S1024x3))
    (extractStridedSlice S1024x3 ![0, 6] (gatherV t3 hit) slices_S1024x9_o0_6_S1024x3)) x) bitsLt_bf16_f32)
    bitsLt_bf16_f32

/-- The running maximum of the edge features after one more neighbour, at relative position `r`. -/
def stepR (r : FVec Ideal S1024x3 .f32) (w : FVec Ideal S3x60 .f32) (b : FVec Ideal S1x60 .f32)
    (f : FVec Ideal S1024x60 .f32) : FVec Ideal S1024x60 .f32 :=
  maximumf f (maximumf (addf (addf (addf
    (mulf (broadcastTo S1024x60 (extractStridedSlice S1024x1 ![0, 0] r slices_S1024x3_o0_0_S1024x1) broadcasts_S1024x1_S1024x60)
      (broadcastTo S1024x60 (extractStridedSlice S1x60 ![0, 0] w slices_S3x60_o0_0_S1x60) broadcasts_S1x60_S1024x60))
    (mulf (broadcastTo S1024x60 (extractStridedSlice S1024x1 ![0, 1] r slices_S1024x3_o0_1_S1024x1) broadcasts_S1024x1_S1024x60)
      (broadcastTo S1024x60 (extractStridedSlice S1x60 ![1, 0] w slices_S3x60_o1_0_S1x60) broadcasts_S1x60_S1024x60)))
    (mulf (broadcastTo S1024x60 (extractStridedSlice S1024x1 ![0, 2] r slices_S1024x3_o0_2_S1024x1) broadcasts_S1024x1_S1024x60)
      (broadcastTo S1024x60 (extractStridedSlice S1x60 ![2, 0] w slices_S3x60_o2_0_S1x60) broadcasts_S1x60_S1024x60)))
    (broadcastTo S1024x60 b broadcasts_S1x60_S1024x60)) (broadcast S1024x60 (Scalar.ofBits .f32 0x00000000#32)))

/-- The running maximum of the edge features after one more neighbour. -/
def stepF (x : FVec Ideal S1024x3 .f32) (t3 : FVec Ideal S1024x9 .bf16) (w : FVec Ideal S3x60 .f32)
    (b : FVec Ideal S1x60 .f32) (d : FVec Ideal S1024x1024 .f32) (f : FVec Ideal S1024x60 .f32) :
    FVec Ideal S1024x60 .f32 :=
  stepR (relV x t3 (hitV (selV d))) w b f

/-- Folding `IntOp.minsi` over words none of which is below `v`, one of which is `v`, gives `v`. -/
theorem fold_minsi_eq {n : ℕ} (init v : BitVec 32) (g : Fin n → BitVec 32) (h0 : v.toInt ≤ init.toInt)
    (h : ∀ j, v.toInt ≤ (g j).toInt) (i : Fin n) (hi : g i = v) :
    Finset.univ.fold IntOp.minsi init g = v := by
  have hom : (Finset.univ.fold IntOp.minsi init g).toInt = Finset.univ.fold min init.toInt fun j => (g j).toInt := by
    refine (Finset.fold_hom (m := BitVec.toInt) fun x y => ?_).symm
    simp only [IntOp.minsi, BitVec.slt, decide_eq_true_eq]
    split_ifs with hxy
    · exact (min_eq_left hxy.le).symm
    · exact (min_eq_right (not_lt.1 hxy)).symm
  apply BitVec.eq_of_toInt_eq
  rw [hom]
  refine le_antisymm ?_ ?_
  · exact (Finset.fold_min_le _).2 (.inr ⟨i, Finset.mem_univ _, by rw [hi]⟩)
  · exact (Finset.le_fold_min _).2 ⟨h0, fun j _ => h j⟩

/-- The word of a column number is nonnegative and reads back as the number. -/
theorem toInt_col (j : Fin 1024) : (BitVec.ofNat 32 (j : ℕ)).toInt = (j : ℕ) := by
  rw [BitVec.toInt_eq_toNat_of_lt] <;> rw [BitVec.toNat_ofNat] <;> have := j.2 <;> omega

/-- The least of a row, as a fold from `+∞`, is its value at `argLeast`. -/
theorem fold_min_eq (d : Fin 1024 → EReal) :
    Finset.univ.fold min (Ideal.ofBits .f32 0x7F800000#32) d = d (Select.argLeast d) := by
  have ht : Ideal.ofBits .f32 0x7F800000#32 = (⊤ : EReal) := by
    simp [Ideal.ofBits, Ideal.ieee]
  rw [ht]
  refine le_antisymm ?_ ?_
  · exact (Finset.fold_min_le _).2 (.inr ⟨_, Finset.mem_univ _, le_rfl⟩)
  · exact (Finset.le_fold_min _).2 ⟨le_top, fun j _ => Select.argLeast_le d j⟩

/-- The chosen column of a row is the word of the row's `argLeast`. -/
theorem selV_apply (d : FVec Ideal S1024x1024 .f32) (p : Fin 1024) :
    selV d (ix2 p 0) = BitVec.ofNat 32 (Select.argLeast fun j => (d (ix2 p j) : EReal)) := by
  pointwise [selV, colV]
  have e := fold_min_eq fun j => (d (ix2 p j) : EReal)
  rw [e]
  refine fold_minsi_eq _ _ _ ?_ ?_ (Select.argLeast fun j => (d (ix2 p j) : EReal)) ?_
  · rw [toInt_col]
    exact (Int.ofNat_lt.2 (Select.argLeast fun j => (d (ix2 p j) : EReal)).2).le.trans (by decide)
  · intro j
    beta_reduce
    by_cases h : (d (ix2 p j) : EReal) = d (ix2 p (Select.argLeast fun j => (d (ix2 p j) : EReal)))
    · rw [if_pos h, toInt_col, toInt_col]
      exact Int.ofNat_le.2 (Select.argLeast_first (fun j => (d (ix2 p j) : EReal)) j fun i => by
        beta_reduce
        rw [h]; exact Select.argLeast_le (fun j => (d (ix2 p j) : EReal)) i)
    · rw [if_neg h, toInt_col]
      exact (Int.ofNat_lt.2 (Select.argLeast fun j => (d (ix2 p j) : EReal)).2).le.trans (by decide)
  · exact if_pos rfl

/-- Two column words are equal exactly where the columns are. -/
theorem col_eq (i j : Fin 1024) : BitVec.ofNat 32 (i : ℕ) = BitVec.ofNat 32 (j : ℕ) ↔ i = j := by
  constructor
  · intro h
    have := congrArg BitVec.toInt h
    rw [toInt_col, toInt_col] at this
    exact Fin.ext (by exact_mod_cast this)
  · rintro rfl; rfl

/-- A selection on the equality of two column words is a selection on the columns. -/
theorem select_col {α : Type} (i j : Fin 1024) (a b : α) :
    Scalar.select (IntOp.cmpi .eq (BitVec.ofNat 32 (i : ℕ)) (BitVec.ofNat 32 (j : ℕ))) a b = if i = j then a else b := by
  by_cases h : i = j
  · subst h; rw [if_pos rfl]; simp [Scalar.select, IntOp.cmpi]
  · rw [if_neg h, Scalar.select, IntOp.cmpi, if_neg]
    simp only [beq_eq_false_iff_ne.2 ((col_eq i j).not.2 h)]
    decide

/-- A row of the distances after the round is the masked row. -/
theorem nextD_row (d : FVec Ideal S1024x1024 .f32) (p : Fin 1024) :
    (fun j => (nextD d (ix2 p j) : EReal))
      = Select.mask (Ideal.ofBits .f32 0x501502F9#32) fun j => (d (ix2 p j) : EReal) := by
  funext j
  pointwise [nextD, hitV, colV]
  rw [selV_apply, select_col]
  rfl

/-- A row of the distances after `k` rounds. -/
theorem dist_row (d : FVec Ideal S1024x1024 .f32) (p : Fin 1024) (k : ℕ) :
    (fun j => (dist d k (ix2 p j) : EReal))
      = (Select.mask (Ideal.ofBits .f32 0x501502F9#32))^[k] fun j => (d (ix2 p j) : EReal) := by
  induction k with
  | zero => rfl
  | succ k ih => rw [Function.iterate_succ_apply', ← ih]; exact nextD_row (dist d k) p

/-- The column chosen in round `k`. -/
theorem selV_dist (d : FVec Ideal S1024x1024 .f32) (p : Fin 1024) (k : ℕ) :
    selV (dist d k) (ix2 p 0)
      = BitVec.ofNat 32 (Select.pick (Ideal.ofBits .f32 0x501502F9#32) (fun j => (d (ix2 p j) : EReal)) k) := by
  rw [selV_apply, dist_row]; rfl

/-- A product with the mask of the chosen columns picks out their rows. -/
theorem gatherV_apply (t3 : FVec Ideal S1024x9 .bf16) (sel : IVec S1024x1 32) (p s : Fin 1024) (c : Fin 9)
    (hs : sel (ix2 p 0) = BitVec.ofNat 32 (s : ℕ)) :
    gatherV t3 (hitV sel) (ix2 p c) = t3 (ix2 s c) := by
  pointwise [gatherV, hitV, colV]
  rw [hs]
  simp only [select_col]
  exact (Finset.sum_ite_eq' Finset.univ s fun x => (t3 (ix2 x c) : EReal)).trans (if_pos (Finset.mem_univ s))

/-- The relative position of the chosen neighbour, at an index, where the three parts of the positions are the
    positions, zero and zero. -/
theorem relV_apply (x : FVec Ideal S1024x3 .f32) (t3 : FVec Ideal S1024x9 .bf16) (sel : IVec S1024x1 32)
    (p s : Fin 1024) (c : Fin 3) (hs : sel (ix2 p 0) = BitVec.ofNat 32 (s : ℕ))
    (h0 : ∀ (q : Fin 1024) (c : Fin 3), (t3 (ix2 q ⟨c, by omega⟩) : EReal) = x (ix2 q c))
    (h1 : ∀ (q : Fin 1024) (c : Fin 3), (t3 (ix2 q ⟨3 + c, by omega⟩) : EReal) = 0)
    (h2 : ∀ (q : Fin 1024) (c : Fin 3), (t3 (ix2 q ⟨6 + c, by omega⟩) : EReal) = 0) :
    relV x t3 (hitV sel) (ix2 p c) = (x (ix2 s c) : EReal) - x (ix2 p c) := by
  pointwise [relV]
  simp only [gatherV_apply t3 sel p s _ hs, h0, h1, h2, add_zero]

/-- The running maximum at relative position `r`, at an index. -/
theorem stepR_apply (r : FVec Ideal S1024x3 .f32) (w : FVec Ideal S3x60 .f32) (b : FVec Ideal S1x60 .f32)
    (f : FVec Ideal S1024x60 .f32) (p : Fin 1024) (c : Fin 60) :
    stepR r w b f (ix2 p c) = max (f (ix2 p c) : EReal)
      (max ((∑ k : Fin 3, (r (ix2 p k) : EReal) * w (ix2 k c)) + b (ix2 0 c)) 0) := by
  pointwise [stepR]
  rw [Fin.sum_univ_three]

/-- The running maximum after one more neighbour, at an index. -/
theorem stepF_apply (x : FVec Ideal S1024x3 .f32) (t3 : FVec Ideal S1024x9 .bf16) (w : FVec Ideal S3x60 .f32)
    (b : FVec Ideal S1x60 .f32) (d : FVec Ideal S1024x1024 .f32) (f : FVec Ideal S1024x60 .f32)
    (p s : Fin 1024) (c : Fin 60) (hs : selV d (ix2 p 0) = BitVec.ofNat 32 (s : ℕ))
    (h0 : ∀ (q : Fin 1024) (c : Fin 3), (t3 (ix2 q ⟨c, by omega⟩) : EReal) = x (ix2 q c))
    (h1 : ∀ (q : Fin 1024) (c : Fin 3), (t3 (ix2 q ⟨3 + c, by omega⟩) : EReal) = 0)
    (h2 : ∀ (q : Fin 1024) (c : Fin 3), (t3 (ix2 q ⟨6 + c, by omega⟩) : EReal) = 0) :
    stepF x t3 w b d f (ix2 p c) = max (f (ix2 p c) : EReal) (max
      ((∑ k : Fin 3, ((x (ix2 s k) : EReal) - x (ix2 p k)) * w (ix2 k c)) + b (ix2 0 c)) 0) := by
  refine (stepR_apply _ w b f p c).trans ?_
  exact congrArg (fun z : EReal => max (f (ix2 p c) : EReal) (max (z + b (ix2 0 c)) 0))
    (Finset.sum_congr rfl fun k _ => congrArg (fun z : EReal => z * (w (ix2 k c) : EReal))
      (relV_apply x t3 _ p s k hs h0 h1 h2))

/-- The first part of the positions is the positions. -/
theorem part0 (v : FVec Ideal S1x1024x3 .f32) (q : Fin 1024) (c : Fin 3) :
    (k0_pay5 (F := Ideal) v (ix2 q ⟨c, by omega⟩) : EReal) = v (ix3 0 q c) := by
  pointwise [k0_pay5, k0_pay3]

/-- The second part is the positions less themselves. -/
theorem part1 (v : FVec Ideal S1x1024x3 .f32) (q : Fin 1024) (c : Fin 3) :
    (k0_pay5 (F := Ideal) v (ix2 q ⟨3 + c, by omega⟩) : EReal) = (v (ix3 0 q c) : EReal) - v (ix3 0 q c) := by
  pointwise [k0_pay5, k0_pay3]

/-- The third part is the second less itself. -/
theorem part2 (v : FVec Ideal S1x1024x3 .f32) (q : Fin 1024) (c : Fin 3) :
    (k0_pay5 (F := Ideal) v (ix2 q ⟨6 + c, by omega⟩) : EReal)
      = ((v (ix3 0 q c) : EReal) - v (ix3 0 q c)) - ((v (ix3 0 q c) : EReal) - v (ix3 0 q c)) := by
  pointwise [k0_pay5, k0_pay3]
  have e1 : ¬ 6 + (c : ℕ) < 3 := by omega
  have e2 : ¬ 6 + (c : ℕ) - 3 < 3 := by omega
  have e3 : 6 + (c : ℕ) - 3 - 3 = c := by omega
  simp only [dif_neg e1, dif_neg e2, e3]

/-- The distances before the first round: the mask value on the diagonal, elsewhere the squared lengths of the two
    points less twice their product. -/
theorem dist0_apply (v : FVec Ideal S1x1024x3 .f32) (vt : FVec Ideal S1x3x1024 .f32) (p j : Fin 1024) :
    (k0_pay4 (F := Ideal) v vt (ix2 p j) : EReal) = if p = j then Ideal.ofBits .f32 0x501502F9#32 else
      ((∑ k : Fin 3, (v (ix3 0 p k) : EReal) * v (ix3 0 p k)) + ∑ k : Fin 3, (vt (ix3 0 k j) : EReal) * vt (ix3 0 k j))
        - Ideal.ofBits .f32 0x40000000#32 * ∑ k : Fin 3, (v (ix3 0 p k) : EReal) * vt (ix3 0 k j) := by
  pointwise [k0_pay4, k0_pay3]
  rw [select_col]

end Cert.KernelIdeal.Round

end
-- ==== Proof.Stage1.lean ====
/- The first call: the payloads its body stores are the twenty rounds of Round.lean, and its two result arrays at an
   index. -/
module

public import proofs.«01_k».proof.Proof.Round
public import proofs.«01_k».proof.Proof.Gen.KernelIdeal.Frame
public import Idealize.ShloMosaic.Lib.Pipeline.ValueKit

@[expose] public section

set_option maxRecDepth 16384

noncomputable section

namespace Cert.KernelIdeal.Round

open Idealize.ShloMosaic Idealize.ShloMosaic.TcCoe Idealize.SL.Sem
open Cert.KernelIdeal Cert.KernelIdeal.Gen

section Chain

variable (x0 : Vec Ideal S1x1024x3 .f32) (x1 : Vec Ideal S1x3x1024 .f32) (x2 : Vec Ideal S3x60 .f32) (x3 : Vec Ideal S1x60 .f32)

/-- The distances before the first round. -/
abbrev D0 : FVec Ideal S1024x1024 .f32 := k0_pay117 x0 x1 x2 x3

/-- One more round. -/
theorem step {a b d : FVec Ideal S1024x1024 .f32} {k : ℕ} (ha : a = dist d k) (h : b = nextD a) : b = dist d (k + 1) :=
  h.trans (congrArg nextD ha)

/-- Two more rounds. -/
theorem step2 {a b d : FVec Ideal S1024x1024 .f32} {k : ℕ} (ha : a = dist d k) (h : b = nextD (nextD a)) :
    b = dist d (k + 2) :=
  step (step ha rfl) h

/-! The named distances are the rounds' distances. -/

theorem d1 : k0_pay122 x0 x1 x2 x3 = dist (D0 x0 x1 x2 x3) 1 := rfl
theorem d3 : k0_pay124 x0 x1 x2 x3 = dist (D0 x0 x1 x2 x3) 3 := step2 (d1 x0 x1 x2 x3) rfl
theorem d4 : k0_pay125 x0 x1 x2 x3 = dist (D0 x0 x1 x2 x3) 4 := step (d3 x0 x1 x2 x3) rfl
theorem d5 : k0_pay126 x0 x1 x2 x3 = dist (D0 x0 x1 x2 x3) 5 := step (d4 x0 x1 x2 x3) rfl
theorem d6 : k0_pay127 x0 x1 x2 x3 = dist (D0 x0 x1 x2 x3) 6 := step (d5 x0 x1 x2 x3) rfl
theorem d7 : k0_pay128 x0 x1 x2 x3 = dist (D0 x0 x1 x2 x3) 7 := step (d6 x0 x1 x2 x3) rfl
theorem d8 : k0_pay129 x0 x1 x2 x3 = dist (D0 x0 x1 x2 x3) 8 := step (d7 x0 x1 x2 x3) rfl
theorem d9 : k0_pay130 x0 x1 x2 x3 = dist (D0 x0 x1 x2 x3) 9 := step (d8 x0 x1 x2 x3) rfl
theorem d10 : k0_pay131 x0 x1 x2 x3 = dist (D0 x0 x1 x2 x3) 10 := step (d9 x0 x1 x2 x3) rfl
theorem d11 : k0_pay132 x0 x1 x2 x3 = dist (D0 x0 x1 x2 x3) 11 := step (d10 x0 x1 x2 x3) rfl
theorem d12 : k0_pay133 x0 x1 x2 x3 = dist (D0 x0 x1 x2 x3) 12 := step (d11 x0 x1 x2 x3) rfl
theorem d13 : k0_pay135 x0 x1 x2 x3 = dist (D0 x0 x1 x2 x3) 13 := step (d12 x0 x1 x2 x3) rfl
theorem d15 : k0_pay137 x0 x1 x2 x3 = dist (D0 x0 x1 x2 x3) 15 := step2 (d13 x0 x1 x2 x3) rfl
theorem d16 : k0_pay138 x0 x1 x2 x3 = dist (D0 x0 x1 x2 x3) 16 := step (d15 x0 x1 x2 x3) rfl
theorem d17 : k0_pay139 x0 x1 x2 x3 = dist (D0 x0 x1 x2 x3) 17 := step (d16 x0 x1 x2 x3) rfl
theorem d18 : k0_pay140 x0 x1 x2 x3 = dist (D0 x0 x1 x2 x3) 18 := step (d17 x0 x1 x2 x3) rfl
theorem d19 : k0_pay141 x0 x1 x2 x3 = dist (D0 x0 x1 x2 x3) 19 := step (d18 x0 x1 x2 x3) rfl

/-- Twenty columns side by side. -/
def catV (g : ℕ → IVec S1024x1 32) : IVec S1024x20 32 :=
  concatenate S1024x20 1 [⟨S1024x1, g 0⟩, ⟨S1024x1, g 1⟩, ⟨S1024x1, g 2⟩, ⟨S1024x1, g 3⟩, ⟨S1024x1, g 4⟩, ⟨S1024x1, g 5⟩, ⟨S1024x1, g 6⟩, ⟨S1024x1, g 7⟩, ⟨S1024x1, g 8⟩, ⟨S1024x1, g 9⟩, ⟨S1024x1, g 10⟩, ⟨S1024x1, g 11⟩, ⟨S1024x1, g 12⟩, ⟨S1024x1, g 13⟩, ⟨S1024x1, g 14⟩, ⟨S1024x1, g 15⟩, ⟨S1024x1, g 16⟩, ⟨S1024x1, g 17⟩, ⟨S1024x1, g 18⟩, ⟨S1024x1, g 19⟩]
    concatenates_S1024x1_S1024x1_S1024x1_S1024x1_S1024x1_S1024x1_S1024x1_S1024x1_S1024x1_S1024x1_S1024x1_S1024x1_S1024x1_S1024x1_S1024x1_S1024x1_S1024x1_S1024x1_S1024x1_S1024x1_S1024x20_d1

/-- The chosen columns of the twenty rounds, side by side. -/
def idxV (d : FVec Ideal S1024x1024 .f32) : IVec S1024x20 32 := catV fun k => selV (dist d k)

/-- The first call's first result block holds the chosen columns. -/
theorem out4_eq : out0_4 x0 x1 x2 x3 = k0_pay1 (idxV (D0 x0 x1 x2 x3)) := by
  frame_out
  unfold idxV catV
  beta_reduce
  rw [← d1, ← d3, ← d4, ← d5, ← d6, ← d7, ← d8, ← d9, ← d10, ← d11, ← d12, ← d13, ← d15, ← d16, ← d17, ← d18, ← d19]
  rfl

/-- The running maximum of the edge features after `k` rounds. -/
def feats (x : FVec Ideal S1024x3 .f32) (t3 : FVec Ideal S1024x9 .bf16) (w : FVec Ideal S3x60 .f32)
    (b : FVec Ideal S1x60 .f32) (d : FVec Ideal S1024x1024 .f32) : ℕ → FVec Ideal S1024x60 .f32
  | 0 => k0_pay8
  | k + 1 => stepF x t3 w b (dist d k) (feats x t3 w b d k)

/-- The running maximum over the first call's own blocks. -/
abbrev F (k : ℕ) : FVec Ideal S1024x60 .f32 :=
  feats (k0_pay116 x0 x1 x2 x3) (k0_pay118 x0 x1 x2 x3) (k0_pay119 x0 x1 x2 x3) (k0_pay120 x0 x1 x2 x3) (D0 x0 x1 x2 x3) k

/-- The first call's second result block holds the running maximum after twenty rounds. -/
theorem out5_eq : out0_5 x0 x1 x2 x3 = shapeCast S1x1024x60 (F x0 x1 x2 x3 20) shapeCasts_S1024x60_S1x1024x60 := by
  frame_out
  have st (k : ℕ) (d : FVec Ideal S1024x1024 .f32) (h : d = dist (D0 x0 x1 x2 x3) k) :
      F x0 x1 x2 x3 (k + 1) = stepF (k0_pay116 x0 x1 x2 x3) (k0_pay118 x0 x1 x2 x3) (k0_pay119 x0 x1 x2 x3)
        (k0_pay120 x0 x1 x2 x3) d (F x0 x1 x2 x3 k) := by subst h; rfl
  rw [st 19 _ (d19 x0 x1 x2 x3), st 18 _ (d18 x0 x1 x2 x3), st 17 _ (d17 x0 x1 x2 x3), st 16 _ (d16 x0 x1 x2 x3),
    st 15 _ (d15 x0 x1 x2 x3), st 14 _ (step (d13 x0 x1 x2 x3) rfl), st 13 _ (d13 x0 x1 x2 x3), st 12 _ (d12 x0 x1 x2 x3),
    st 11 _ (d11 x0 x1 x2 x3), st 10 _ (d10 x0 x1 x2 x3), st 9 _ (d9 x0 x1 x2 x3), st 8 _ (d8 x0 x1 x2 x3),
    st 7 _ (d7 x0 x1 x2 x3), st 6 _ (d6 x0 x1 x2 x3), st 5 _ (d5 x0 x1 x2 x3), st 4 _ (d4 x0 x1 x2 x3),
    st 3 _ (d3 x0 x1 x2 x3), st 2 _ (step (d1 x0 x1 x2 x3) rfl), st 1 _ (d1 x0 x1 x2 x3), st 0 _ rfl]
  rfl

end Chain

variable (V : (c : Dev nD) → (b : Ref sig .tc) → Buf (Elt Ideal) ((c : Thread nD τ).loc b))

/-- The windows' block indices of the first call at a grid point. -/
theorem idx0 : ∀ t : Fin cfg0.N, win0_0.index t = ![(grid0.coords t 0).val, 0, 0] ∧ win0_1.index t = ![(grid0.coords t 0).val, 0, 0]
    ∧ win0_2.index t = ![0, 0] ∧ win0_3.index t = ![0, 0] ∧ win0_4.index t = ![(grid0.coords t 0).val, 0, 0]
    ∧ win0_5.index t = ![(grid0.coords t 0).val, 0, 0] := (by decide +kernel : ∀ t : Fin grid0.N, _)

end Cert.KernelIdeal.Round

end
-- ==== Proof.Call1.lean ====
/- The first call's two result arrays at an index: the nearest points of each point, and the first layer's features. -/
module

public import proofs.«01_k».proof.Proof.Stage1
public import proofs.«01_k».proof.Proof.Spec

@[expose] public section

set_option maxRecDepth 16384

noncomputable section

namespace Cert.KernelIdeal.Round

open Idealize.ShloMosaic Idealize.ShloMosaic.TcCoe Idealize.SL.Sem
open Cert.KernelIdeal Cert.KernelIdeal.Gen Cert.Spec

section Block

variable (x0 : Vec Ideal S1x1024x3 .f32) (x1 : Vec Ideal S1x3x1024 .f32) (x2 : Vec Ideal S3x60 .f32) (x3 : Vec Ideal S1x60 .f32)

/-- The cloud of points a block holds. -/
abbrev cloud (p : Fin 1024) (c : Fin 3) : EReal := x0 (ix3 0 p c)

variable (hx : ∀ (p : Fin 1024) (c : Fin 3), (x1 (ix3 0 c p) : EReal) = x0 (ix3 0 p c))

/-- Twenty columns side by side, at an index. -/
theorem catV_apply (g : ℕ → IVec S1024x1 32) (p : Fin 1024) (k : Fin 20) : catV g (ix2 p k) = g k (ix2 p 0) := by
  refine concatenate_ofFn_unit_eq (1 : Fin S1024x20.rank) (fun n : Fin 20 => g n) _ (ix2 p k) _ rfl rfl fun n i hn h0 hb => ?_
  have e : i = ix2 p 0 := by
    idx_vars i
    exact (ix2_inj ..).2 ⟨Fin.ext (hb 0 (by decide)), Fin.ext h0⟩
  have en : n = k := Fin.ext hn.symm
  rw [e, en]

/-- The columns chosen in the twenty rounds, at an index. -/
theorem idxV_apply (d : FVec Ideal S1024x1024 .f32) (p : Fin 1024) (k : Fin 20) :
    idxV d (ix2 p k) = BitVec.ofNat 32 (Select.pick far (fun j => (d (ix2 p j) : EReal)) k) :=
  (catV_apply _ p k).trans (selV_dist d p k)

include hx in
/-- The distances before the first round are the squared distances of the block's points. -/
theorem D0_row (p : Fin 1024) : (fun j => (D0 x0 x1 x2 x3 (ix2 p j) : EReal)) = sqd (cloud x0) p := by
  funext j
  have e : D0 x0 x1 x2 x3 = k0_pay4 x0 x1 := by
    unfold D0 k0_pay117
    frame_out
  rw [e, dist0_apply]
  simp only [hx]
  rfl

include hx in
/-- The first result block at an index: the word of the point's `k`-th nearest point. -/
theorem out4_apply (p : Fin 1024) (k : Fin 20) :
    out0_4 x0 x1 x2 x3 (ix3 0 p k) = BitVec.ofNat 32 (nb (cloud x0) p k) := by
  rw [out4_eq]
  pointwise [k0_pay1]
  rw [idxV_apply, D0_row x0 x1 x2 x3 hx p]
  rfl

end Block

end Cert.KernelIdeal.Round

end
-- ==== Proof.Call1b.lean ====
/- The first call's second result at an index: the first layer's features. -/
module

public import proofs.«01_k».proof.Proof.Call1

@[expose] public section

set_option maxRecDepth 16384

noncomputable section

namespace Cert.KernelIdeal.Round

open Idealize.ShloMosaic Idealize.ShloMosaic.TcCoe Idealize.SL.Sem
open Cert.KernelIdeal Cert.KernelIdeal.Gen Cert.Spec

section Block

variable (x0 : Vec Ideal S1x1024x3 .f32) (x1 : Vec Ideal S1x3x1024 .f32) (x2 : Vec Ideal S3x60 .f32) (x3 : Vec Ideal S1x60 .f32)

variable (hx : ∀ (p : Fin 1024) (c : Fin 3), (x1 (ix3 0 c p) : EReal) = x0 (ix3 0 p c))
variable (hf : ∀ (p : Fin 1024) (c : Fin 3), (x0 (ix3 0 p c) : EReal) - x0 (ix3 0 p c) = 0)

theorem P116 : k0_pay116 x0 x1 x2 x3 = k0_pay3 x0 := by unfold k0_pay116; frame_out
theorem P118 : k0_pay118 x0 x1 x2 x3 = k0_pay5 x0 := by unfold k0_pay118; frame_out
theorem P119 : k0_pay119 x0 x1 x2 x3 = k0_pay6 x2 := by unfold k0_pay119; frame_out
theorem P120 : k0_pay120 x0 x1 x2 x3 = k0_pay7 x3 := by unfold k0_pay120; frame_out

/-- The points without the block's leading axis. -/
theorem pay3_apply (p : Fin 1024) (c : Fin 3) : (k0_pay3 (F := Ideal) x0 (ix2 p c) : EReal) = x0 (ix3 0 p c) := by
  pointwise [k0_pay3]

include hx hf in
/-- The running maximum after `n` rounds at an index. -/
theorem F_apply (p : Fin 1024) (c : Fin 60) (n : ℕ) : (F x0 x1 x2 x3 n (ix2 p c) : EReal)
    = (Finset.range n).sup fun k => edge (cloud x0) (fun i c => x2 (ix2 i c)) (fun c => x3 (ix2 0 c)) (nb (cloud x0) p k) p c := by
  induction n with
  | zero =>
    refine Eq.trans ?_ (Finset.sup_empty (f := fun k => edge (cloud x0) (fun i c => x2 (ix2 i c)) (fun c => x3 (ix2 0 c)) (nb (cloud x0) p k) p c)).symm
    show (k0_pay8 (F := Ideal) (ix2 p c) : EReal) = ⊥
    pointwise [k0_pay8]
    exact ofBits_bot
  | succ n ih =>
    rw [Finset.range_add_one, Finset.sup_insert, ← ih, sup_comm]
    have hs : selV (dist (D0 x0 x1 x2 x3) n) (ix2 p 0) = BitVec.ofNat 32 (nb (cloud x0) p n) := by
      rw [selV_dist, D0_row x0 x1 x2 x3 hx p]; rfl
    refine (stepF_apply _ _ _ _ _ _ p _ c hs ?_ ?_ ?_).trans ?_
    · intro q c; rw [P116, P118, part0, pay3_apply]
    · intro q c; rw [P118, part1, hf]
    · intro q c; rw [P118, part2, hf, sub_zero]
    · refine congrArg (max (F x0 x1 x2 x3 n (ix2 p c) : EReal)) ?_
      rw [P116, P119, P120]
      simp only [pay3_apply]
      have e6 (i : Fin 3) : (k0_pay6 (F := Ideal) x2 (ix2 i c) : EReal) = x2 (ix2 i c) := by pointwise [k0_pay6]
      have e7 : (k0_pay7 (F := Ideal) x3 (ix2 0 c) : EReal) = x3 (ix2 0 c) := by pointwise [k0_pay7]
      simp only [e6, e7]
      rfl

include hx hf in
/-- The second result block at an index: the point's feature. -/
theorem out5_apply (p : Fin 1024) (c : Fin 60) : (out0_5 x0 x1 x2 x3 (ix3 0 p c) : EReal)
    = feat (cloud x0) (fun i c => x2 (ix2 i c)) (fun c => x3 (ix2 0 c)) p c := by
  rw [out5_eq]
  refine Eq.trans ?_ (F_apply x0 x1 x2 x3 hx hf p c 20)
  generalize F x0 x1 x2 x3 20 = f
  pointwise []

end Block

end Cert.KernelIdeal.Round

end
-- ==== Proof.Array1.lean ====
/- The arrays the first kernel call leaves: every cloud's nearest points, and every point's features. -/
module

public import proofs.«01_k».proof.Proof.Call1b

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Round Cert.Spec

variable (V : (c : Dev nD) → (b : Ref sig .tc) → Buf (Elt Ideal) ((c : Thread nD τ).loc b))

/-- A cloud of an array of clouds. -/
def clouds (X : FVec Ideal S16x1024x3 .f32) (b : Fin 16) (p : Fin 1024) (c : Fin 3) : EReal := X (ix3 b p c)

/-- The words of the nearest points of every point of every cloud. -/
def nearW (X : FVec Ideal S16x1024x3 .f32) : IVec S16x1024x20 32 := fun y => BitVec.ofNat 32 (nb (clouds X (y 0)) (y 1) (y 2).val).val

/-- The features of every point of every cloud. -/
def featA (X : FVec Ideal S16x1024x3 .f32) (w : FVec Ideal S3x60 .f32) (b : FVec Ideal S1x60 .f32) : FVec Ideal S16x1024x60 .f32 := fun y =>
  feat (clouds X (y 0)) (fun i c => w (ix2 i c)) (fun c => b (ix2 0 c)) (y 1) (y 2)

/-- The cloud a grid point works on. -/
def at0 (t : Fin cfg0.N) : Fin 16 := ⟨(grid0.coords t 0).val, (grid0.coords t 0).isLt⟩

/-- The block of points. -/
theorem in0_0 (c : Dev nD) (t : Fin cfg0.N) (p : Fin 1024) (i : Fin 3) :
    iblk0 V c 0 t (ix3 0 p i) = V c main_v0 (ix3 (at0 t) p i) := by
  blk_ext [iblk0, idx0 t, at0]

/-- The block of points, transposed. -/
theorem in0_1 (c : Dev nD) (t : Fin cfg0.N) (p : Fin 1024) (i : Fin 3) :
    iblk0 V c 1 t (ix3 0 i p) = V c main_v1 (ix3 (at0 t) i p) := by
  blk_ext [iblk0, idx0 t, at0]

/-- The block of weights. -/
theorem in0_2 (c : Dev nD) (t : Fin cfg0.N) (i : Fin 3) (j : Fin 60) :
    iblk0 V c 2 t (ix2 i j) = V c main_v3 (ix2 i j) := by
  blk_ext [iblk0, idx0 t]

/-- The block of offsets. -/
theorem in0_3 (c : Dev nD) (t : Fin cfg0.N) (j : Fin 60) :
    iblk0 V c 3 t (ix2 0 j) = V c main_v4 (ix2 0 j) := by
  blk_ext [iblk0, idx0 t]

/-- The first output of the first call. -/
theorem final0_4 (c : Dev nD) (hx : ∀ b p i, V c main_v1 (ix3 b i p) = V c main_v0 (ix3 b p i)) :
    (dat0 V c).arrAt 4 cfg0.N = nearW (V c main_v0) := by
  refine (dat0 V c).arrAt_eq_of_covers 4 (nearW (V c main_v0)) (by decide +kernel) fun t _ y => ?_
  blk_simp
  rw [after0_4]
  idx_vars y
  have e : ((View.whole main_v5_0).slice (win0_4.rect t)).emb (ix3 y0 y1 y2) = ix3 (at0 t) y1 y2 := by
    blk_ext [idx0 t, at0]
  rw [e]
  obtain rfl : y0 = 0 := Subsingleton.elim _ _
  rw [out4_apply _ _ _ _ fun p i => by rw [in0_0, in0_1, hx]]
  have hc : cloud (iblk0 V c 0 t) = clouds (V c main_v0) (at0 t) := by
    funext p i
    exact in0_0 V c t p i
  rw [hc]
  rfl

/-- The second output of the first call. -/
theorem final0_5 (c : Dev nD) (hx : ∀ b p i, V c main_v1 (ix3 b i p) = V c main_v0 (ix3 b p i))
    (hf : ∀ b p i, clouds (V c main_v0) b p i - clouds (V c main_v0) b p i = 0) :
    (dat0 V c).arrAt 5 cfg0.N = featA (V c main_v0) (V c main_v3) (V c main_v4) := by
  refine (dat0 V c).arrAt_eq_of_covers 5 (featA (V c main_v0) (V c main_v3) (V c main_v4)) (by decide +kernel) fun t _ y => ?_
  blk_simp
  rw [after0_5]
  idx_vars y
  have e : ((View.whole main_v5_1).slice (win0_5.rect t)).emb (ix3 y0 y1 y2) = ix3 (at0 t) y1 y2 := by
    blk_ext [idx0 t, at0]
  rw [e]
  obtain rfl : y0 = 0 := Subsingleton.elim _ _
  have hc : cloud (iblk0 V c 0 t) = clouds (V c main_v0) (at0 t) := by
    funext p i
    exact in0_0 V c t p i
  refine (out5_apply _ _ _ _ (fun p i => by rw [in0_0, in0_1, hx]) (fun p i => by rw [in0_0]; exact hf _ _ _) y1 y2).trans ?_
  rw [hc]
  simp only [in0_2, in0_3]
  rfl

end Cert.KernelIdeal.Arrays

end
-- ==== Proof.Stage2.lean ====
/- The second call: its body goes through the twenty neighbours of every point, keeping the greatest value, the sum and
   the sum of squares. The payloads it stores are named here as a recursion over the neighbours. -/
module

public import proofs.«01_k».proof.Proof.Round
public import proofs.«01_k».proof.Proof.Gen.KernelIdeal.Frame
public import Idealize.ShloMosaic.Lib.Pipeline.ValueKit

@[expose] public section

set_option maxRecDepth 16384

noncomputable section

namespace Cert.KernelIdeal.Layer2

open Idealize.ShloMosaic Idealize.ShloMosaic.TcCoe Idealize.SL.Sem
open Cert.KernelIdeal Cert.KernelIdeal.Gen Cert.KernelIdeal.Round

/-- Every column of the neighbour table is a slice of it. -/
theorem slices20 (k : ℕ) : S1024x20.Slices ![0, k % 20] S1024x1 :=
  (by decide : ∀ n : Fin 20, S1024x20.Slices ![0, (n : ℕ)] S1024x1) ⟨k % 20, Nat.mod_lt _ (by decide)⟩

/-- The `k`-th neighbour of every point. -/
def colS (idx : IVec S1024x20 32) (k : ℕ) : IVec S1024x1 32 := extractStridedSlice S1024x1 ![0, k % 20] idx (slices20 k)

/-- The three parts of the gathered features. -/
def gath (t3 : FVec Ideal S1024x180 .bf16) (sel : IVec S1024x1 32) : FVec Ideal S1024x180 .f32 :=
  matmul dot_S1024x1024_S1024x180_S1024x180_1_0_0_1_n_n none
    (truncf .bf16 (select (hitV sel) (broadcast S1024x1024 (Scalar.ofBits .f32 0x3F800000#32))
      (broadcast S1024x1024 (Scalar.ofBits .f32 0x00000000#32))) bitsLt_bf16_f32) t3
    (constant S1024x180 .f32 0x00000000#32)

/-- The features of the chosen neighbours. -/
def srcV (t3 : FVec Ideal S1024x180 .bf16) (sel : IVec S1024x1 32) : FVec Ideal S1024x60 .f32 :=
  addf (addf (extractStridedSlice S1024x60 ![0, 0] (gath t3 sel) slices_S1024x180_o0_0_S1024x60)
    (extractStridedSlice S1024x60 ![0, 60] (gath t3 sel) slices_S1024x180_o0_60_S1024x60))
    (extractStridedSlice S1024x60 ![0, 120] (gath t3 sel) slices_S1024x180_o0_120_S1024x60)

/-- The layer's value from the neighbours' features `s`. -/
def zR (v : FVec Ideal S1024x60 .f32) (wb wc : FVec Ideal S60x128 .bf16) (b : FVec Ideal S1x128 .f32)
    (pm : FVec Ideal S1024x128 .f32) (s : FVec Ideal S1024x60 .f32) : FVec Ideal S1024x128 .f32 :=
  maximumf (addf (addf (addf pm
    (matmul dot_S1024x60_S60x128_S1024x128_1_0_0_1_n_n none (truncf .bf16 (subf s v) bitsLt_bf16_f32) wb
      (constant S1024x128 .f32 0x00000000#32)))
    (matmul dot_S1024x60_S60x128_S1024x128_1_0_0_1_n_n none (truncf .bf16 s bitsLt_bf16_f32) wc
      (constant S1024x128 .f32 0x00000000#32)))
    (broadcastTo S1024x128 b broadcasts_S1x128_S1024x128)) (broadcast S1024x128 (Scalar.ofBits .f32 0x00000000#32))

/-- A row vector's sum with the column sums of `z`. -/
def addCols (a : FVec Ideal S1x128 .f32) (z : FVec Ideal S1024x128 .f32) : FVec Ideal S1x128 .f32 :=
  addf a (shapeCast S1x128 (multiReduction .add [0] S128 z 0x00000000#32 reduces_S1024x128_S128 (.inl rfl) rfl)
    shapeCasts_S128_S1x128)

/-- The running maximum. -/
def topS (z : ℕ → FVec Ideal S1024x128 .f32) : ℕ → FVec Ideal S1024x128 .f32
  | 0 => k1_pay12
  | k + 1 => maximumf (topS z k) (z k)

/-- The running column sums. -/
def sumS (z : ℕ → FVec Ideal S1024x128 .f32) : ℕ → FVec Ideal S1x128 .f32
  | 0 => k1_pay13
  | k + 1 => addCols (sumS z k) (z k)

section Chain

variable (x0 : Vec Ideal S1x1024x60 .f32) (x1 : Vec Ideal S1x1024x20 .i32) (x2 x3 x4 : Vec Ideal S60x128 .f32) (x5 : Vec Ideal S1x128 .f32)

/-- The layer's values at the `k`-th neighbours, over the second call's own blocks. -/
def Z (k : ℕ) : FVec Ideal S1024x128 .f32 :=
  zR (k1_pay89 x0 x1 x2 x3 x4 x5) (k1_pay91 x0 x1 x2 x3 x4 x5) (k1_pay92 x0 x1 x2 x3 x4 x5) (k1_pay93 x0 x1 x2 x3 x4 x5)
    (k1_pay94 x0 x1 x2 x3 x4 x5) (srcV (k1_pay90 x0 x1 x2 x3 x4 x5) (colS (k1_pay95 x0 x1 x2 x3 x4 x5) k))

/-- The named array after one round. -/
theorem Z1 : k1_pay98 x0 x1 x2 x3 x4 x5 = Z x0 x1 x2 x3 x4 x5 1 := rfl

/-- The first output's payload is the greatest after twenty rounds. -/
theorem out6_eq : out1_6 x0 x1 x2 x3 x4 x5 = shapeCast S1x1024x128 (topS (Z x0 x1 x2 x3 x4 x5) 20) shapeCasts_S1024x128_S1x1024x128 := by
  frame_out
  rfl

/-- The second output's payload is the sum after twenty rounds. -/
theorem out7_eq : out1_7 x0 x1 x2 x3 x4 x5 = shapeCast S1x1x128 (sumS (Z x0 x1 x2 x3 x4 x5) 20) shapeCasts_S1x128_S1x1x128 := by
  frame_out
  rfl

/-- The third output's payload is the sum of squares after twenty rounds. -/
theorem out8_eq : out1_8 x0 x1 x2 x3 x4 x5
    = shapeCast S1x1x128 (sumS (fun k => mulf (Z x0 x1 x2 x3 x4 x5 k) (Z x0 x1 x2 x3 x4 x5 k)) 20) shapeCasts_S1x128_S1x1x128 := by
  frame_out
  rfl

end Chain

end Cert.KernelIdeal.Layer2

end
-- ==== Proof.Call2.lean ====
/- The second call's three results at an index: the greatest of the second layer's values over the neighbours of a point,
   and, for a cloud, the sums of the values and of their squares. -/
module

public import proofs.«01_k».proof.Proof.Stage2
public import proofs.«01_k».proof.Proof.Spec

@[expose] public section

set_option maxRecDepth 16384

noncomputable section

namespace Cert.KernelIdeal.Layer2

open Idealize.ShloMosaic Idealize.ShloMosaic.TcCoe Idealize.SL.Sem
open Cert.KernelIdeal Cert.KernelIdeal.Gen Cert.KernelIdeal.Round Cert.Spec

/-- A column of the neighbour table, at an index. -/
theorem colS_apply (idx : IVec S1024x20 32) (p : Fin 1024) (k : Fin 20) : colS idx k (ix2 p 0) = idx (ix2 p k) := by
  pointwise [colS]
  exact congrArg idx ((ix2_inj ..).2 ⟨rfl, Fin.ext (Nat.mod_eq_of_lt k.2)⟩)

/-- A product with the mask of the chosen columns picks out their rows. -/
theorem gath_apply (t3 : FVec Ideal S1024x180 .bf16) (sel : IVec S1024x1 32) (p s : Fin 1024) (c : Fin 180)
    (hs : sel (ix2 p 0) = BitVec.ofNat 32 (s : ℕ)) : (gath t3 sel (ix2 p c) : EReal) = t3 (ix2 s c) := by
  pointwise [gath, hitV, colV]
  rw [hs]
  simp only [select_col]
  exact (Finset.sum_ite_eq' Finset.univ s fun x => (t3 (ix2 x c) : EReal)).trans (if_pos (Finset.mem_univ s))

/-- The chosen neighbours' features, at an index: the sum of the three parts of the features. -/
theorem srcV_apply (x : FVec Ideal S1024x60 .f32) (t3 : FVec Ideal S1024x180 .bf16) (sel : IVec S1024x1 32)
    (p s : Fin 1024) (c : Fin 60) (hs : sel (ix2 p 0) = BitVec.ofNat 32 (s : ℕ))
    (h0 : ∀ (q : Fin 1024) (c : Fin 60), (t3 (ix2 q ⟨c, by omega⟩) : EReal) = x (ix2 q c))
    (h1 : ∀ (q : Fin 1024) (c : Fin 60), (t3 (ix2 q ⟨60 + c, by omega⟩) : EReal) = (x (ix2 q c) : EReal) - x (ix2 q c))
    (h2 : ∀ (q : Fin 1024) (c : Fin 60), (t3 (ix2 q ⟨120 + c, by omega⟩) : EReal)
      = ((x (ix2 q c) : EReal) - x (ix2 q c)) - ((x (ix2 q c) : EReal) - x (ix2 q c))) :
    (srcV t3 sel (ix2 p c) : EReal) = back (x (ix2 s c)) := by
  have e (i : Fin 180) := gath_apply t3 sel p s i hs
  unfold srcV
  generalize gath t3 sel = g at e ⊢
  pointwise []
  simp only [e, h0, h1, h2, back]

/-- The layer's value at an index. -/
theorem zR_apply (v : FVec Ideal S1024x60 .f32) (wb wc : FVec Ideal S60x128 .bf16) (b : FVec Ideal S1x128 .f32)
    (pm : FVec Ideal S1024x128 .f32) (s : FVec Ideal S1024x60 .f32) (p : Fin 1024) (c : Fin 128) :
    (zR v wb wc b pm s (ix2 p c) : EReal) = max ((((pm (ix2 p c) : EReal)
      + ∑ i : Fin 60, ((s (ix2 p i) : EReal) - v (ix2 p i)) * wb (ix2 i c))
      + ∑ i : Fin 60, (s (ix2 p i) : EReal) * wc (ix2 i c)) + b (ix2 0 c)) 0 := by
  pointwise [zR]

/-- The first part of the features is the features. -/
theorem part0 (v : FVec Ideal S1x1024x60 .f32) (q : Fin 1024) (c : Fin 60) :
    (k1_pay6 (F := Ideal) v (ix2 q ⟨c, by omega⟩) : EReal) = v (ix3 0 q c) := by
  pointwise [k1_pay6, k1_pay5, k1_pay4]

/-- The second part is the features less themselves. -/
theorem part1 (v : FVec Ideal S1x1024x60 .f32) (q : Fin 1024) (c : Fin 60) :
    (k1_pay6 (F := Ideal) v (ix2 q ⟨60 + c, by omega⟩) : EReal) = (v (ix3 0 q c) : EReal) - v (ix3 0 q c) := by
  pointwise [k1_pay6, k1_pay5, k1_pay4]

/-- The third part is the second less itself. -/
theorem part2 (v : FVec Ideal S1x1024x60 .f32) (q : Fin 1024) (c : Fin 60) :
    (k1_pay6 (F := Ideal) v (ix2 q ⟨120 + c, by omega⟩) : EReal)
      = ((v (ix3 0 q c) : EReal) - v (ix3 0 q c)) - ((v (ix3 0 q c) : EReal) - v (ix3 0 q c)) := by
  pointwise [k1_pay6, k1_pay5, k1_pay4]
  have e1 : ¬ 120 + (c : ℕ) < 60 := by omega
  have e2 : ¬ 120 + (c : ℕ) - 60 < 60 := by omega
  have e3 : 120 + (c : ℕ) - 60 - 60 = c := by omega
  simp only [dif_neg e1, dif_neg e2, e3]

/-- The running maximum at an index. -/
theorem topS_apply (z : ℕ → FVec Ideal S1024x128 .f32) (n : ℕ) (p : Fin 1024) (c : Fin 128) :
    (topS z n (ix2 p c) : EReal) = (Finset.range n).sup fun k => (z k (ix2 p c) : EReal) := by
  induction n with
  | zero =>
    refine Eq.trans ?_ (Finset.sup_empty (f := fun k => (z k (ix2 p c) : EReal))).symm
    show (k1_pay12 (F := Ideal) (ix2 p c) : EReal) = ⊥
    pointwise [k1_pay12]
    exact ofBits_bot
  | succ n ih =>
    rw [Finset.range_add_one, Finset.sup_insert, ← ih, sup_comm]
    rfl

/-- One more summand of the running column sums, at an index. -/
theorem addCols_apply (a : FVec Ideal S1x128 .f32) (z : FVec Ideal S1024x128 .f32) (c : Fin 128) :
    (addCols a z (ix2 0 c) : EReal) = a (ix2 0 c) + ∑ p : Fin 1024, (z (ix2 p c) : EReal) := by
  pointwise [addCols]

/-- The running column sums at an index. -/
theorem sumS_apply (z : ℕ → FVec Ideal S1024x128 .f32) (n : ℕ) (c : Fin 128) :
    (sumS z n (ix2 0 c) : EReal) = ∑ k ∈ Finset.range n, ∑ p : Fin 1024, (z k (ix2 p c) : EReal) := by
  induction n with
  | zero =>
    refine Eq.trans ?_ (Finset.sum_range_zero (fun k => ∑ p : Fin 1024, (z k (ix2 p c) : EReal))).symm
    show (k1_pay13 (F := Ideal) (ix2 0 c) : EReal) = 0
    pointwise [k1_pay13]
  | succ n ih =>
    rw [Finset.sum_range_succ, ← ih]
    exact addCols_apply _ _ c

section Block

variable (x0 : Vec Ideal S1x1024x60 .f32) (x1 : Vec Ideal S1x1024x20 .i32) (x2 x3 x4 : Vec Ideal S60x128 .f32) (x5 : Vec Ideal S1x128 .f32)

variable (s : Fin 1024 → ℕ → Fin 1024) (hs : ∀ (p : Fin 1024) (k : Fin 20), x1 (ix3 0 p k) = BitVec.ofNat 32 (s p k))

theorem P89 : k1_pay89 x0 x1 x2 x3 x4 x5 = k1_pay4 x0 := by unfold k1_pay89; frame_out
theorem P90 : k1_pay90 x0 x1 x2 x3 x4 x5 = k1_pay6 x0 := by unfold k1_pay90; frame_out
theorem P91 : k1_pay91 x0 x1 x2 x3 x4 x5 = k1_pay7 x3 := by unfold k1_pay91; frame_out
theorem P92 : k1_pay92 x0 x1 x2 x3 x4 x5 = k1_pay8 x4 := by unfold k1_pay92; frame_out
theorem P93 : k1_pay93 x0 x1 x2 x3 x4 x5 = k1_pay9 x5 := by unfold k1_pay93; frame_out
theorem P94 : k1_pay94 x0 x1 x2 x3 x4 x5 = k1_pay10 x0 x2 := by unfold k1_pay94; frame_out
theorem P95 : k1_pay95 x0 x1 x2 x3 x4 x5 = k1_pay11 x1 := by unfold k1_pay95; frame_out

/-- The cloud's features without the block's leading axis. -/
theorem pay4_apply (p : Fin 1024) (c : Fin 60) : (k1_pay4 (F := Ideal) x0 (ix2 p c) : EReal) = x0 (ix3 0 p c) := by
  pointwise [k1_pay4]

/-- The cloud's neighbour table without the block's leading axis. -/
theorem pay11_apply (p : Fin 1024) (k : Fin 20) : k1_pay11 (F := Ideal) x1 (ix2 p k) = x1 (ix3 0 p k) := by
  pointwise [k1_pay11]

include hs in
/-- The layer's value at the `k`-th neighbour of a point. -/
theorem Z_apply (p : Fin 1024) (k : Fin 20) (c : Fin 128) : (Z x0 x1 x2 x3 x4 x5 k (ix2 p c) : EReal)
    = zedG (fun p i => x0 (ix3 0 p i)) (fun p i => back (x0 (ix3 0 p i))) (fun i c => x2 (ix2 i c)) (fun i c => x3 (ix2 i c)) (fun i c => x4 (ix2 i c))
      (fun c => x5 (ix2 0 c)) (s p k) p c := by
  unfold Z
  rw [P89, P90, P91, P92, P93, P94, P95]
  have hc : colS (k1_pay11 x1) k (ix2 p 0) = BitVec.ofNat 32 (s p k) := by
    rw [colS_apply, pay11_apply, hs]
  have e (i : Fin 60) : (srcV (k1_pay6 (F := Ideal) x0) (colS (k1_pay11 x1) k) (ix2 p i) : EReal) = back (x0 (ix3 0 (s p k) i)) := by
    refine (srcV_apply (k1_pay4 x0) _ _ p (s p k) i hc ?_ ?_ ?_).trans (congrArg back (pay4_apply x0 _ i))
    · intro q c; rw [part0, pay4_apply]
    · intro q c; rw [part1, pay4_apply]
    · intro q c; rw [part2, pay4_apply]
  refine (zR_apply _ _ _ _ _ _ p c).trans ?_
  have e7 (i : Fin 60) : (k1_pay7 (F := Ideal) x3 (ix2 i c) : EReal) = x3 (ix2 i c) := by pointwise [k1_pay7]
  have e8 (i : Fin 60) : (k1_pay8 (F := Ideal) x4 (ix2 i c) : EReal) = x4 (ix2 i c) := by pointwise [k1_pay8]
  have e9 : (k1_pay9 (F := Ideal) x5 (ix2 0 c) : EReal) = x5 (ix2 0 c) := by pointwise [k1_pay9]
  have e10 : (k1_pay10 (F := Ideal) x0 x2 (ix2 p c) : EReal) = ∑ i : Fin 60, (x0 (ix3 0 p i) : EReal) * x2 (ix2 i c) := by
    pointwise [k1_pay10, k1_pay5, k1_pay4]
  simp only [e, pay4_apply, e7, e8, e9, e10]
  rfl

/-- The layer's value at the `k`-th neighbour of a point, as a function of the blocks. -/
abbrev zk (p : Fin 1024) (k : ℕ) (c : Fin 128) : EReal :=
  zedG (fun p i => x0 (ix3 0 p i)) (fun p i => back (x0 (ix3 0 p i))) (fun i c => x2 (ix2 i c)) (fun i c => x3 (ix2 i c)) (fun i c => x4 (ix2 i c))
      (fun c => x5 (ix2 0 c)) (s p k) p c

include hs in
/-- The first result block: the greatest value over the neighbours. -/
theorem out6_apply (p : Fin 1024) (c : Fin 128) : (out1_6 x0 x1 x2 x3 x4 x5 (ix3 0 p c) : EReal)
    = (Finset.range 20).sup fun k => zk x0 x2 x3 x4 x5 s p k c := by
  rw [out6_eq]
  have h := topS_apply (Z x0 x1 x2 x3 x4 x5) 20 p c
  generalize topS (Z x0 x1 x2 x3 x4 x5) 20 = f at h ⊢
  refine Eq.trans ?_ (h.trans (Finset.sup_congr rfl fun k hk => Z_apply x0 x1 x2 x3 x4 x5 s hs p ⟨k, Finset.mem_range.1 hk⟩ c))
  pointwise []

include hs in
/-- The second result block: the sum of the values over the cloud's edges. -/
theorem out7_apply (c : Fin 128) : (out1_7 x0 x1 x2 x3 x4 x5 (ix3 0 0 c) : EReal)
    = ∑ k ∈ Finset.range 20, ∑ p : Fin 1024, zk x0 x2 x3 x4 x5 s p k c := by
  rw [out7_eq]
  have h := sumS_apply (Z x0 x1 x2 x3 x4 x5) 20 c
  generalize sumS (Z x0 x1 x2 x3 x4 x5) 20 = f at h ⊢
  refine Eq.trans ?_ (h.trans (Finset.sum_congr rfl fun k hk => Finset.sum_congr rfl fun p _ =>
    Z_apply x0 x1 x2 x3 x4 x5 s hs p ⟨k, Finset.mem_range.1 hk⟩ c))
  pointwise []

include hs in
/-- The third result block: the sum of the values' squares over the cloud's edges. -/
theorem out8_apply (c : Fin 128) : (out1_8 x0 x1 x2 x3 x4 x5 (ix3 0 0 c) : EReal)
    = ∑ k ∈ Finset.range 20, ∑ p : Fin 1024, zk x0 x2 x3 x4 x5 s p k c * zk x0 x2 x3 x4 x5 s p k c := by
  rw [out8_eq]
  have h := sumS_apply (fun k => mulf (Z x0 x1 x2 x3 x4 x5 k) (Z x0 x1 x2 x3 x4 x5 k)) 20 c
  generalize sumS (fun k => mulf (Z x0 x1 x2 x3 x4 x5 k) (Z x0 x1 x2 x3 x4 x5 k)) 20 = f at h ⊢
  refine Eq.trans ?_ (h.trans (Finset.sum_congr rfl fun k hk => Finset.sum_congr rfl fun p _ => ?_))
  · pointwise []
  · exact congrArg (fun z : EReal => z * z) (Z_apply x0 x1 x2 x3 x4 x5 s hs p ⟨k, Finset.mem_range.1 hk⟩ c)

end Block

end Cert.KernelIdeal.Layer2

end
-- ==== Proof.Array2.lean ====
/- The arrays the second kernel call leaves: the greatest second-layer value of every point, and each cloud's sums of the
   values and of their squares. -/
module

public import proofs.«01_k».proof.Proof.Call2

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.Layer2 Cert.Spec

variable (V : (c : Dev nD) → (b : Ref sig .tc) → Buf (Elt Ideal) ((c : Thread nD τ).loc b))

/-- The second layer's values from the arrays of features, weights and offsets, the neighbours given. -/
def zA (f : FVec Ideal S16x1024x60 .f32) (wa wb wc : FVec Ideal S60x128 .f32) (bz : FVec Ideal S1x128 .f32)
    (s : Fin 16 → Fin 1024 → ℕ → Fin 1024) (b : Fin 16) (p : Fin 1024) (k : ℕ) (c : Fin 128) : EReal :=
  zedG (fun p i => f (ix3 b p i)) (fun p i => back (f (ix3 b p i))) (fun i c => wa (ix2 i c)) (fun i c => wb (ix2 i c)) (fun i c => wc (ix2 i c)) (fun c => bz (ix2 0 c)) (s b p k) p c

/-- The greatest of each point's values. -/
def topA (z : Fin 16 → Fin 1024 → ℕ → Fin 128 → EReal) : FVec Ideal S16x1024x128 .f32 := fun y =>
  (Finset.range 20).sup fun k => z (y 0) (y 1) k (y 2)

/-- The sums of each cloud's values. -/
def sumA (z : Fin 16 → Fin 1024 → ℕ → Fin 128 → EReal) : FVec Ideal S16x1x128 .f32 := fun y =>
  ∑ k ∈ Finset.range 20, ∑ p, z (y 0) p k (y 2)

/-- The squares of the values. -/
def sqA (z : Fin 16 → Fin 1024 → ℕ → Fin 128 → EReal) (b : Fin 16) (p : Fin 1024) (k : ℕ) (c : Fin 128) : EReal := z b p k c * z b p k c

/-- The windows' block indices at a grid point. -/
theorem idx1 : ∀ t : Fin cfg1.N, win1_0.index t = ![(grid1.coords t 0).val, 0, 0] ∧ win1_1.index t = ![(grid1.coords t 0).val, 0, 0]
    ∧ win1_2.index t = ![0, 0] ∧ win1_3.index t = ![0, 0] ∧ win1_4.index t = ![0, 0] ∧ win1_5.index t = ![0, 0]
    ∧ win1_6.index t = ![(grid1.coords t 0).val, 0, 0] ∧ win1_7.index t = ![(grid1.coords t 0).val, 0, 0]
    ∧ win1_8.index t = ![(grid1.coords t 0).val, 0, 0] := (by decide +kernel : ∀ t : Fin grid1.N, _)

/-- The cloud a grid point works on. -/
def at1 (t : Fin cfg1.N) : Fin 16 := ⟨(grid1.coords t 0).val, (grid1.coords t 0).isLt⟩

/-- The block of features. -/
theorem in1_0 (c : Dev nD) (t : Fin cfg1.N) (p : Fin 1024) (i : Fin 60) :
    iblk1 V c 0 t (ix3 0 p i) = V c main_v26 (ix3 (at1 t) p i) := by
  blk_ext [iblk1, idx1 t, at1]

/-- The block of neighbours. -/
theorem in1_1 (c : Dev nD) (t : Fin cfg1.N) (p : Fin 1024) (k : Fin 20) :
    iblk1 V c 1 t (ix3 0 p k) = V c main_v5_0 (ix3 (at1 t) p k) := by
  blk_ext [iblk1, idx1 t, at1]

/-- The first block of weights. -/
theorem in1_2 (c : Dev nD) (t : Fin cfg1.N) (i : Fin 60) (j : Fin 128) :
    iblk1 V c 2 t (ix2 i j) = V c main_v27 (ix2 i j) := by
  blk_ext [iblk1, idx1 t]

/-- The second block of weights. -/
theorem in1_3 (c : Dev nD) (t : Fin cfg1.N) (i : Fin 60) (j : Fin 128) :
    iblk1 V c 3 t (ix2 i j) = V c main_v28 (ix2 i j) := by
  blk_ext [iblk1, idx1 t]

/-- The third block of weights. -/
theorem in1_4 (c : Dev nD) (t : Fin cfg1.N) (i : Fin 60) (j : Fin 128) :
    iblk1 V c 4 t (ix2 i j) = V c main_v29 (ix2 i j) := by
  blk_ext [iblk1, idx1 t]

/-- The block of offsets. -/
theorem in1_5 (c : Dev nD) (t : Fin cfg1.N) (j : Fin 128) :
    iblk1 V c 5 t (ix2 0 j) = V c main_v30 (ix2 0 j) := by
  blk_ext [iblk1, idx1 t]

/-- The values at a grid point are those of its cloud. -/
theorem zk_at (c : Dev nD) (t : Fin cfg1.N) (s : Fin 16 → Fin 1024 → ℕ → Fin 1024) (p : Fin 1024) (k : ℕ) (j : Fin 128) :
    zk (iblk1 V c 0 t) (iblk1 V c 2 t) (iblk1 V c 3 t) (iblk1 V c 4 t) (iblk1 V c 5 t) (s (at1 t)) p k j
      = zA (V c main_v26) (V c main_v27) (V c main_v28) (V c main_v29) (V c main_v30) s (at1 t) p k j := by
  unfold zk zA
  simp only [in1_0, in1_2, in1_3, in1_4, in1_5]

variable (c : Dev nD) (s : Fin 16 → Fin 1024 → ℕ → Fin 1024)
  (hs : ∀ b p (k : Fin 20), V c main_v5_0 (ix3 b p k) = BitVec.ofNat 32 (s b p k).val)

include hs

/-- The first output of the second call. -/
theorem final1_6 : (dat1 V c).arrAt 6 cfg1.N = topA (zA (V c main_v26) (V c main_v27) (V c main_v28) (V c main_v29) (V c main_v30) s) := by
  refine (dat1 V c).arrAt_eq_of_covers 6 (topA (zA (V c main_v26) (V c main_v27) (V c main_v28) (V c main_v29) (V c main_v30) s)) (by decide +kernel) fun t _ y => ?_
  blk_simp
  rw [after1_6]
  idx_vars y
  have e : ((View.whole main_v31_0).slice (win1_6.rect t)).emb (ix3 y0 y1 y2) = ix3 (at1 t) y1 y2 := by
    blk_ext [idx1 t, at1]
  rw [e]
  obtain rfl : y0 = 0 := Subsingleton.elim _ _
  refine (out6_apply _ _ _ _ _ _ (s (at1 t)) (fun p k => by rw [in1_1, hs]) y1 y2).trans ?_
  simp only [zk_at]
  generalize zA (V c main_v26) (V c main_v27) (V c main_v28) (V c main_v29) (V c main_v30) s = z
  rfl

/-- The second output of the second call. -/
theorem final1_7 : (dat1 V c).arrAt 7 cfg1.N = sumA (zA (V c main_v26) (V c main_v27) (V c main_v28) (V c main_v29) (V c main_v30) s) := by
  refine (dat1 V c).arrAt_eq_of_covers 7 (sumA (zA (V c main_v26) (V c main_v27) (V c main_v28) (V c main_v29) (V c main_v30) s)) (by decide +kernel) fun t _ y => ?_
  blk_simp
  rw [after1_7]
  idx_vars y
  have e : ((View.whole main_v31_1).slice (win1_7.rect t)).emb (ix3 y0 y1 y2) = ix3 (at1 t) 0 y2 := by
    blk_ext [idx1 t, at1]
  rw [e]
  obtain rfl : y0 = 0 := Subsingleton.elim _ _
  obtain rfl : y1 = 0 := Subsingleton.elim _ _
  refine (out7_apply _ _ _ _ _ _ (s (at1 t)) (fun p k => by rw [in1_1, hs]) y2).trans ?_
  simp only [zk_at]
  generalize zA (V c main_v26) (V c main_v27) (V c main_v28) (V c main_v29) (V c main_v30) s = z
  rfl

/-- The third output of the second call. -/
theorem final1_8 : (dat1 V c).arrAt 8 cfg1.N = sumA (sqA (zA (V c main_v26) (V c main_v27) (V c main_v28) (V c main_v29) (V c main_v30) s)) := by
  refine (dat1 V c).arrAt_eq_of_covers 8 (sumA (sqA (zA (V c main_v26) (V c main_v27) (V c main_v28) (V c main_v29) (V c main_v30) s))) (by decide +kernel) fun t _ y => ?_
  blk_simp
  rw [after1_8]
  idx_vars y
  have e : ((View.whole main_v31_2).slice (win1_8.rect t)).emb (ix3 y0 y1 y2) = ix3 (at1 t) 0 y2 := by
    blk_ext [idx1 t, at1]
  rw [e]
  obtain rfl : y0 = 0 := Subsingleton.elim _ _
  obtain rfl : y1 = 0 := Subsingleton.elim _ _
  refine (out8_apply _ _ _ _ _ _ (s (at1 t)) (fun p k => by rw [in1_1, hs]) y2).trans ?_
  simp only [zk_at]
  generalize zA (V c main_v26) (V c main_v27) (V c main_v28) (V c main_v29) (V c main_v30) s = z
  rfl

end Cert.KernelIdeal.Arrays

end
-- ==== Proof.Head.lean ====
/- The classifier's last layers, as mathematics: dense layers over sixteen rows, normalised by column, and the
   logarithm of the softmax. -/
module

public import proofs.«01_k».proof.Proof.Spec

@[expose] public section

noncomputable section

namespace Cert.Spec

open Idealize.ShloMosaic

/-- The mean of a column of sixteen rows. -/
def mean16 {n : ℕ} (y : Fin 16 → Fin n → EReal) (c : Fin n) : EReal := Ideal.div (∑ r, y r c) (Ideal.ofBits .f32 0x41800000#32)

/-- Centred columns over the square root of their mean squares, with gain and offset. -/
def nrm16 {n : ℕ} (d : Fin 16 → Fin n → EReal) (g b : Fin n → EReal) (r : Fin 16) (c : Fin n) : EReal :=
  Ideal.div (d r c) (Ideal.sqrt (mean16 (fun r c => d r c * d r c) c + Ideal.ofBits .f32 0x3727C5AC#32)) * g c + b c

/-- Columns normalised to mean zero and variance one, with gain and offset. -/
def bn16 {n : ℕ} (y : Fin 16 → Fin n → EReal) (g b : Fin n → EReal) : Fin 16 → Fin n → EReal :=
  nrm16 (fun r c => y r c - mean16 y c) g b

/-- A dense layer. -/
def lin16 {n m : ℕ} (y : Fin 16 → Fin n → EReal) (w : Fin n → Fin m → EReal) (b : Fin m → EReal) (r : Fin 16) (c : Fin m) : EReal :=
  (∑ k, y r k * w k c) + b c

/-- The values above zero, zero elsewhere. -/
def relu16 {n : ℕ} (y : Fin 16 → Fin n → EReal) (r : Fin 16) (c : Fin n) : EReal := max (y r c) 0

/-- The logarithm of the softmax of a row. -/
def logsm {n : ℕ} (y : Fin 16 → Fin n → EReal) (r : Fin 16) (c : Fin n) : EReal :=
  (y r c - Finset.univ.fold max ⊥ (y r)) - Ideal.log (∑ k, Ideal.exp (y r k - Finset.univ.fold max ⊥ (y r)))

/-- The classifier's head over the sixteen clouds' features. -/
def head (y : Fin 16 → Fin 1024 → EReal) (g1 be1 : Fin 1024 → EReal) (w2 : Fin 1024 → Fin 512 → EReal) (b2 g2 be2 : Fin 512 → EReal)
    (w3 : Fin 512 → Fin 265 → EReal) (b3 g3 be3 : Fin 265 → EReal) (w4 : Fin 265 → Fin 40 → EReal) (b4 : Fin 40 → EReal) :
    Fin 16 → Fin 40 → EReal :=
  logsm (lin16 (bn16 (relu16 (lin16 (bn16 (relu16 (lin16 (bn16 (relu16 y) g1 be1) w2 b2)) g2 be2) w3 b3)) g3 be3) w4 b4)

end Cert.Spec

end
-- ==== Proof.Stage4.lean ====
/- The last two calls at an index: the maximum over a cloud of the third layer's product, and the classifier's head. -/
module

public import proofs.«01_k».proof.Proof.Head
public import proofs.«01_k».proof.Proof.Gen.KernelIdeal.Frame
public import Idealize.ShloMosaic.Lib.Pipeline.ValueKit

@[expose] public section

set_option maxRecDepth 16384

noncomputable section

namespace Cert.KernelIdeal.HeadCall

open Idealize.ShloMosaic Idealize.ShloMosaic.TcCoe Idealize.SL.Sem
open Cert.KernelIdeal Cert.KernelIdeal.Gen Cert.Spec

/-- The mean of each of 1024 columns. -/
def mean1024 (y : FVec Ideal S16x1024 .f32) : FVec Ideal S1x1024 .f32 :=
  divf (shapeCast S1x1024 (multiReduction .add [0] S1024 y 0x00000000#32 reduces_S16x1024_S1024 (.inl rfl) rfl) shapeCasts_S1024_S1x1024)
    (broadcast S1x1024 (Scalar.ofBits .f32 0x41800000#32))

/-- The columns less their means. -/
def cen1024 (y : FVec Ideal S16x1024 .f32) : FVec Ideal S16x1024 .f32 :=
  subf y (broadcastTo S16x1024 (mean1024 y) broadcasts_S1x1024_S16x1024)

/-- The columns less their means, over the square root of their variances. -/
def nrm1024 (d : FVec Ideal S16x1024 .f32) (g b : FVec Ideal S1024 .f32) : FVec Ideal S16x1024 .f32 :=
  addf (mulf (divf d (broadcastTo S16x1024 (sqrt (addf (mean1024 (mulf d d)) (broadcast S1x1024 (Scalar.ofBits .f32 0x3727C5AC#32))))
    broadcasts_S1x1024_S16x1024)) (broadcastTo S16x1024 (shapeCast S1x1024 g shapeCasts_S1024_S1x1024) broadcasts_S1x1024_S16x1024))
    (broadcastTo S16x1024 (shapeCast S1x1024 b shapeCasts_S1024_S1x1024) broadcasts_S1x1024_S16x1024)

/-- The mean at an index. -/
theorem mean1024_apply (y : FVec Ideal S16x1024 .f32) (c : Fin 1024) :
    (mean1024 y (ix2 0 c) : EReal) = mean16 (fun r c => y (ix2 r c)) c := by
  pointwise [mean1024]
  rfl

/-- The centred columns at an index. -/
theorem cen1024_apply (y : FVec Ideal S16x1024 .f32) (r : Fin 16) (c : Fin 1024) :
    (cen1024 y (ix2 r c) : EReal) = y (ix2 r c) - mean16 (fun r c => y (ix2 r c)) c := by
  rw [← mean1024_apply]
  unfold cen1024
  generalize mean1024 y = m
  pointwise []

/-- The scaled columns at an index. -/
theorem nrm1024_apply (d : FVec Ideal S16x1024 .f32) (g b : FVec Ideal S1024 .f32) (r : Fin 16) (c : Fin 1024) :
    (nrm1024 d g b (ix2 r c) : EReal) = nrm16 (fun r c => d (ix2 r c)) (fun c => g (ix1 c)) (fun c => b (ix1 c)) r c := by
  have e := mean1024_apply (mulf d d) c
  unfold nrm1024
  generalize mean1024 (mulf d d) = m at e ⊢
  pointwise []
  rw [e]
  rfl

/-- Normalising 1024 columns, at an index. -/
theorem bn1024_apply (y : FVec Ideal S16x1024 .f32) (g b : FVec Ideal S1024 .f32) (r : Fin 16) (c : Fin 1024) :
    (nrm1024 (cen1024 y) g b (ix2 r c) : EReal)
      = bn16 (fun r c => y (ix2 r c)) (fun c => g (ix1 c)) (fun c => b (ix1 c)) r c := by
  rw [nrm1024_apply]
  simp only [cen1024_apply]
  rfl

/-- The mean of each of 512 columns. -/
def mean512 (y : FVec Ideal S16x512 .f32) : FVec Ideal S1x512 .f32 :=
  divf (shapeCast S1x512 (multiReduction .add [0] S512 y 0x00000000#32 reduces_S16x512_S512 (.inl rfl) rfl) shapeCasts_S512_S1x512)
    (broadcast S1x512 (Scalar.ofBits .f32 0x41800000#32))

/-- The columns less their means. -/
def cen512 (y : FVec Ideal S16x512 .f32) : FVec Ideal S16x512 .f32 :=
  subf y (broadcastTo S16x512 (mean512 y) broadcasts_S1x512_S16x512)

/-- The columns less their means, over the square root of their variances. -/
def nrm512 (d : FVec Ideal S16x512 .f32) (g b : FVec Ideal S512 .f32) : FVec Ideal S16x512 .f32 :=
  addf (mulf (divf d (broadcastTo S16x512 (sqrt (addf (mean512 (mulf d d)) (broadcast S1x512 (Scalar.ofBits .f32 0x3727C5AC#32))))
    broadcasts_S1x512_S16x512)) (broadcastTo S16x512 (shapeCast S1x512 g shapeCasts_S512_S1x512) broadcasts_S1x512_S16x512))
    (broadcastTo S16x512 (shapeCast S1x512 b shapeCasts_S512_S1x512) broadcasts_S1x512_S16x512)

/-- The mean at an index. -/
theorem mean512_apply (y : FVec Ideal S16x512 .f32) (c : Fin 512) :
    (mean512 y (ix2 0 c) : EReal) = mean16 (fun r c => y (ix2 r c)) c := by
  pointwise [mean512]
  rfl

/-- The centred columns at an index. -/
theorem cen512_apply (y : FVec Ideal S16x512 .f32) (r : Fin 16) (c : Fin 512) :
    (cen512 y (ix2 r c) : EReal) = y (ix2 r c) - mean16 (fun r c => y (ix2 r c)) c := by
  rw [← mean512_apply]
  unfold cen512
  generalize mean512 y = m
  pointwise []

/-- The scaled columns at an index. -/
theorem nrm512_apply (d : FVec Ideal S16x512 .f32) (g b : FVec Ideal S512 .f32) (r : Fin 16) (c : Fin 512) :
    (nrm512 d g b (ix2 r c) : EReal) = nrm16 (fun r c => d (ix2 r c)) (fun c => g (ix1 c)) (fun c => b (ix1 c)) r c := by
  have e := mean512_apply (mulf d d) c
  unfold nrm512
  generalize mean512 (mulf d d) = m at e ⊢
  pointwise []
  rw [e]
  rfl

/-- Normalising 512 columns, at an index. -/
theorem bn512_apply (y : FVec Ideal S16x512 .f32) (g b : FVec Ideal S512 .f32) (r : Fin 16) (c : Fin 512) :
    (nrm512 (cen512 y) g b (ix2 r c) : EReal)
      = bn16 (fun r c => y (ix2 r c)) (fun c => g (ix1 c)) (fun c => b (ix1 c)) r c := by
  rw [nrm512_apply]
  simp only [cen512_apply]
  rfl

/-- The mean of each of 265 columns. -/
def mean265 (y : FVec Ideal S16x265 .f32) : FVec Ideal S1x265 .f32 :=
  divf (shapeCast S1x265 (multiReduction .add [0] S265 y 0x00000000#32 reduces_S16x265_S265 (.inl rfl) rfl) shapeCasts_S265_S1x265)
    (broadcast S1x265 (Scalar.ofBits .f32 0x41800000#32))

/-- The columns less their means. -/
def cen265 (y : FVec Ideal S16x265 .f32) : FVec Ideal S16x265 .f32 :=
  subf y (broadcastTo S16x265 (mean265 y) broadcasts_S1x265_S16x265)

/-- The columns less their means, over the square root of their variances. -/
def nrm265 (d : FVec Ideal S16x265 .f32) (g b : FVec Ideal S265 .f32) : FVec Ideal S16x265 .f32 :=
  addf (mulf (divf d (broadcastTo S16x265 (sqrt (addf (mean265 (mulf d d)) (broadcast S1x265 (Scalar.ofBits .f32 0x3727C5AC#32))))
    broadcasts_S1x265_S16x265)) (broadcastTo S16x265 (shapeCast S1x265 g shapeCasts_S265_S1x265) broadcasts_S1x265_S16x265))
    (broadcastTo S16x265 (shapeCast S1x265 b shapeCasts_S265_S1x265) broadcasts_S1x265_S16x265)

/-- The mean at an index. -/
theorem mean265_apply (y : FVec Ideal S16x265 .f32) (c : Fin 265) :
    (mean265 y (ix2 0 c) : EReal) = mean16 (fun r c => y (ix2 r c)) c := by
  pointwise [mean265]
  rfl

/-- The centred columns at an index. -/
theorem cen265_apply (y : FVec Ideal S16x265 .f32) (r : Fin 16) (c : Fin 265) :
    (cen265 y (ix2 r c) : EReal) = y (ix2 r c) - mean16 (fun r c => y (ix2 r c)) c := by
  rw [← mean265_apply]
  unfold cen265
  generalize mean265 y = m
  pointwise []

/-- The scaled columns at an index. -/
theorem nrm265_apply (d : FVec Ideal S16x265 .f32) (g b : FVec Ideal S265 .f32) (r : Fin 16) (c : Fin 265) :
    (nrm265 d g b (ix2 r c) : EReal) = nrm16 (fun r c => d (ix2 r c)) (fun c => g (ix1 c)) (fun c => b (ix1 c)) r c := by
  have e := mean265_apply (mulf d d) c
  unfold nrm265
  generalize mean265 (mulf d d) = m at e ⊢
  pointwise []
  rw [e]
  rfl

/-- Normalising 265 columns, at an index. -/
theorem bn265_apply (y : FVec Ideal S16x265 .f32) (g b : FVec Ideal S265 .f32) (r : Fin 16) (c : Fin 265) :
    (nrm265 (cen265 y) g b (ix2 r c) : EReal)
      = bn16 (fun r c => y (ix2 r c)) (fun c => g (ix1 c)) (fun c => b (ix1 c)) r c := by
  rw [nrm265_apply]
  simp only [cen265_apply]
  rfl

/-- The first dense layer after its normalisation. -/
theorem pay2_eq (v0 : Vec Ideal S16x1024 .f32) (v4 v7 : Vec Ideal S1x1024 .f32) (v32 : Vec Ideal S1024x512 .f32) (v36 : Vec Ideal S1x512 .f32) :
    k3_pay2 (F := Ideal) v0 v4 v7 v32 v36 = addf (matmul dot_S16x1024_S1024x512_S16x512_1_0_0_1_n_n none
      (truncf .bf16 (nrm1024 (cen1024 (maximumf (shapeCast S16x1024 v0 shapeCasts_S16x1024_S16x1024) (broadcast S16x1024 (Scalar.ofBits .f32 0x00000000#32))))
        (shapeCast S1024 v4 shapeCasts_S1x1024_S1024) (shapeCast S1024 v7 shapeCasts_S1x1024_S1024)) bitsLt_bf16_f32)
      (truncf .bf16 v32 bitsLt_bf16_f32) (constant S16x512 .f32 0x00000000#32))
      (broadcastTo S16x512 (shapeCast S1x512 (shapeCast S512 v36 shapeCasts_S1x512_S512) shapeCasts_S512_S1x512) broadcasts_S1x512_S16x512) := rfl

/-- The second dense layer after its normalisation. -/
theorem pay3_eq (v40 : FVec Ideal S16x512 .f32) (z : Ideal .f32) (v43 v46 : Vec Ideal S1x512 .f32) (v71 : Vec Ideal S512x265 .f32) (v75 : Vec Ideal S1x265 .f32) :
    k3_pay3 (F := Ideal) v40 z v43 v46 v71 v75 = maximumf (addf (matmul dot_S16x512_S512x265_S16x265_1_0_0_1_n_n none
      (truncf .bf16 (nrm512 (cen512 (maximumf v40 (broadcast S16x512 z)))
        (shapeCast S512 v43 shapeCasts_S1x512_S512) (shapeCast S512 v46 shapeCasts_S1x512_S512)) bitsLt_bf16_f32)
      (truncf .bf16 v71 bitsLt_bf16_f32) (constant S16x265 .f32 0x00000000#32))
      (broadcastTo S16x265 (shapeCast S1x265 (shapeCast S265 v75 shapeCasts_S1x265_S265) shapeCasts_S265_S1x265) broadcasts_S1x265_S16x265))
      (broadcast S16x265 (Scalar.ofBits .f32 0x00000000#32)) := rfl

/-- The third dense layer after its normalisation. -/
theorem pay5_eq (v81 : FVec Ideal S16x265 .f32) (v83 : FVec Ideal S265 .f32) (v85 : Vec Ideal S1x265 .f32) (v110 : Vec Ideal S265x40 .f32) (v114 : Vec Ideal S1x40 .f32) :
    k3_pay5 (F := Ideal) v81 v83 v85 v110 v114 = addf (matmul dot_S16x265_S265x40_S16x40_1_0_0_1_n_n none
      (truncf .bf16 (nrm265 (cen265 v81) v83 (shapeCast S265 v85 shapeCasts_S1x265_S265)) bitsLt_bf16_f32)
      (truncf .bf16 v110 bitsLt_bf16_f32) (constant S16x40 .f32 0x00000000#32))
      (broadcastTo S16x40 (shapeCast S1x40 (shapeCast S40 v114 shapeCasts_S1x40_S40) shapeCasts_S40_S1x40) broadcasts_S1x40_S16x40) := rfl

/-- The first dense layer at an index. -/
theorem pay2_apply (v0 : Vec Ideal S16x1024 .f32) (v4 v7 : Vec Ideal S1x1024 .f32) (v32 : Vec Ideal S1024x512 .f32) (v36 : Vec Ideal S1x512 .f32)
    (r : Fin 16) (c : Fin 512) : (k3_pay2 (F := Ideal) v0 v4 v7 v32 v36 (ix2 r c) : EReal)
      = lin16 (bn16 (relu16 fun r c => v0 (ix2 r c)) (fun c => v4 (ix2 0 c)) (fun c => v7 (ix2 0 c))) (fun k c => v32 (ix2 k c))
        (fun c => v36 (ix2 0 c)) r c := by
  rw [pay2_eq]
  have e (k : Fin 1024) := bn1024_apply (maximumf (shapeCast S16x1024 v0 shapeCasts_S16x1024_S16x1024) (broadcast S16x1024 (Scalar.ofBits (F := Ideal) .f32 0x00000000#32)))
    (shapeCast S1024 v4 shapeCasts_S1x1024_S1024) (shapeCast S1024 v7 shapeCasts_S1x1024_S1024) r k
  generalize nrm1024 _ _ _ = y at e ⊢
  pointwise []
  simp only [e]
  have e1 (r : Fin 16) (c : Fin 1024) : (maximumf (shapeCast S16x1024 v0 shapeCasts_S16x1024_S16x1024) (broadcast S16x1024 (Scalar.ofBits (F := Ideal) .f32 0x00000000#32)) (ix2 r c) : EReal)
      = relu16 (fun r c => v0 (ix2 r c)) r c := by
    pointwise []
    rfl
  have e2 (v : Vec Ideal S1x1024 .f32) (c : Fin 1024) : (shapeCast S1024 v shapeCasts_S1x1024_S1024 (ix1 c) : EReal) = v (ix2 0 c) := by
    pointwise []
  simp only [e1, e2]
  rfl

/-- The second dense layer at an index. -/
theorem pay3_apply (v40 : FVec Ideal S16x512 .f32) (v43 v46 : Vec Ideal S1x512 .f32) (v71 : Vec Ideal S512x265 .f32) (v75 : Vec Ideal S1x265 .f32)
    (r : Fin 16) (c : Fin 265) : (k3_pay3 (F := Ideal) v40 (Scalar.ofBits .f32 0x00000000#32) v43 v46 v71 v75 (ix2 r c) : EReal)
      = relu16 (lin16 (bn16 (relu16 fun r c => v40 (ix2 r c)) (fun c => v43 (ix2 0 c)) (fun c => v46 (ix2 0 c))) (fun k c => v71 (ix2 k c))
        (fun c => v75 (ix2 0 c))) r c := by
  rw [pay3_eq]
  have e (k : Fin 512) := bn512_apply (maximumf v40 (broadcast S16x512 (Scalar.ofBits (F := Ideal) .f32 0x00000000#32)))
    (shapeCast S512 v43 shapeCasts_S1x512_S512) (shapeCast S512 v46 shapeCasts_S1x512_S512) r k
  generalize nrm512 _ _ _ = y at e ⊢
  pointwise []
  simp only [e]
  have e1 (r : Fin 16) (c : Fin 512) : (maximumf v40 (broadcast S16x512 (Scalar.ofBits (F := Ideal) .f32 0x00000000#32)) (ix2 r c) : EReal)
      = relu16 (fun r c => v40 (ix2 r c)) r c := by
    pointwise []
    rfl
  have e2 (v : Vec Ideal S1x512 .f32) (c : Fin 512) : (shapeCast S512 v shapeCasts_S1x512_S512 (ix1 c) : EReal) = v (ix2 0 c) := by
    pointwise []
  simp only [e1, e2]
  rfl

/-- The third dense layer at an index. -/
theorem pay5_apply (v81 : FVec Ideal S16x265 .f32) (v83 : FVec Ideal S265 .f32) (v85 : Vec Ideal S1x265 .f32) (v110 : Vec Ideal S265x40 .f32) (v114 : Vec Ideal S1x40 .f32)
    (r : Fin 16) (c : Fin 40) : (k3_pay5 (F := Ideal) v81 v83 v85 v110 v114 (ix2 r c) : EReal)
      = lin16 (bn16 (fun r c => v81 (ix2 r c)) (fun c => v83 (ix1 c)) (fun c => v85 (ix2 0 c))) (fun k c => v110 (ix2 k c))
        (fun c => v114 (ix2 0 c)) r c := by
  rw [pay5_eq]
  have e (k : Fin 265) := bn265_apply v81 v83 (shapeCast S265 v85 shapeCasts_S1x265_S265) r k
  generalize nrm265 _ _ _ = y at e ⊢
  pointwise []
  simp only [e]
  have e2 (v : Vec Ideal S1x265 .f32) (c : Fin 265) : (shapeCast S265 v shapeCasts_S1x265_S265 (ix1 c) : EReal) = v (ix2 0 c) := by
    pointwise []
  simp only [e2]
  rfl

/-- The logarithm of the softmax, as the last call computes it. -/
def lsV (y : FVec Ideal S16x40 .f32) (m : FVec Ideal S16x1 .f32) : FVec Ideal S16x40 .f32 :=
  subf (subf y (broadcastTo S16x40 m broadcasts_S16x1_S16x40)) (broadcastTo S16x40 (log (shapeCast S16x1
    (multiReduction .add [1] S16 (exp (subf y (broadcastTo S16x40 m broadcasts_S16x1_S16x40))) 0x00000000#32 reduces_S16x40_S16 (.inl rfl) rfl)
    shapeCasts_S16_S16x1)) broadcasts_S16x1_S16x40)

/-- The greatest value of each row. -/
def topV (y : FVec Ideal S16x40 .f32) : FVec Ideal S16x1 .f32 :=
  shapeCast S16x1 (multiReduction .maximumf [1] S16 y 0xFF800000#32 reduces_S16x40_S16 (.inl rfl) rfl) shapeCasts_S16_S16x1

/-- The logarithm of the softmax at an index. -/
theorem lsV_apply (y : FVec Ideal S16x40 .f32) (r : Fin 16) (c : Fin 40) :
    (lsV y (topV y) (ix2 r c) : EReal) = logsm (fun r c => y (ix2 r c)) r c := by
  have e : (topV y (ix2 r 0) : EReal) = Finset.univ.fold max ⊥ fun k => (y (ix2 r k) : EReal) := by
    pointwise [topV]
    rw [ofBits_bot]
  generalize topV y = m at e ⊢
  pointwise [lsV]
  simp only [e]
  rfl

section Block

variable (x0 : Vec Ideal S16x1024 .f32) (x1 : Vec Ideal S1x1024 .f32) (x2 : Vec Ideal S1x1024 .f32) (x3 : Vec Ideal S1024x512 .f32) (x4 : Vec Ideal S1x512 .f32) (x5 : Vec Ideal S1x512 .f32) (x6 : Vec Ideal S1x512 .f32) (x7 : Vec Ideal S512x265 .f32) (x8 : Vec Ideal S1x265 .f32) (x9 : Vec Ideal S1x265 .f32) (x10 : Vec Ideal S1x265 .f32) (x11 : Vec Ideal S265x40 .f32) (x12 : Vec Ideal S1x40 .f32)

/-- The last call's result at an index: the head over its inputs. -/
theorem out13_apply (r : Fin 16) (c : Fin 40) : (out3_13 x0 x1 x2 x3 x4 x5 x6 x7 x8 x9 x10 x11 x12 (ix2 r c) : EReal)
    = head (fun r c => x0 (ix2 r c)) (fun c => x1 (ix2 0 c)) (fun c => x2 (ix2 0 c)) (fun k c => x3 (ix2 k c)) (fun c => x4 (ix2 0 c))
      (fun c => x5 (ix2 0 c)) (fun c => x6 (ix2 0 c)) (fun k c => x7 (ix2 k c)) (fun c => x8 (ix2 0 c))
      (fun c => x9 (ix2 0 c)) (fun c => x10 (ix2 0 c)) (fun k c => x11 (ix2 k c)) (fun c => x12 (ix2 0 c)) r c := by
  have h : out3_13 x0 x1 x2 x3 x4 x5 x6 x7 x8 x9 x10 x11 x12
      = lsV (k3_pay5 (k3_pay3 (k3_pay2 x0 x1 x2 x3 x4) (Scalar.ofBits .f32 0x00000000#32) x5 x6 x7 x8) (k3_pay4 x9) x10 x11 x12)
        (topV (k3_pay5 (k3_pay3 (k3_pay2 x0 x1 x2 x3 x4) (Scalar.ofBits .f32 0x00000000#32) x5 x6 x7 x8) (k3_pay4 x9) x10 x11 x12)) := by
    have e9 : k3_pay9 x0 x1 x2 x3 x4 x5 x6 x7 x8 x9 x10 x11 x12 = k3_pay3 (k3_pay2 x0 x1 x2 x3 x4) (Scalar.ofBits .f32 0x00000000#32) x5 x6 x7 x8 := by
      unfold k3_pay9; frame_out
    have e10 : k3_pay10 x0 x1 x2 x3 x4 x5 x6 x7 x8 x9 x10 x11 x12 = k3_pay4 x9 := by
      unfold k3_pay10; frame_out
    rw [← e9, ← e10]
    frame_out
    rfl
  rw [h, lsV_apply]
  have e4 (c : Fin 265) : (k3_pay4 (F := Ideal) x9 (ix1 c) : EReal) = x9 (ix2 0 c) := by pointwise [k3_pay4]
  simp only [pay5_apply, pay3_apply, pay2_apply, e4]
  rfl

/-- The third call's result at an index: the greatest entry of a column of the product. -/
theorem out2_apply (x0 : Vec Ideal S1x1024x128 .f32) (x1 : Vec Ideal S128x1024 .f32) (c : Fin 1024) :
    (out2_2 x0 x1 (ix3 0 0 c) : EReal) = Finset.univ.fold max ⊥ fun p : Fin 1024 => ∑ k : Fin 128, (x0 (ix3 0 p k) : EReal) * x1 (ix2 k c) := by
  have h : out2_2 x0 x1 = k2_pay1 x0 x1 := by frame_out
  rw [h]
  pointwise [k2_pay1]
  rw [ofBits_bot]

end Block

end Cert.KernelIdeal.HeadCall

end
-- ==== Proof.Array3.lean ====
/- The arrays the third and the last kernel call leave: each cloud's greatest products, and the head over its inputs. -/
module

public import proofs.«01_k».proof.Proof.Stage4

@[expose] public section

set_option maxRecDepth 16384

noncomputable section

namespace Cert.KernelIdeal.Arrays

open Idealize.ShloMosaic Idealize.ShloMosaic.TcCoe Idealize.SL.Sem
open Cert.KernelIdeal Cert.KernelIdeal.Gen Cert.KernelIdeal.HeadCall Cert.Spec

variable (V : (c : Dev nD) → (b : Ref sig .tc) → Buf (Elt Ideal) ((c : Thread nD τ).loc b))

/-- The greatest over each cloud's points of the products with the weights. -/
def poolA (f : FVec Ideal S16x1024x128 .f32) (w : FVec Ideal S128x1024 .f32) : FVec Ideal S16x1x1024 .f32 := fun y =>
  Finset.univ.sup fun p : Fin 1024 => ∑ k : Fin 128, (f (ix3 (y 0) p k) : EReal) * w (ix2 k (y 2))

/-- The windows' block indices of the third call at a grid point. -/
theorem idx2 : ∀ t : Fin cfg2.N, win2_0.index t = ![(grid2.coords t 0).val, 0, 0] ∧ win2_1.index t = ![0, 0]
    ∧ win2_2.index t = ![(grid2.coords t 0).val, 0, 0] := (by decide +kernel : ∀ t : Fin grid2.N, _)

/-- The cloud a grid point of the third call works on. -/
def at2 (t : Fin cfg2.N) : Fin 16 := ⟨(grid2.coords t 0).val, (grid2.coords t 0).isLt⟩

/-- The third call's block of values. -/
theorem in2_0 (c : Dev nD) (t : Fin cfg2.N) (p : Fin 1024) (i : Fin 128) :
    iblk2 V c 0 t (ix3 0 p i) = V c main_v54 (ix3 (at2 t) p i) := by
  blk_ext [iblk2, idx2 t, at2]

/-- The third call's block of weights. -/
theorem in2_1 (c : Dev nD) (t : Fin cfg2.N) (i : Fin 128) (j : Fin 1024) :
    iblk2 V c 1 t (ix2 i j) = V c main_arg11 (ix2 i j) := by
  blk_ext [iblk2, idx2 t]

/-- The third call's output. -/
theorem final2_2 (c : Dev nD) : (dat2 V c).arrAt 2 cfg2.N = poolA (V c main_v54) (V c main_arg11) := by
  refine (dat2 V c).arrAt_eq_of_covers 2 (poolA (V c main_v54) (V c main_arg11)) (by decide +kernel) fun t _ y => ?_
  blk_simp
  rw [after2_2]
  idx_vars y
  have e : ((View.whole main_v55).slice (win2_2.rect t)).emb (ix3 y0 y1 y2) = ix3 (at2 t) 0 y2 := by
    blk_ext [idx2 t, at2]
  rw [e]
  obtain rfl : y0 = 0 := Subsingleton.elim _ _
  obtain rfl : y1 = 0 := Subsingleton.elim _ _
  refine (out2_apply _ _ y2).trans ?_
  simp only [in2_0, in2_1]
  rfl

/-- The last call's output: the head over the arrays. -/
def headA (y : FVec Ideal S16x1024 .f32) (g1 b1 : FVec Ideal S1x1024 .f32) (w2 : FVec Ideal S1024x512 .f32) (c2 g2 b2 : FVec Ideal S1x512 .f32)
    (w3 : FVec Ideal S512x265 .f32) (c3 g3 b3 : FVec Ideal S1x265 .f32) (w4 : FVec Ideal S265x40 .f32) (c4 : FVec Ideal S1x40 .f32) : FVec Ideal S16x40 .f32 := fun j =>
  head (fun r c => y (ix2 r c)) (fun c => g1 (ix2 0 c)) (fun c => b1 (ix2 0 c)) (fun k c => w2 (ix2 k c)) (fun c => c2 (ix2 0 c))
      (fun c => g2 (ix2 0 c)) (fun c => b2 (ix2 0 c)) (fun k c => w3 (ix2 k c)) (fun c => c3 (ix2 0 c))
      (fun c => g3 (ix2 0 c)) (fun c => b3 (ix2 0 c)) (fun k c => w4 (ix2 k c)) (fun c => c4 (ix2 0 c)) (j 0) (j 1)

/-- The last call's windows are whole arrays. -/
theorem idx3 : ∀ t : Fin cfg3.N, win3_0.index t = ![0, 0] ∧ win3_1.index t = ![0, 0] ∧ win3_2.index t = ![0, 0] ∧ win3_3.index t = ![0, 0]
    ∧ win3_4.index t = ![0, 0] ∧ win3_5.index t = ![0, 0] ∧ win3_6.index t = ![0, 0] ∧ win3_7.index t = ![0, 0] ∧ win3_8.index t = ![0, 0]
    ∧ win3_9.index t = ![0, 0] ∧ win3_10.index t = ![0, 0] ∧ win3_11.index t = ![0, 0] ∧ win3_12.index t = ![0, 0]
    ∧ win3_13.index t = ![0, 0] := (by decide +kernel : ∀ t : Fin grid3.N, _)

/-- The last call's block 0. -/
theorem in3_0 (c : Dev nD) (t : Fin cfg3.N) : (iblk3 V c 0 t : S16x1024.Idx → Ideal .f32) = V c main_v59 := by
  funext j; idx_vars j; blk_ext [iblk3, idx3 t]

/-- The last call's block 1. -/
theorem in3_1 (c : Dev nD) (t : Fin cfg3.N) : (iblk3 V c 1 t : S1x1024.Idx → Ideal .f32) = V c main_v60 := by
  funext j; idx_vars j; blk_ext [iblk3, idx3 t]

/-- The last call's block 2. -/
theorem in3_2 (c : Dev nD) (t : Fin cfg3.N) : (iblk3 V c 2 t : S1x1024.Idx → Ideal .f32) = V c main_v61 := by
  funext j; idx_vars j; blk_ext [iblk3, idx3 t]

/-- The last call's block 3. -/
theorem in3_3 (c : Dev nD) (t : Fin cfg3.N) : (iblk3 V c 3 t : S1024x512.Idx → Ideal .f32) = V c main_arg15 := by
  funext j; idx_vars j; blk_ext [iblk3, idx3 t]

/-- The last call's block 4. -/
theorem in3_4 (c : Dev nD) (t : Fin cfg3.N) : (iblk3 V c 4 t : S1x512.Idx → Ideal .f32) = V c main_v62 := by
  funext j; idx_vars j; blk_ext [iblk3, idx3 t]

/-- The last call's block 5. -/
theorem in3_5 (c : Dev nD) (t : Fin cfg3.N) : (iblk3 V c 5 t : S1x512.Idx → Ideal .f32) = V c main_v63 := by
  funext j; idx_vars j; blk_ext [iblk3, idx3 t]

/-- The last call's block 6. -/
theorem in3_6 (c : Dev nD) (t : Fin cfg3.N) : (iblk3 V c 6 t : S1x512.Idx → Ideal .f32) = V c main_v64 := by
  funext j; idx_vars j; blk_ext [iblk3, idx3 t]

/-- The last call's block 7. -/
theorem in3_7 (c : Dev nD) (t : Fin cfg3.N) : (iblk3 V c 7 t : S512x265.Idx → Ideal .f32) = V c main_arg19 := by
  funext j; idx_vars j; blk_ext [iblk3, idx3 t]

/-- The last call's block 8. -/
theorem in3_8 (c : Dev nD) (t : Fin cfg3.N) : (iblk3 V c 8 t : S1x265.Idx → Ideal .f32) = V c main_v65 := by
  funext j; idx_vars j; blk_ext [iblk3, idx3 t]

/-- The last call's block 9. -/
theorem in3_9 (c : Dev nD) (t : Fin cfg3.N) : (iblk3 V c 9 t : S1x265.Idx → Ideal .f32) = V c main_v66 := by
  funext j; idx_vars j; blk_ext [iblk3, idx3 t]

/-- The last call's block 10. -/
theorem in3_10 (c : Dev nD) (t : Fin cfg3.N) : (iblk3 V c 10 t : S1x265.Idx → Ideal .f32) = V c main_v67 := by
  funext j; idx_vars j; blk_ext [iblk3, idx3 t]

/-- The last call's block 11. -/
theorem in3_11 (c : Dev nD) (t : Fin cfg3.N) : (iblk3 V c 11 t : S265x40.Idx → Ideal .f32) = V c main_arg23 := by
  funext j; idx_vars j; blk_ext [iblk3, idx3 t]

/-- The last call's block 12. -/
theorem in3_12 (c : Dev nD) (t : Fin cfg3.N) : (iblk3 V c 12 t : S1x40.Idx → Ideal .f32) = V c main_v68 := by
  funext j; idx_vars j; blk_ext [iblk3, idx3 t]

set_option maxHeartbeats 1000000 in
/-- The last call's output. -/
theorem final3_13 (c : Dev nD) : (dat3 V c).arrAt 13 cfg3.N = headA (V c main_v59) (V c main_v60) (V c main_v61) (V c main_arg15) (V c main_v62)
    (V c main_v63) (V c main_v64) (V c main_arg19) (V c main_v65) (V c main_v66) (V c main_v67) (V c main_arg23) (V c main_v68) := by
  obtain ⟨G, hG⟩ : ∃ G : FVec Ideal S16x40 .f32, G = headA (V c main_v59) (V c main_v60) (V c main_v61) (V c main_arg15) (V c main_v62)
    (V c main_v63) (V c main_v64) (V c main_arg19) (V c main_v65) (V c main_v66) (V c main_v67) (V c main_arg23) (V c main_v68) := ⟨_, rfl⟩
  rw [← hG]
  refine (dat3 V c).arrAt_eq_of_covers 13 G (by decide +kernel) fun t _ y => ?_
  blk_simp
  rw [after3_13]
  idx_vars y
  have e : ((View.whole main_v69).slice (win3_13.rect t)).emb (ix2 y0 y1) = ix2 y0 y1 := by
    blk_ext [idx3 t]
  rw [e]
  refine (out13_apply _ _ _ _ _ _ _ _ _ _ _ _ _ y0 y1).trans ?_
  have h0 := in3_0 V c t; have h1 := in3_1 V c t; have h2 := in3_2 V c t; have h3 := in3_3 V c t; have h4 := in3_4 V c t
  have h5 := in3_5 V c t; have h6 := in3_6 V c t; have h7 := in3_7 V c t; have h8 := in3_8 V c t; have h9 := in3_9 V c t
  have h10 := in3_10 V c t; have h11 := in3_11 V c t; have h12 := in3_12 V c t
  rw [h0, h1, h2, h3, h4, h5, h6, h7, h8, h9, h10, h11, h12, hG]
  rfl

end Cert.KernelIdeal.Arrays

end
-- ==== Proof.Chain.lean ====
/- The kernel program's result, as one expression in its arguments. -/
module

public import proofs.«01_k».proof.Proof.Hosts
public import proofs.«01_k».proof.Proof.Array1
public import proofs.«01_k».proof.Proof.Array2
public import proofs.«01_k».proof.Proof.Array3

@[expose] public section

set_option maxRecDepth 16384

noncomputable section

namespace Cert.KernelIdeal.Chain

open Idealize.ShloMosaic Idealize.ShloMosaic.TcCoe Idealize.SL.Sem
open Cert.KernelIdeal Cert.KernelIdeal.Gen Cert.KernelIdeal.Arrays Cert.KernelIdeal.Hosts Cert.Spec

/-- The points by cloud. -/
def cloudK (x : FVec Ideal S16384x3 .f32) : FVec Ideal S16x1024x3 .f32 := shapeCast S16x1024x3 x shapeCasts_S16384x3_S16x1024x3

/-- The first layer's features. -/
def featK (x : FVec Ideal S16384x3 .f32) (w : FVec Ideal S3x60 .f32) (b : FVec Ideal S60 .f32) : FVec Ideal S16x1024x60 .f32 :=
  featA (cloudK x) w (shapeCast S1x60 b shapeCasts_S60_S1x60)

/-- Features normalised over all points. -/
def normK (f : FVec Ideal S16x1024x60 .f32) (g b : FVec Ideal S60 .f32) : FVec Ideal S16x1024x60 .f32 :=
  shapeCast S16x1024x60 (Cert.ReferenceIdeal.Norm.bnF (rowsF f) (Cert.ReferenceIdeal.Norm.varF (Cert.ReferenceIdeal.Norm.devF (rowsF f))) g b)
    shapeCasts_S16384x60_S16x1024x60

/-- The second layer's values on the edges. -/
def zK (x : FVec Ideal S16384x3 .f32) (f : FVec Ideal S16x1024x60 .f32) (w : FVec Ideal S180x128 .f32) (b : FVec Ideal S128 .f32) :
    Fin 16 → Fin 1024 → ℕ → Fin 128 → EReal :=
  zA f (extractStridedSlice S60x128 ![0, 0] w slices_S180x128_S60x128_0_0) (extractStridedSlice S60x128 ![60, 0] w slices_S180x128_S60x128_60_0)
    (extractStridedSlice S60x128 ![120, 0] w slices_S180x128_S60x128_120_0) (shapeCast S1x128 b shapeCasts_S128_S1x128)
    (fun b p k => nb (clouds (cloudK x) b) p k)

/-- The greatest values, normalised by the edges' sums. -/
def bnK (z : Fin 16 → Fin 1024 → ℕ → Fin 128 → EReal) (g b : FVec Ideal S128 .f32) : FVec Ideal S16x1024x128 .f32 :=
  bnE (topA z) (meanE (sumA z)) (subf (meanE (sumA (sqA z))) (mulf (meanE (sumA z)) (meanE (sumA z)))) g b

/-- The pooled values with their offsets. -/
def pooledK (y : FVec Ideal S16x1024x128 .f32) (w : FVec Ideal S128x1024 .f32) (b : FVec Ideal S1024 .f32) : FVec Ideal S16x1024 .f32 :=
  addRow (poolA y w) b

/-- The head over pooled values. -/
def headK (y : FVec Ideal S16x1024 .f32) (g1 b1 : FVec Ideal S1024 .f32) (w2 : FVec Ideal S1024x512 .f32) (c2 g2 b2 : FVec Ideal S512 .f32)
    (w3 : FVec Ideal S512x265 .f32) (c3 g3 b3 : FVec Ideal S265 .f32) (w4 : FVec Ideal S265x40 .f32) (c4 : FVec Ideal S40 .f32) : FVec Ideal S16x40 .f32 :=
  headA y (shapeCast S1x1024 g1 shapeCasts_S1024_S1x1024) (shapeCast S1x1024 b1 shapeCasts_S1024_S1x1024) w2
    (shapeCast S1x512 c2 shapeCasts_S512_S1x512) (shapeCast S1x512 g2 shapeCasts_S512_S1x512) (shapeCast S1x512 b2 shapeCasts_S512_S1x512) w3
    (shapeCast S1x265 c3 shapeCasts_S265_S1x265) (shapeCast S1x265 g3 shapeCasts_S265_S1x265) (shapeCast S1x265 b3 shapeCasts_S265_S1x265) w4
    (shapeCast S1x40 c4 shapeCasts_S40_S1x40)

variable (m : (ℓ : Loc nD τ sig) → Buf (Elt Ideal) ℓ) (ρ : Dev nD → PrngReg) (c : Dev nD)

/-- An argument. -/
abbrev arg (r : Ref sig .tc) : Buf (Elt Ideal) ((c : Thread nD τ).loc r) := m ((c : Thread nD τ).loc r)

/-- The features this memory's arguments give. -/
def featM : FVec Ideal S16x1024x60 .f32 := featK (arg m c main_arg0) (arg m c main_arg3) (arg m c main_arg4)

/-- The normalised features. -/
def normM : FVec Ideal S16x1024x60 .f32 := normK (featM m c) (arg m c main_arg5) (arg m c main_arg6)

/-- The second layer's values. -/
def zM : Fin 16 → Fin 1024 → ℕ → Fin 128 → EReal := zK (arg m c main_arg0) (normM m c) (arg m c main_arg7) (arg m c main_arg8)

/-- The pooled values. -/
def pooledM : FVec Ideal S16x1024 .f32 :=
  pooledK (bnK (zM m c) (arg m c main_arg9) (arg m c main_arg10)) (arg m c main_arg11) (arg m c main_arg12)

/-- The first call reads the points. -/
theorem v0_eq : (V1 m ρ c main_v0 : S16x1024x3.Idx → Ideal .f32) = cloudK (arg m c main_arg0) := host0_v0 (W0 m ρ c)

/-- And the points transposed. -/
theorem v1_eq (b : Fin 16) (p : Fin 1024) (i : Fin 3) : V1 m ρ c main_v1 (ix3 b i p) = V1 m ρ c main_v0 (ix3 b p i) := by
  rw [v0_eq]
  refine (congrFun (host0_v1 (W0 m ρ c)) (ix3 b i p)).trans ?_
  pointwise [cloudK]

/-- The neighbours. -/
theorem near_eq : (W2 m ρ c (Proc.devRef .tc main_v5_0) : S16x1024x20.Idx → BitVec 32) = nearW (cloudK (arg m c main_arg0)) := by
  refine (W2_arr m ρ c 4).trans ((final0_4 (V1 m ρ) c (v1_eq m ρ c)).trans ?_)
  rw [v0_eq]

/-- The features. -/
theorem feat_eq (hf : ∀ b p i, clouds (cloudK (arg m c main_arg0)) b p i - clouds (cloudK (arg m c main_arg0)) b p i = 0) :
    (W2 m ρ c (Proc.devRef .tc main_v5_1) : S16x1024x60.Idx → Ideal .f32) = featM m c := by
  refine (W2_arr m ρ c 5).trans ((final0_5 (V1 m ρ) c (v1_eq m ρ c) (by rw [v0_eq]; exact hf)).trans ?_)
  rw [v0_eq, featM, featK]
  exact congrArg₂ (featA _) (host0_v3 (W0 m ρ c)) (host0_v4 (W0 m ρ c))

/-- The normalised features. -/
theorem norm_eq (hf : ∀ b p i, clouds (cloudK (arg m c main_arg0)) b p i - clouds (cloudK (arg m c main_arg0)) b p i = 0) :
    (V5 m ρ c main_v26 : S16x1024x60.Idx → Ideal .f32) = normM m c := by
  refine (host1_v26 (W2 m ρ c)).trans ?_
  rw [feat_eq m ρ c hf, W2_args m ρ c main_arg5 (by decide), W2_args m ρ c main_arg6 (by decide)]
  rfl

/-- The neighbours at the second call. -/
theorem near5_eq : (V5 m ρ c main_v5_0 : S16x1024x20.Idx → BitVec 32) = nearW (cloudK (arg m c main_arg0)) :=
  (W5_of m ρ c main_v5_0 (by decide)).trans ((W4_of m ρ c main_v5_0 (by decide)).trans ((W3_of m ρ c main_v5_0 (by decide)).trans (near_eq m ρ c)))

/-- The second call's values. -/
theorem z_eq (hf : ∀ b p i, clouds (cloudK (arg m c main_arg0)) b p i - clouds (cloudK (arg m c main_arg0)) b p i = 0) :
    zA (V5 m ρ c main_v26) (V5 m ρ c main_v27) (V5 m ρ c main_v28) (V5 m ρ c main_v29) (V5 m ρ c main_v30)
      (fun b p k => nb (clouds (cloudK (arg m c main_arg0)) b) p k) = zM m c := by
  rw [norm_eq m ρ c hf, show V5 m ρ c main_v27 = _ from host1_v27 (W4 m ρ c), show V5 m ρ c main_v28 = _ from host1_v28 (W4 m ρ c), show V5 m ρ c main_v29 = _ from host1_v29 (W4 m ρ c), show V5 m ρ c main_v30 = _ from host1_v30 (W4 m ρ c),
    W4_args m ρ c main_arg7 (by decide), W4_args m ρ c main_arg8 (by decide)]
  rfl

/-- The normalised greatest values. -/
theorem v54_eq (hf : ∀ b p i, clouds (cloudK (arg m c main_arg0)) b p i - clouds (cloudK (arg m c main_arg0)) b p i = 0) :
    (V7 m ρ c main_v54 : S16x1024x128.Idx → Ideal .f32) = bnK (zM m c) (arg m c main_arg9) (arg m c main_arg10) := by
  have hs : ∀ b p (k : Fin 20), V5 m ρ c main_v5_0 (ix3 b p k)
      = BitVec.ofNat 32 ((fun b p k => nb (clouds (cloudK (arg m c main_arg0)) b) p k : Fin 16 → Fin 1024 → ℕ → Fin 1024) b p k).val := fun b p k => by
    rw [near5_eq]; rfl
  refine (host2_v54 (W6 m ρ c)).trans ?_
  rw [W6_args m ρ c main_arg9 (by decide), W6_args m ρ c main_arg10 (by decide)]
  rw [show (W6 m ρ c (Proc.devRef .tc main_v31_0) : S16x1024x128.Idx → Ideal .f32) = topA (zM m c) from
      (W6_arr m ρ c 6).trans ((final1_6 (V5 m ρ) c _ hs).trans (congrArg topA (z_eq m ρ c hf))),
    show (W6 m ρ c (Proc.devRef .tc main_v31_1) : S16x1x128.Idx → Ideal .f32) = sumA (zM m c) from
      (W6_arr m ρ c 7).trans ((final1_7 (V5 m ρ) c _ hs).trans (congrArg sumA (z_eq m ρ c hf))),
    show (W6 m ρ c (Proc.devRef .tc main_v31_2) : S16x1x128.Idx → Ideal .f32) = sumA (sqA (zM m c)) from
      (W6_arr m ρ c 8).trans ((final1_8 (V5 m ρ) c _ hs).trans (congrArg (fun z => sumA (sqA z)) (z_eq m ρ c hf)))]
  rfl

/-- The head's input. -/
theorem v59_eq (hf : ∀ b p i, clouds (cloudK (arg m c main_arg0)) b p i - clouds (cloudK (arg m c main_arg0)) b p i = 0) :
    (V9 m ρ c main_v59 : S16x1024.Idx → Ideal .f32) = pooledM m c := by
  refine (host3_v59 (W8 m ρ c)).trans ?_
  rw [show (W8 m ρ c (Proc.devRef .tc main_v55) : S16x1x1024.Idx → Ideal .f32) = poolA (bnK (zM m c) (arg m c main_arg9) (arg m c main_arg10)) (arg m c main_arg11) from
      (W8_arr m ρ c 2).trans ((final2_2 (V7 m ρ) c).trans (congrArg₂ poolA (v54_eq m ρ c hf) (W7_args m ρ c main_arg11 (by decide)))),
    W8_args m ρ c main_arg12 (by decide)]
  rfl

/-- The head of equal arrays. -/
theorem headA_congr {y y' : FVec Ideal S16x1024 .f32} {g1 g1' b1 b1' : FVec Ideal S1x1024 .f32} {w2 w2' : FVec Ideal S1024x512 .f32}
    {c2 c2' g2 g2' b2 b2' : FVec Ideal S1x512 .f32} {w3 w3' : FVec Ideal S512x265 .f32} {c3 c3' g3 g3' b3 b3' : FVec Ideal S1x265 .f32}
    {w4 w4' : FVec Ideal S265x40 .f32} {c4 c4' : FVec Ideal S1x40 .f32} (h0 : y = y') (h1 : g1 = g1') (h2 : b1 = b1') (h3 : w2 = w2') (h4 : c2 = c2')
    (h5 : g2 = g2') (h6 : b2 = b2') (h7 : w3 = w3') (h8 : c3 = c3') (h9 : g3 = g3') (h10 : b3 = b3') (h11 : w4 = w4') (h12 : c4 = c4') :
    headA y g1 b1 w2 c2 g2 b2 w3 c3 g3 b3 w4 c4 = headA y' g1' b1' w2' c2' g2' b2' w3' c3' g3' b3' w4' c4' := by
  subst h0 h1 h2 h3 h4 h5 h6 h7 h8 h9 h10 h11 h12; rfl

/-- The kernel program's result. -/
theorem v69_eq (hf : ∀ b p i, clouds (cloudK (arg m c main_arg0)) b p i - clouds (cloudK (arg m c main_arg0)) b p i = 0) :
    (W10 m ρ c (Proc.devRef .tc main_v69) : S16x40.Idx → Ideal .f32)
      = headK (pooledM m c) (arg m c main_arg13) (arg m c main_arg14) (arg m c main_arg15) (arg m c main_arg16) (arg m c main_arg17) (arg m c main_arg18)
        (arg m c main_arg19) (arg m c main_arg20) (arg m c main_arg21) (arg m c main_arg22) (arg m c main_arg23) (arg m c main_arg24) := by
  refine (W10_arr m ρ c 13).trans ((final3_13 (V9 m ρ) c).trans ?_)
  exact headA_congr (v59_eq m ρ c hf)
    ((host3_v60 (W8 m ρ c)).trans (congrArg (fun v => shapeCast S1x1024 v shapeCasts_S1024_S1x1024) (W8_args m ρ c main_arg13 (by decide))))
    ((host3_v61 (W8 m ρ c)).trans (congrArg (fun v => shapeCast S1x1024 v shapeCasts_S1024_S1x1024) (W8_args m ρ c main_arg14 (by decide))))
    (W9_args m ρ c main_arg15 (by decide))
    ((host3_v62 (W8 m ρ c)).trans (congrArg (fun v => shapeCast S1x512 v shapeCasts_S512_S1x512) (W8_args m ρ c main_arg16 (by decide))))
    ((host3_v63 (W8 m ρ c)).trans (congrArg (fun v => shapeCast S1x512 v shapeCasts_S512_S1x512) (W8_args m ρ c main_arg17 (by decide))))
    ((host3_v64 (W8 m ρ c)).trans (congrArg (fun v => shapeCast S1x512 v shapeCasts_S512_S1x512) (W8_args m ρ c main_arg18 (by decide))))
    (W9_args m ρ c main_arg19 (by decide))
    ((host3_v65 (W8 m ρ c)).trans (congrArg (fun v => shapeCast S1x265 v shapeCasts_S265_S1x265) (W8_args m ρ c main_arg20 (by decide))))
    ((host3_v66 (W8 m ρ c)).trans (congrArg (fun v => shapeCast S1x265 v shapeCasts_S265_S1x265) (W8_args m ρ c main_arg21 (by decide))))
    ((host3_v67 (W8 m ρ c)).trans (congrArg (fun v => shapeCast S1x265 v shapeCasts_S265_S1x265) (W8_args m ρ c main_arg22 (by decide))))
    (W9_args m ρ c main_arg23 (by decide))
    ((host3_v68 (W8 m ρ c)).trans (congrArg (fun v => shapeCast S1x40 v shapeCasts_S40_S1x40) (W8_args m ρ c main_arg24 (by decide))))

end Cert.KernelIdeal.Chain

end
-- ==== Proof.Real.lean ====
/- Extended reals that are real: sums, means and variances of families of them, and the greatest value of a monotone
   function. -/
module

public import proofs.«01_k».proof.Proof.Mid
public import proofs.«01_k».proof.Proof.Const
public import proofs.«01_k».proof.Proof.Spec

@[expose] public section

noncomputable section

namespace Cert.Spec

open Idealize.ShloMosaic

/-- An extended real that is a real number. -/
def IsReal (x : EReal) : Prop := ∃ r : ℝ, x = r

/-- Finite values lie strictly between the infinities. -/
theorem isReal_of_abs {x : EReal} (h : max x (-x) < ⊤) : IsReal x := by
  induction x with
  | bot => simp at h
  | top => simp at h
  | coe r => exact ⟨r, rfl⟩

/-- The sum of reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The difference of reals is real. -/
theorem IsReal.sub {x y : EReal} (hx : IsReal x) (hy : IsReal y) : IsReal (x - y) := by
  obtain ⟨a, rfl⟩ := hx; obtain ⟨b, rfl⟩ := hy; exact ⟨a - b, (EReal.coe_sub a b).symm⟩

/-- The product of reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- Zero is real. -/
theorem isReal_zero : IsReal 0 := ⟨0, rfl⟩

/-- A sum of reals, taken among the extended reals. -/
theorem coe_sum {ι : Type*} (s : Finset ι) (r : ι → ℝ) : ∑ i ∈ s, (r i : EReal) = ((∑ i ∈ s, r i : ℝ) : EReal) := by
  classical
  induction s using Finset.induction_on with
  | empty => simp
  | insert a s ha ih => rw [Finset.sum_insert ha, Finset.sum_insert ha, ih, EReal.coe_add]

/-- A real less itself is zero. -/
theorem IsReal.sub_self {x : EReal} (h : IsReal x) : x - x = 0 := by
  obtain ⟨a, rfl⟩ := h
  rw [← EReal.coe_sub]; simp

/-- The quotient of reals, the divisor not zero. -/
theorem div_coe (a : ℝ) {b : ℝ} (hb : b ≠ 0) : Ideal.div (a : EReal) (b : EReal) = ((a / b : ℝ) : EReal) := by
  have hb' : (b : EReal) ≠ 0 := by exact_mod_cast hb
  rw [Ideal.div, if_neg hb', ← EReal.coe_inv, ← EReal.coe_mul, div_eq_mul_inv]

/-- The mean of real values. -/
theorem mean_coe {ι : Type*} [Fintype ι] (r : ι → ℝ) {N : ℝ} (hN : N ≠ 0) :
    Ideal.div (∑ q, (r q : EReal)) (N : EReal) = (((∑ q, r q) / N : ℝ) : EReal) := by
  rw [coe_sum, div_coe _ hN]

/-- The mean of real values is real. -/
theorem isReal_mean {ι : Type*} [Fintype ι] {y : ι → EReal} (hy : ∀ q, IsReal (y q)) {N : ℝ} (hN : N ≠ 0) : IsReal (Ideal.div (∑ q, y q) (N : EReal)) := by
  choose r hr using hy
  simp only [hr]
  exact ⟨_, mean_coe r hN⟩

/-- The mean square deviation of real values from a real is a nonnegative real. -/
theorem var_nonneg {ι : Type*} [Fintype ι] {y : ι → EReal} (hy : ∀ q, IsReal (y q)) {N : ℝ} (hN : 0 < N) {u : EReal} (hu : IsReal u) :
    ∃ v : ℝ, 0 ≤ v ∧ Ideal.div (∑ q, (y q - u) * (y q - u)) (N : EReal) = (v : EReal) := by
  choose r hr using hy
  obtain ⟨a, rfl⟩ := hu
  simp only [hr, ← EReal.coe_sub, ← EReal.coe_mul]
  exact ⟨_, div_nonneg (Finset.sum_nonneg fun q _ => mul_self_nonneg _) hN.le, mean_coe _ hN.ne'⟩

/-- The mean square deviation from the mean is the mean square less the squared mean. -/
theorem var_eq {ι : Type*} [Fintype ι] {y : ι → EReal} (hy : ∀ q, IsReal (y q)) {N : ℝ} (hN : N ≠ 0) (hc : (Fintype.card ι : ℝ) = N) :
    Ideal.div (∑ q, (y q - Ideal.div (∑ q, y q) (N : EReal)) * (y q - Ideal.div (∑ q, y q) (N : EReal))) (N : EReal)
      = Ideal.div (∑ q, y q * y q) (N : EReal) - Ideal.div (∑ q, y q) (N : EReal) * Ideal.div (∑ q, y q) (N : EReal) := by
  choose r hr using hy
  simp only [hr, mean_coe r hN, ← EReal.coe_sub, ← EReal.coe_mul]
  rw [mean_coe _ hN, mean_coe _ hN, ← EReal.coe_sub]
  congr 1
  have h : ∀ u : ℝ, ∑ q, (r q - u) * (r q - u) = ∑ q, r q * r q - 2 * u * (∑ q, r q) + N * (u * u) := fun u => by
    have : ∀ q, (r q - u) * (r q - u) = r q * r q - 2 * u * r q + u * u := fun q => by ring
    simp only [this, Finset.sum_add_distrib, Finset.sum_sub_distrib, ← Finset.mul_sum, Finset.sum_const, Finset.card_univ, nsmul_eq_mul, hc]
    ring
  rw [h]
  field_simp
  ring

/-- The divisor of a normalisation is a positive real. -/
theorem scale_pos {v : ℝ} (hv : 0 ≤ v) : ∃ d : ℝ, 0 < d ∧ Ideal.sqrt ((v : EReal) + Ideal.ofBits .f32 0x3727C5AC#32) = (d : EReal) := by
  obtain ⟨e, he, h⟩ := bits_eps
  rw [h, ← EReal.coe_add]
  refine ⟨Real.sqrt (v + e), Real.sqrt_pos.2 (by linarith), ?_⟩
  have : ¬ (v + e < 0) := by linarith
  change (if v + e < 0 then (⊥ : EReal) else (Real.sqrt (v + e) : EReal)) = _
  rw [if_neg this]

/-- A normalised real is real. -/
theorem isReal_aff {u g b x : EReal} {v : ℝ} (hv : 0 ≤ v) (hu : IsReal u) (hg : IsReal g) (hb : IsReal b) (hx : IsReal x) : IsReal (affC u v g b x) := by
  obtain ⟨d, hd, h⟩ := scale_pos hv
  obtain ⟨a, ha⟩ := hx.sub hu
  rw [affC, h, ha, div_coe _ hd.ne']
  exact (IsReal.mul ⟨_, rfl⟩ hg).add hb

/-- Normalisation with nonnegative gain is monotone. -/
theorem aff_mono {u g b : EReal} {v : ℝ} (hv : 0 ≤ v) (hg : 0 ≤ g) : Monotone (affC u v g b) := by
  intro x y hxy
  obtain ⟨d, hd, h⟩ := scale_pos hv
  have hd' : (d : EReal) ≠ 0 := by exact_mod_cast hd.ne'
  simp only [affC, h, Ideal.div, if_neg hd']
  have hi : (0 : EReal) ≤ (d : EReal)⁻¹ := by rw [← EReal.coe_inv]; exact_mod_cast (inv_pos.2 hd).le
  exact add_le_add (mul_le_mul_of_nonneg_right (mul_le_mul_of_nonneg_right (EReal.sub_le_sub hxy le_rfl) hi) hg) le_rfl

/-- A nonnegative extended real is real or infinite. -/
theorem isReal_or_top {x : EReal} (h : 0 ≤ x) : IsReal x ∨ x = ⊤ := by
  induction x with
  | bot => simp at h
  | top => exact Or.inr rfl
  | coe r => exact Or.inl ⟨r, rfl⟩

/-- Nonnegative values, one infinite, have an infinite mean. -/
theorem mean_top {ι : Type*} [Fintype ι] {y : ι → EReal} (hy : ∀ q, 0 ≤ y q) {i : ι} (hi : y i = ⊤) {N : ℝ} (hN : 0 < N) :
    Ideal.div (∑ q, y q) (N : EReal) = ⊤ := by
  have hs : ∑ q, y q = ⊤ := top_le_iff.1 (hi ▸ Finset.single_le_sum (fun q _ => hy q) (Finset.mem_univ i))
  have hN' : (N : EReal) ≠ 0 := by exact_mod_cast hN.ne'
  rw [hs, Ideal.div, if_neg hN', ← EReal.coe_inv, EReal.top_mul_coe_of_pos (inv_pos.2 hN)]

/-- The mean square deviation from infinity is infinite. -/
theorem var_top {ι : Type*} [Fintype ι] (y : ι → EReal) (i : ι) {N : ℝ} (hN : 0 < N) :
    Ideal.div (∑ q, (y q - ⊤) * (y q - ⊤)) (N : EReal) = ⊤ :=
  mean_top (fun q => by simp [EReal.sub_top]) (i := i) (by simp [EReal.sub_top]) hN

/-- Normalised by an infinite mean and an infinite variance, every value is the offset. -/
theorem aff_top (g b x : EReal) : affC ⊤ ⊤ g b x = b := by
  obtain ⟨e, -, h⟩ := bits_eps
  have hs : Ideal.sqrt ((⊤ : EReal) + (e : EReal)) = ⊤ := by rw [EReal.top_add_coe]; rfl
  rw [affC, h, hs, Ideal.div, if_neg EReal.top_ne_zero, EReal.inv_top, mul_zero, zero_mul, zero_add]

/-- Normalised by a variance with no value, likewise. -/
theorem aff_bot (u g b x : EReal) : affC u ⊥ g b x = b := by
  have hs : Ideal.sqrt ((⊥ : EReal) + Ideal.ofBits .f32 0x3727C5AC#32) = ⊥ := by rw [EReal.bot_add]; rfl
  rw [affC, hs, Ideal.div, if_neg EReal.bot_ne_zero, EReal.inv_bot, mul_zero, zero_mul, zero_add]

/-- Normalised by the mean and the variance of zeros, zero is the offset. -/
theorem aff_zero (g b : EReal) : affC 0 0 g b 0 = b := by
  obtain ⟨d, hd, h⟩ := scale_pos (le_refl 0)
  have hd' : (d : EReal) ≠ 0 := by exact_mod_cast hd.ne'
  rw [EReal.coe_zero] at h
  rw [affC, h, sub_zero, Ideal.div, if_neg hd', zero_mul, zero_mul, zero_add]

/-- What is not real is infinite. -/
theorem not_real {x : EReal} (h : ¬ IsReal x) : x = ⊥ ∨ x = ⊤ := by
  induction x with
  | bot => exact Or.inl rfl
  | top => exact Or.inr rfl
  | coe r => exact absurd ⟨r, rfl⟩ h

/-- The least extended real is not real. -/
theorem bot_not_real : ¬ IsReal ⊥ := fun ⟨_, e⟩ => EReal.coe_ne_bot _ e.symm

/-- The greatest extended real is not real. -/
theorem top_not_real : ¬ IsReal ⊤ := fun ⟨_, e⟩ => EReal.coe_ne_top _ e.symm

/-- A sum with an infinite summand is infinite. -/
theorem inf_add {x : EReal} (h : ¬ IsReal x) (y : EReal) : ¬ IsReal (x + y) := by
  rcases not_real h with rfl | rfl
  · rw [EReal.bot_add]; exact h
  · induction y with
    | bot => rw [EReal.add_bot]; exact bot_not_real
    | top => rw [EReal.top_add_top]; exact h
    | coe r => rw [EReal.top_add_coe]; exact h

/-- The difference of infinite values is infinite. -/
theorem inf_sub {x : EReal} (h : ¬ IsReal x) (y : EReal) : ¬ IsReal (x - y) := inf_add h _

/-- An infinite value times a value other than zero is infinite. -/
theorem inf_mul {x y : EReal} (h : ¬ IsReal x) (hy : y ≠ 0) : ¬ IsReal (x * y) := by
  rcases lt_or_gt_of_ne hy with hy | hy <;> rcases not_real h with rfl | rfl
  · rw [EReal.bot_mul_of_neg hy]; exact top_not_real
  · rw [EReal.top_mul_of_neg hy]; exact bot_not_real
  · rw [EReal.bot_mul_of_pos hy]; exact bot_not_real
  · rw [EReal.top_mul_of_pos hy]; exact top_not_real

/-- A finite sum with an infinite summand is infinite. -/
theorem inf_sum {ι : Type*} [Fintype ι] {f : ι → EReal} (i : ι) (h : ¬ IsReal (f i)) : ¬ IsReal (∑ i, f i) := by
  classical
  rw [← Finset.add_sum_erase _ f (Finset.mem_univ i)]
  exact inf_add h _

/-- The positive part of an infinite value is zero or infinite. -/
theorem inf_max {x : EReal} (h : ¬ IsReal x) : max x 0 = 0 ∨ max x 0 = ⊤ := by
  rcases not_real h with rfl | rfl
  · exact Or.inl (max_eq_right bot_le)
  · exact Or.inr (max_eq_left le_top)

/-- A real put together again from its parts is itself. -/
theorem back_real {x : EReal} (h : IsReal x) : back x = x := by
  rw [back, h.sub_self, sub_zero, add_zero, add_zero]

/-- An infinite value's parts make an infinite value. -/
theorem inf_back {x : EReal} (h : ¬ IsReal x) : ¬ IsReal (back x) := inf_add (inf_add h _) _

/-- The second layer's values where a feature is infinite at every point and has a weight other than zero: zero or infinite. -/
theorem zedG_inf {f g : Fin 1024 → Fin 60 → EReal} (wa wb wc : Fin 60 → Fin 128 → EReal) (o : Fin 128 → EReal) (s p : Fin 1024) (c : Fin 128) (i : Fin 60)
    (hf : ∀ p, ¬ IsReal (f p i)) (hg : ∀ p, ¬ IsReal (g p i)) (hw : wa i c ≠ 0 ∨ wb i c ≠ 0 ∨ wc i c ≠ 0) :
    zedG f g wa wb wc o s p c = 0 ∨ zedG f g wa wb wc o s p c = ⊤ := by
  refine inf_max (inf_add ?_ _)
  rcases hw with hw | hw | hw
  · exact inf_add (inf_add (inf_sum i (inf_mul (hf p) hw)) _) _
  · rw [add_comm (∑ i, f p i * wa i c)]
    exact inf_add (inf_add (inf_sum i (inf_mul (inf_sub (hg s) _) hw)) _) _
  · rw [add_comm]
    exact inf_add (inf_sum i (inf_mul (hg s) hw)) _

/-- The second layer's values where every feature is real or has no weight: the parts of a feature make the feature. -/
theorem zedG_back {f : Fin 1024 → Fin 60 → EReal} (wa wb wc : Fin 60 → Fin 128 → EReal) (o : Fin 128 → EReal) (s p : Fin 1024) (c : Fin 128)
    (h : ∀ i, (∀ p, IsReal (f p i)) ∨ (wb i c = 0 ∧ wc i c = 0)) :
    zedG f (fun p i => back (f p i)) wa wb wc o s p c = zed f wa wb wc o s p c := by
  have e1 : ∀ i, (back (f s i) - f p i) * wb i c = (f s i - f p i) * wb i c := fun i => by
    rcases h i with h | h
    · rw [back_real (h s)]
    · rw [h.1, mul_zero, mul_zero]
  have e2 : ∀ i, back (f s i) * wc i c = f s i * wc i c := fun i => by
    rcases h i with h | h
    · rw [back_real (h s)]
    · rw [h.2, mul_zero, mul_zero]
  simp only [zed, zedG, e1, e2]

/-- A sum over three counts of nonnegative values, one of them infinite. -/
theorem sum3_top {z : Fin 16 → Fin 1024 → ℕ → EReal} (hz : ∀ b p k, 0 ≤ z b p k) {b : Fin 16} {p : Fin 1024} {k : ℕ} (hk : k < 20) (h : z b p k = ⊤) :
    ∑ b, ∑ k ∈ Finset.range 20, ∑ p, z b p k = ⊤ := by
  have h1 := Finset.single_le_sum (f := fun p => z b p k) (fun p _ => hz b p k) (Finset.mem_univ p)
  have h2 := Finset.single_le_sum (f := fun k => ∑ p, z b p k) (fun k _ => Finset.sum_nonneg fun p _ => hz b p k) (Finset.mem_range.2 hk)
  have h3 := Finset.single_le_sum (f := fun b => ∑ k ∈ Finset.range 20, ∑ p, z b p k)
    (fun b _ => Finset.sum_nonneg fun k _ => Finset.sum_nonneg fun p _ => hz b p k) (Finset.mem_univ b)
  exact top_le_iff.1 (h ▸ (h1.trans (h2.trans h3)))

/-- The greatest value of a monotone function is its value at the greatest. -/
theorem sup_mono_comm {ι : Type*} (s : Finset ι) (hs : s.Nonempty) {f : EReal → EReal} (hf : Monotone f) (z : ι → EReal) :
    (s.sup fun k => f (z k)) = f (s.sup z) := by
  refine le_antisymm (Finset.sup_le fun k hk => hf (Finset.le_sup hk)) ?_
  obtain ⟨i, hi, e⟩ := Finset.exists_mem_eq_sup s hs z
  rw [e]
  exact Finset.le_sup (f := fun k => f (z k)) hi

/-- The squared distance as the programs compute it, among reals. -/
theorem dist_coe (a b : Fin 3 → ℝ) :
    ((∑ k, (a k : EReal) * a k) + ∑ k, (b k : EReal) * b k) - Ideal.ofBits .f32 0x40000000#32 * ∑ k, (a k : EReal) * b k
      = ((∑ k, (a k - b k) ^ 2 : ℝ) : EReal) := by
  simp only [bits_two, ← EReal.coe_mul, coe_sum, ← EReal.coe_add, ← EReal.coe_sub]
  congr 1
  simp only [Fin.sum_univ_three]
  ring

/-- Points within the bounds are less than `far` apart. -/
theorem sqd_lt_far {x : Fin 1024 → Fin 3 → EReal} (hx : ∀ p k, ∃ r : ℝ, |r| ≤ 28867 ∧ x p k = r) (p j : Fin 1024) (h : j ≠ p) : sqd x p j < far := by
  choose r hr e using hx
  rw [sqd, if_neg (Ne.symm h)]
  simp only [e]
  rw [dist_coe, far, bits_far, EReal.coe_lt_coe_iff, Fin.sum_univ_three]
  have hb : ∀ k, (r p k - r j k) ^ 2 ≤ 57734 ^ 2 := fun k => by
    have h1 := abs_le.1 (hr p k)
    have h2 := abs_le.1 (hr j k)
    exact sq_le_sq' (by linarith) (by linarith)
  have := hb 0; have := hb 1; have := hb 2
  linarith

/-- A real point is at distance zero from itself, so the mask alone remains on the diagonal, and nothing off it. -/
theorem masked_eq {x : Fin 1024 → Fin 3 → EReal} (hx : ∀ p k, IsReal (x p k)) (p j : Fin 1024) :
    (((∑ k, x p k * x p k) + ∑ k, x j k * x j k) - Ideal.ofBits .f32 0x40000000#32 * ∑ k, x p k * x j k) + (if p = j then (1 : EReal) else 0) * far
      = sqd x p j := by
  by_cases h : p = j
  · subst h
    choose r e using hx
    simp only [e, if_true, sqd]
    rw [dist_coe]
    simp
  · simp only [sqd, if_neg h, zero_mul, add_zero]

end Cert.Spec

end
-- ==== Proof.Match1.lean ====
/- The kernel program's intermediate arrays at an index. -/
module

public import proofs.«01_k».proof.Proof.Chain
public import proofs.«01_k».proof.Proof.Real

@[expose] public section

set_option maxRecDepth 16384

noncomputable section

namespace Cert.Match

open Idealize.ShloMosaic Idealize.ShloMosaic.TcCoe Idealize.SL.Sem
open Cert.KernelIdeal Cert.KernelIdeal.Gen Cert.KernelIdeal.Arrays Cert.KernelIdeal.Hosts Cert.KernelIdeal.Chain Cert.Spec
open Cert.ReferenceIdeal.Knn (pt eg)
open Cert.ReferenceIdeal.Graph (cloudR)

/-- Every row is a point of a cloud. -/
theorem exists_pt (q : Fin 16384) : ∃ b p, q = pt b p :=
  ⟨⟨q.val / 1024, by omega⟩, ⟨q.val % 1024, Nat.mod_lt _ (by norm_num)⟩, Fin.ext (by simp only [pt]; omega)⟩

/-- Every edge is an edge of a point. -/
theorem exists_eg (e : Fin 327680) : ∃ q k, e = eg q k :=
  ⟨⟨e.val / 20, by omega⟩, ⟨e.val % 20, Nat.mod_lt _ (by norm_num)⟩, Fin.ext (by simp only [eg]; omega)⟩

/-- A sum over a product of counts, in two steps. -/
theorem sum_split {N n m : ℕ} (h : n * m = N) (f : Fin N → EReal) (g : Fin n → Fin m → Fin N) (hg : ∀ i j, (g i j).val = i.val * m + j.val) :
    ∑ e, f e = ∑ i, ∑ j, f (g i j) := by
  subst h
  rw [← finProdFinEquiv.sum_comp, Fintype.sum_prod_type]
  refine Finset.sum_congr rfl fun i _ => Finset.sum_congr rfl fun j _ => congrArg f (Fin.ext ?_)
  rw [hg]; simp [finProdFinEquiv]; ring

/-- A sum over the edges, cloud by cloud, nearest first. -/
theorem sum_edges (f : Fin 327680 → EReal) (z : Fin 16 → Fin 1024 → ℕ → EReal) (h : ∀ b p (k : Fin 20), f (eg (pt b p) k) = z b p k) :
    ∑ e, f e = ∑ b, ∑ k ∈ Finset.range 20, ∑ p, z b p k := by
  rw [sum_split (by norm_num) f eg (fun _ _ => rfl), sum_split (by norm_num) (fun q => ∑ k, f (eg q k)) pt (fun _ _ => rfl)]
  refine Finset.sum_congr rfl fun b _ => ?_
  rw [Finset.sum_range, Finset.sum_comm]
  exact Finset.sum_congr rfl fun k _ => Finset.sum_congr rfl fun p _ => h b p k

/-- The points by cloud are the points. -/
theorem cloudK_apply (x : FVec Ideal S16384x3 .f32) (b : Fin 16) (p : Fin 1024) (i : Fin 3) : cloudK x (ix3 b p i) = x (ix2 (pt b p) i) := by
  pointwise [cloudK]
  rfl

/-- The two programs' clouds. -/
theorem clouds_eq (x : FVec Ideal S16384x3 .f32) (b : Fin 16) : clouds (cloudK x) b = cloudR x b := by
  funext p i; exact cloudK_apply x b p i

/-- The features of a point. -/
theorem featK_apply (x : FVec Ideal S16384x3 .f32) (w : FVec Ideal S3x60 .f32) (o : FVec Ideal S60 .f32) (b : Fin 16) (p : Fin 1024) (c : Fin 60) :
    featK x w o (ix3 b p c) = feat (cloudR x b) (fun i c => w (ix2 i c)) (fun c => o (ix1 c)) p c := by
  rw [← clouds_eq]
  have e : ∀ c : Fin 60, shapeCast S1x60 o shapeCasts_S60_S1x60 (ix2 0 c) = o (ix1 c) := fun c => by pointwise []
  unfold featK featA
  generalize shapeCast S1x60 o shapeCasts_S60_S1x60 = o' at e
  simp only [e]
  rfl

/-- Rows of features are the features. -/
theorem rowsF_apply (f : FVec Ideal S16x1024x60 .f32) (b : Fin 16) (p : Fin 1024) (c : Fin 60) : rowsF f (ix2 (pt b p) c) = f (ix3 b p c) := by
  exact shapeCast_apply _ _ _ _ (by simp [Shape.rowMajor_val_three, Shape.rowMajor_val_two, pt])

/-- Normalised features. -/
theorem normK_apply (f : FVec Ideal S16x1024x60 .f32) (g o : FVec Ideal S60 .f32) (b : Fin 16) (p : Fin 1024) (c : Fin 60) :
    normK f g o (ix3 b p c) = Cert.ReferenceIdeal.Norm.bnF (rowsF f) (Cert.ReferenceIdeal.Norm.varF (Cert.ReferenceIdeal.Norm.devF (rowsF f))) g o (ix2 (pt b p) c) := by
  unfold normK
  exact shapeCast_apply _ _ _ _ (by simp [Shape.rowMajor_val_three, Shape.rowMajor_val_two, pt])

/-- The features are nonnegative. -/
theorem feat_nonneg (x : Fin 1024 → Fin 3 → EReal) (w : Fin 3 → Fin 60 → EReal) (o : Fin 60 → EReal) (p : Fin 1024) (c : Fin 60) : 0 ≤ feat x w o p c :=
  (le_max_right _ _).trans (Finset.le_sup (f := fun k => edge x w o (nb x p k) p c) (Finset.mem_range.2 (by norm_num : 0 < 20)))

/-- A normalised column of nonnegative values, from a real gain, is real or infinite as its offset is. -/
theorem bnC_real {n m : ℕ} {N : ℝ} (hN : 0 < N) {y : Fin n → Fin m → EReal} {g o : Fin m → EReal} (hy : ∀ q c, 0 ≤ y q c) (c : Fin m) (hg : IsReal (g c))
    (q : Fin n) : ∃ r, IsReal r ∧ bnC (N : EReal) y g o q c = r + o c := by
  by_cases hr : ∀ q, IsReal (y q c)
  · have hu : IsReal (meanC (N : EReal) y c) := isReal_mean hr hN.ne'
    obtain ⟨v, hv, e⟩ := var_nonneg hr hN hu
    have e' : varC (N : EReal) y c = v := e
    refine ⟨_, isReal_aff hv hu hg isReal_zero (hr q), ?_⟩
    rw [bnC, e', affC, affC, add_zero]
  · obtain ⟨i, hi⟩ := not_forall.1 hr
    have hu : meanC (N : EReal) y c = ⊤ := mean_top (fun q => hy q c) ((isReal_or_top (hy i c)).resolve_left hi) hN
    have hv : varC (N : EReal) y c = ⊤ := by
      change Ideal.div (∑ q, (y q c - meanC (N : EReal) y c) * (y q c - meanC (N : EReal) y c)) (N : EReal) = ⊤
      rw [hu]; exact var_top (fun q => y q c) i hN
    exact ⟨0, isReal_zero, by rw [bnC, hu, hv, aff_top, zero_add]⟩

/-- Normalised nonnegative features, from real gains, are real or infinite as their offsets are. -/
theorem normK_real {f : FVec Ideal S16x1024x60 .f32} {g o : FVec Ideal S60 .f32} (hf : ∀ b p c, (0 : EReal) ≤ f (ix3 b p c)) (hg : ∀ c, IsReal (g (ix1 c)))
    (b : Fin 16) (p : Fin 1024) (c : Fin 60) : ∃ r, IsReal r ∧ (normK f g o (ix3 b p c) : EReal) = r + o (ix1 c) := by
  rw [normK_apply]
  refine (Cert.ReferenceIdeal.Norm.bnF_apply (rowsF f) g o (pt b p) c) ▸ ?_
  rw [bits_points]
  refine bnC_real (g := fun c => g (ix1 c)) (o := fun c => o (ix1 c)) (by norm_num) (fun q c => ?_) c (hg c) _
  obtain ⟨b', p', rfl⟩ := exists_pt q
  rw [rowsF_apply]; exact hf b' p' c

/-- The second layer's values, with the weight's three parts. -/
theorem zK_apply (x : FVec Ideal S16384x3 .f32) (f : FVec Ideal S16x1024x60 .f32) (w : FVec Ideal S180x128 .f32) (o : FVec Ideal S128 .f32)
    (b : Fin 16) (p : Fin 1024) (k : ℕ) (c : Fin 128) :
    zK x f w o b p k c = zedG (fun p i => f (ix3 b p i)) (fun p i => back (f (ix3 b p i))) (fun i c => w (ix2 ⟨i.val, by omega⟩ c)) (fun i c => w (ix2 ⟨60 + i.val, by omega⟩ c))
      (fun i c => w (ix2 ⟨120 + i.val, by omega⟩ c)) (fun c => o (ix1 c)) (nb (cloudR x b) p k) p c := by
  have e : ∀ c : Fin 128, shapeCast S1x128 o shapeCasts_S128_S1x128 (ix2 0 c) = o (ix1 c) := fun c => by pointwise []
  have e0 : ∀ (i : Fin 60) (c : Fin 128), extractStridedSlice S60x128 ![0, 0] w slices_S180x128_S60x128_0_0 (ix2 i c) = w (ix2 ⟨i.val, by omega⟩ c) := fun i c => by pointwise []
  have e1 : ∀ (i : Fin 60) (c : Fin 128), extractStridedSlice S60x128 ![60, 0] w slices_S180x128_S60x128_60_0 (ix2 i c) = w (ix2 ⟨60 + i.val, by omega⟩ c) := fun i c => by pointwise []
  have e2 : ∀ (i : Fin 60) (c : Fin 128), extractStridedSlice S60x128 ![120, 0] w slices_S180x128_S60x128_120_0 (ix2 i c) = w (ix2 ⟨120 + i.val, by omega⟩ c) := fun i c => by pointwise []
  simp only [zK, zA, e, e0, e1, e2, clouds_eq]

/-- The second layer's values are nonnegative. -/
theorem zed_nonneg (f : Fin 1024 → Fin 60 → EReal) (wa wb wc : Fin 60 → Fin 128 → EReal) (o : Fin 128 → EReal) (s p : Fin 1024) (c : Fin 128) :
    0 ≤ zed f wa wb wc o s p c := le_max_right _ _

/-- What remains of an index of the clouds' sums. -/
theorem drop_eq (b : Fin 16) (a : Fin 1) (c : Fin 128) : reducesTo_S16x1x128_S128_d0_1.drop (ix3 b a c) = ix1 c := by
  funext i
  obtain rfl : i = 0 := Subsingleton.elim _ _
  rfl

/-- The sum of the clouds' sums. -/
theorem sumE_apply (s : S16x1x128.Idx → EReal) (c : Fin 128) : Ideal.hostReduceAdd reducesTo_S16x1x128_S128_d0_1 s 0 (ix1 c) = ∑ b : Fin 16, s (ix3 b 0 c) := by
  unfold Ideal.hostReduceAdd
  rw [zero_add]
  refine (Finset.sum_bij (fun b _ => ix3 b 0 c) (fun b _ => Finset.mem_filter.2 ⟨Finset.mem_univ _, drop_eq b 0 c⟩) (fun b _ b' _ h => congrFun (h : (ix3 b 0 c : S16x1x128.Idx) = ix3 b' 0 c) 0)
    (fun j hj => ?_) (fun _ _ => rfl)).symm
  have h := (Finset.mem_filter.1 hj).2
  idx_vars j
  rw [drop_eq] at h
  have hc : j2 = c := congrFun h 0
  have h0 : j1 = 0 := Subsingleton.elim _ _
  subst hc h0
  exact ⟨j0, Finset.mem_univ _, rfl⟩

/-- The mean over the edges. -/
theorem meanE_apply (s : FVec Ideal S16x1x128 .f32) (c : Fin 128) :
    (meanE s (ix1 c) : EReal) = Ideal.div (∑ b : Fin 16, (s (ix3 b 0 c) : EReal)) (Ideal.ofBits .f32 0x48A00000#32) := by
  unfold meanE
  pointwise []
  rw [sumE_apply]

/-- The normalised greatest values, from mean and variance. -/
theorem bnE_apply (y : FVec Ideal S16x1024x128 .f32) (u v g o : FVec Ideal S128 .f32) (b : Fin 16) (p : Fin 1024) (c : Fin 128) :
    (bnE y u v g o (ix3 b p c) : EReal) = affC (u (ix1 c)) (v (ix1 c)) (g (ix1 c)) (o (ix1 c)) (y (ix3 b p c)) := by
  unfold bnE
  pointwise []
  rfl

/-- The normalised greatest values. -/
theorem bnK_apply (z : Fin 16 → Fin 1024 → ℕ → Fin 128 → EReal) (g o : FVec Ideal S128 .f32) (b : Fin 16) (p : Fin 1024) (c : Fin 128) :
    (bnK z g o (ix3 b p c) : EReal)
      = affC (Ideal.div (∑ b, ∑ k ∈ Finset.range 20, ∑ p, z b p k c) (Ideal.ofBits .f32 0x48A00000#32))
          (Ideal.div (∑ b, ∑ k ∈ Finset.range 20, ∑ p, z b p k c * z b p k c) (Ideal.ofBits .f32 0x48A00000#32)
            - Ideal.div (∑ b, ∑ k ∈ Finset.range 20, ∑ p, z b p k c) (Ideal.ofBits .f32 0x48A00000#32)
              * Ideal.div (∑ b, ∑ k ∈ Finset.range 20, ∑ p, z b p k c) (Ideal.ofBits .f32 0x48A00000#32))
          (g (ix1 c)) (o (ix1 c)) ((Finset.range 20).sup fun k => z b p k c) := by
  unfold bnK
  rw [bnE_apply]
  have h1 := meanE_apply (sumA z) c
  have h2 := meanE_apply (sumA (sqA z)) c
  have h3 : (subf (meanE (sumA (sqA z))) (mulf (meanE (sumA z)) (meanE (sumA z))) (ix1 c) : EReal)
      = (meanE (sumA (sqA z)) (ix1 c) : EReal) - (meanE (sumA z) (ix1 c) : EReal) * (meanE (sumA z) (ix1 c) : EReal) := rfl
  rw [h3, h1, h2]
  rfl

/-- A column of zeros and infinite values, normalised, is the offset. -/
theorem bnK_ends (z : Fin 16 → Fin 1024 → ℕ → Fin 128 → EReal) (g o : FVec Ideal S128 .f32) (b : Fin 16) (p : Fin 1024) (c : Fin 128)
    (hz : ∀ b p k, z b p k c = 0 ∨ z b p k c = ⊤) : (bnK z g o (ix3 b p c) : EReal) = o (ix1 c) := by
  have h0 : ∀ b p k, 0 ≤ z b p k c := fun b p k => by
    rcases hz b p k with e | e <;> rw [e]
    exact le_top
  have hN : ((327680 : ℝ) : EReal) ≠ 0 := by exact_mod_cast (by norm_num : (327680 : ℝ) ≠ 0)
  have hp : (0 : ℝ) < (327680 : ℝ)⁻¹ := by norm_num
  rw [bnK_apply, bits_edges]
  by_cases h : ∃ b p k, k < 20 ∧ z b p k c = ⊤
  · obtain ⟨b', p', k', hk, e⟩ := h
    rw [sum3_top h0 hk e, sum3_top (z := fun b p k => z b p k c * z b p k c) (fun b p k => mul_nonneg (h0 b p k) (h0 b p k)) hk (by rw [e, EReal.top_mul_top])]
    rw [Ideal.div, if_neg hN, ← EReal.coe_inv, EReal.top_mul_coe_of_pos hp, EReal.top_mul_top, EReal.sub_top, aff_bot]
  · have e0 : ∀ b p k, k ∈ Finset.range 20 → z b p k c = 0 := fun b p k hk =>
      (hz b p k).resolve_right fun e => h ⟨b, p, k, Finset.mem_range.1 hk, e⟩
    have e1 : ∑ b, ∑ k ∈ Finset.range 20, ∑ p, z b p k c = 0 :=
      Finset.sum_eq_zero fun b _ => Finset.sum_eq_zero fun k hk => Finset.sum_eq_zero fun p _ => e0 b p k hk
    have e2 : ∑ b, ∑ k ∈ Finset.range 20, ∑ p, z b p k c * z b p k c = 0 :=
      Finset.sum_eq_zero fun b _ => Finset.sum_eq_zero fun k hk => Finset.sum_eq_zero fun p _ => by rw [e0 b p k hk, mul_zero]
    have e3 : ((Finset.range 20).sup fun k => z b p k c) = 0 :=
      (Finset.sup_congr rfl fun k hk => e0 b p k hk).trans (Finset.sup_const ⟨0, by simp⟩ _)
    rw [e1, e2, e3, Ideal.div, if_neg hN, zero_mul, mul_zero, sub_zero, aff_zero]

/-- The normalised greatest values of values that agree in the column. -/
theorem bnK_congr (z z' : Fin 16 → Fin 1024 → ℕ → Fin 128 → EReal) (g o : FVec Ideal S128 .f32) (b : Fin 16) (p : Fin 1024) (c : Fin 128)
    (hz : ∀ b p k, z b p k c = z' b p k c) : (bnK z g o (ix3 b p c) : EReal) = bnK z' g o (ix3 b p c) := by
  rw [bnK_apply, bnK_apply]
  simp only [hz]

/-- The kernel program's normalised greatest values, its second layer taken from the sums of the features' parts, are those of the features: a column in
    which an infinite feature has weight holds zeros and infinite values, both ways. -/
theorem bnK_back {f : FVec Ideal S16x1024x60 .f32} (x : FVec Ideal S16384x3 .f32) (w : FVec Ideal S180x128 .f32) (od gd bd : FVec Ideal S128 .f32)
    (hf : ∀ i : Fin 60, (∀ b p, IsReal (f (ix3 b p i))) ∨ ∀ b p, ¬ IsReal (f (ix3 b p i))) :
    bnK (zK x f w od) gd bd = bnK (fun b p k c => zed (fun p i => f (ix3 b p i)) (fun i c => w (ix2 ⟨i.val, by omega⟩ c)) (fun i c => w (ix2 ⟨60 + i.val, by omega⟩ c))
      (fun i c => w (ix2 ⟨120 + i.val, by omega⟩ c)) (fun c => od (ix1 c)) (nb (cloudR x b) p k) p c) gd bd := by
  funext j
  idx_vars j
  by_cases h : ∃ i : Fin 60, (∀ b p, ¬ IsReal (f (ix3 b p i)))
      ∧ ((w (ix2 ⟨i.val, by omega⟩ j2) : EReal) ≠ 0 ∨ (w (ix2 ⟨60 + i.val, by omega⟩ j2) : EReal) ≠ 0 ∨ (w (ix2 ⟨120 + i.val, by omega⟩ j2) : EReal) ≠ 0)
  · obtain ⟨i, hi, hw⟩ := h
    refine (bnK_ends _ _ _ _ _ _ fun b p k => ?_).trans (bnK_ends _ _ _ _ _ _ fun b p k => ?_).symm
    · rw [zK_apply]
      exact zedG_inf _ _ _ _ _ _ _ i (hi b) (fun p => inf_back (hi b p)) hw
    · exact zedG_inf _ _ _ _ _ _ _ i (hi b) (hi b) hw
  · refine bnK_congr _ _ _ _ _ _ _ fun b p k => ?_
    rw [zK_apply]
    refine zedG_back _ _ _ _ _ _ _ fun i => ?_
    rcases hf i with hr | hr
    · exact Or.inl (hr b)
    · refine Or.inr ⟨?_, ?_⟩
      · by_contra hw; exact h ⟨i, hr, Or.inr (Or.inl hw)⟩
      · by_contra hw; exact h ⟨i, hr, Or.inr (Or.inr hw)⟩

/-- The pooled values with their offsets. -/
theorem pooledK_apply (y : FVec Ideal S16x1024x128 .f32) (w : FVec Ideal S128x1024 .f32) (o : FVec Ideal S1024 .f32) (r : Fin 16) (c : Fin 1024) :
    (pooledK y w o (ix2 r c) : EReal) = (Finset.univ.sup fun p : Fin 1024 => ∑ k : Fin 128, (y (ix3 r p k) : EReal) * w (ix2 k c)) + o (ix1 c) := by
  have e : poolA y w (ix3 r 0 c) = Finset.univ.sup fun p : Fin 1024 => ∑ k : Fin 128, (y (ix3 r p k) : EReal) * w (ix2 k c) := rfl
  rw [← e]
  unfold pooledK addRow
  generalize poolA y w = y'
  pointwise []

end Cert.Match

end
-- ==== Proof.RefHead.lean ====
/- The reference's classifier head at an index. -/
module

public import proofs.«01_k».proof.Proof.Head
public import proofs.«01_k».proof.Proof.Const
public import proofs.«01_k».proof.Proof.Gen.ReferenceIdeal.Run

@[expose] public section

set_option maxRecDepth 16384

noncomputable section

namespace Cert.ReferenceIdeal.RefHead

open Idealize.ShloMosaic Idealize.ShloMosaic.TcCoe Idealize.SL.Sem
open Cert.ReferenceIdeal Cert.ReferenceIdeal.Gen Cert.ReferenceIdeal.Value Cert.Spec

/-- The number of rows the variances divide by. -/
def dof : FVec Ideal S_ .f32 := subf (constant S_ .f32 0x41800000#32) (sitofp .f32 (constantI S_ 32 0#32))

/-- It is sixteen. -/
theorem dof_eq : dof = constant S_ .f32 0x41800000#32 := by
  funext j
  show (Ideal.ofBits .f32 0x41800000#32 : EReal) - ((((0#32 : BitVec 32).toInt : ℤ) : ℝ) : EReal) = Ideal.ofBits .f32 0x41800000#32
  simp

/-- It is above zero. -/
theorem dof_pos : cmpf .ogt dof (constant S_ .f32 0x00000000#32) = fun _ => 1#1 := by
  rw [dof_eq]
  funext j
  show Ideal.cmp .ogt (Ideal.ofBits .f32 0x41800000#32) (Ideal.ofBits .f32 0x00000000#32) = 1#1
  have h : (0 : EReal) < Ideal.ofBits .f32 0x41800000#32 := by
    rw [bits_sixteen]
    exact EReal.coe_pos.2 (by norm_num)
  rw [Ideal.ofBits_zero_f32]
  simp [Ideal.cmp, h]

/-- The variance of each of 1024 columns, over the columns less their means `d`. -/
def var1024 (d : FVec Ideal S16x1024 .f32) : FVec Ideal S1024 .f32 :=
  select (broadcastInDim S1024 ![] bcast_S_S1024 (cmpf .ogt dof (constant S_ .f32 0x00000000#32)))
    (Host.divf (Host.reduceAdd (mulf d d) (constant S_ .f32 0x00000000#32) reducesTo_S16x1024_S1024_d0 h_S_)
      (broadcastInDim S1024 ![] bcast_S_S1024 dof)) (broadcastInDim S1024 ![] bcast_S_S1024 (id (constant S_ .f32 0x7FC00000#32)))

/-- The columns less their means. -/
def dev1024 (y : FVec Ideal S16x1024 .f32) : FVec Ideal S16x1024 .f32 :=
  subf y (broadcastInDim S16x1024 ![0, 1] bcast_S1x1024_S16x1024_0_1 (Host.divf (broadcastInDim S1x1024 ![1] bcast_S1024_S1x1024_1
    (Host.reduceAdd y (constant S_ .f32 0x00000000#32) reducesTo_S16x1024_S1024_d0 h_S_)) (broadcastInDim S1x1024 ![] bcast_S_S1x1024 (constant S_ .f32 0x41800000#32))))

/-- The normalised columns, from their variances `v`. -/
def bnH1024 (y : FVec Ideal S16x1024 .f32) (v g b : FVec Ideal S1024 .f32) : FVec Ideal S16x1024 .f32 :=
  addf (mulf (Host.divf (subf y (broadcastInDim S16x1024 ![0, 1] bcast_S1x1024_S16x1024_0_1 (broadcastInDim S1x1024 ![1] bcast_S1024_S1x1024_1
    (Host.divf (Host.reduceAdd y (constant S_ .f32 0x00000000#32) reducesTo_S16x1024_S1024_d0 h_S_) (broadcastInDim S1024 ![] bcast_S_S1024 (constant S_ .f32 0x41800000#32))))))
    (broadcastInDim S16x1024 ![0, 1] bcast_S1x1024_S16x1024_0_1 (broadcastInDim S1x1024 ![1] bcast_S1024_S1x1024_1
      (Host.sqrt (addf v (broadcastInDim S1024 ![] bcast_S_S1024 (constant S_ .f32 0x3727C5AC#32)))))))
    (broadcastInDim S16x1024 ![0, 1] bcast_S1x1024_S16x1024_0_1 (broadcastInDim S1x1024 ![1] bcast_S1024_S1x1024_1 g)))
    (broadcastInDim S16x1024 ![0, 1] bcast_S1x1024_S16x1024_0_1 (broadcastInDim S1x1024 ![1] bcast_S1024_S1x1024_1 b))

/-- The variance at an index. -/
theorem var1024_apply (d : FVec Ideal S16x1024 .f32) (c : Fin 1024) :
    (var1024 d (ix1 c) : EReal) = mean16 (fun r c => d (ix2 r c) * d (ix2 r c)) c := by
  unfold var1024
  rw [dof_pos, dof_eq]
  pointwise []
  rfl

/-- The normalised columns at an index. -/
theorem bnH1024_apply (y : FVec Ideal S16x1024 .f32) (g b : FVec Ideal S1024 .f32) (r : Fin 16) (c : Fin 1024) :
    (bnH1024 y (var1024 (dev1024 y)) g b (ix2 r c) : EReal)
      = bn16 (fun r c => y (ix2 r c)) (fun c => g (ix1 c)) (fun c => b (ix1 c)) r c := by
  have e := var1024_apply (dev1024 y) c
  have h (r : Fin 16) (c : Fin 1024) : (dev1024 y (ix2 r c) : EReal) = y (ix2 r c) - mean16 (fun r c => y (ix2 r c)) c := by
    pointwise [dev1024]
    rfl
  simp only [h] at e
  generalize var1024 (dev1024 y) = v at e ⊢
  pointwise [bnH1024]
  rw [e]
  rfl

/-- The variance of each of 512 columns, over the columns less their means `d`. -/
def var512 (d : FVec Ideal S16x512 .f32) : FVec Ideal S512 .f32 :=
  select (broadcastInDim S512 ![] bcast_S_S512 (cmpf .ogt dof (constant S_ .f32 0x00000000#32)))
    (Host.divf (Host.reduceAdd (mulf d d) (constant S_ .f32 0x00000000#32) reducesTo_S16x512_S512_d0 h_S_)
      (broadcastInDim S512 ![] bcast_S_S512 dof)) (broadcastInDim S512 ![] bcast_S_S512 (id (constant S_ .f32 0x7FC00000#32)))

/-- The columns less their means. -/
def dev512 (y : FVec Ideal S16x512 .f32) : FVec Ideal S16x512 .f32 :=
  subf y (broadcastInDim S16x512 ![0, 1] bcast_S1x512_S16x512_0_1 (Host.divf (broadcastInDim S1x512 ![1] bcast_S512_S1x512_1
    (Host.reduceAdd y (constant S_ .f32 0x00000000#32) reducesTo_S16x512_S512_d0 h_S_)) (broadcastInDim S1x512 ![] bcast_S_S1x512 (constant S_ .f32 0x41800000#32))))

/-- The normalised columns, from their variances `v`. -/
def bnH512 (y : FVec Ideal S16x512 .f32) (v g b : FVec Ideal S512 .f32) : FVec Ideal S16x512 .f32 :=
  addf (mulf (Host.divf (subf y (broadcastInDim S16x512 ![0, 1] bcast_S1x512_S16x512_0_1 (broadcastInDim S1x512 ![1] bcast_S512_S1x512_1
    (Host.divf (Host.reduceAdd y (constant S_ .f32 0x00000000#32) reducesTo_S16x512_S512_d0 h_S_) (broadcastInDim S512 ![] bcast_S_S512 (constant S_ .f32 0x41800000#32))))))
    (broadcastInDim S16x512 ![0, 1] bcast_S1x512_S16x512_0_1 (broadcastInDim S1x512 ![1] bcast_S512_S1x512_1
      (Host.sqrt (addf v (broadcastInDim S512 ![] bcast_S_S512 (constant S_ .f32 0x3727C5AC#32)))))))
    (broadcastInDim S16x512 ![0, 1] bcast_S1x512_S16x512_0_1 (broadcastInDim S1x512 ![1] bcast_S512_S1x512_1 g)))
    (broadcastInDim S16x512 ![0, 1] bcast_S1x512_S16x512_0_1 (broadcastInDim S1x512 ![1] bcast_S512_S1x512_1 b))

/-- The variance at an index. -/
theorem var512_apply (d : FVec Ideal S16x512 .f32) (c : Fin 512) :
    (var512 d (ix1 c) : EReal) = mean16 (fun r c => d (ix2 r c) * d (ix2 r c)) c := by
  unfold var512
  rw [dof_pos, dof_eq]
  pointwise []
  rfl

/-- The normalised columns at an index. -/
theorem bnH512_apply (y : FVec Ideal S16x512 .f32) (g b : FVec Ideal S512 .f32) (r : Fin 16) (c : Fin 512) :
    (bnH512 y (var512 (dev512 y)) g b (ix2 r c) : EReal)
      = bn16 (fun r c => y (ix2 r c)) (fun c => g (ix1 c)) (fun c => b (ix1 c)) r c := by
  have e := var512_apply (dev512 y) c
  have h (r : Fin 16) (c : Fin 512) : (dev512 y (ix2 r c) : EReal) = y (ix2 r c) - mean16 (fun r c => y (ix2 r c)) c := by
    pointwise [dev512]
    rfl
  simp only [h] at e
  generalize var512 (dev512 y) = v at e ⊢
  pointwise [bnH512]
  rw [e]
  rfl

/-- The variance of each of 265 columns, over the columns less their means `d`. -/
def var265 (d : FVec Ideal S16x265 .f32) : FVec Ideal S265 .f32 :=
  select (broadcastInDim S265 ![] bcast_S_S265 (cmpf .ogt dof (constant S_ .f32 0x00000000#32)))
    (Host.divf (Host.reduceAdd (mulf d d) (constant S_ .f32 0x00000000#32) reducesTo_S16x265_S265_d0 h_S_)
      (broadcastInDim S265 ![] bcast_S_S265 dof)) (broadcastInDim S265 ![] bcast_S_S265 (id (constant S_ .f32 0x7FC00000#32)))

/-- The columns less their means. -/
def dev265 (y : FVec Ideal S16x265 .f32) : FVec Ideal S16x265 .f32 :=
  subf y (broadcastInDim S16x265 ![0, 1] bcast_S1x265_S16x265_0_1 (Host.divf (broadcastInDim S1x265 ![1] bcast_S265_S1x265_1
    (Host.reduceAdd y (constant S_ .f32 0x00000000#32) reducesTo_S16x265_S265_d0 h_S_)) (broadcastInDim S1x265 ![] bcast_S_S1x265 (constant S_ .f32 0x41800000#32))))

/-- The normalised columns, from their variances `v`. -/
def bnH265 (y : FVec Ideal S16x265 .f32) (v g b : FVec Ideal S265 .f32) : FVec Ideal S16x265 .f32 :=
  addf (mulf (Host.divf (subf y (broadcastInDim S16x265 ![0, 1] bcast_S1x265_S16x265_0_1 (broadcastInDim S1x265 ![1] bcast_S265_S1x265_1
    (Host.divf (Host.reduceAdd y (constant S_ .f32 0x00000000#32) reducesTo_S16x265_S265_d0 h_S_) (broadcastInDim S265 ![] bcast_S_S265 (constant S_ .f32 0x41800000#32))))))
    (broadcastInDim S16x265 ![0, 1] bcast_S1x265_S16x265_0_1 (broadcastInDim S1x265 ![1] bcast_S265_S1x265_1
      (Host.sqrt (addf v (broadcastInDim S265 ![] bcast_S_S265 (constant S_ .f32 0x3727C5AC#32)))))))
    (broadcastInDim S16x265 ![0, 1] bcast_S1x265_S16x265_0_1 (broadcastInDim S1x265 ![1] bcast_S265_S1x265_1 g)))
    (broadcastInDim S16x265 ![0, 1] bcast_S1x265_S16x265_0_1 (broadcastInDim S1x265 ![1] bcast_S265_S1x265_1 b))

/-- The variance at an index. -/
theorem var265_apply (d : FVec Ideal S16x265 .f32) (c : Fin 265) :
    (var265 d (ix1 c) : EReal) = mean16 (fun r c => d (ix2 r c) * d (ix2 r c)) c := by
  unfold var265
  rw [dof_pos, dof_eq]
  pointwise []
  rfl

/-- The normalised columns at an index. -/
theorem bnH265_apply (y : FVec Ideal S16x265 .f32) (g b : FVec Ideal S265 .f32) (r : Fin 16) (c : Fin 265) :
    (bnH265 y (var265 (dev265 y)) g b (ix2 r c) : EReal)
      = bn16 (fun r c => y (ix2 r c)) (fun c => g (ix1 c)) (fun c => b (ix1 c)) r c := by
  have e := var265_apply (dev265 y) c
  have h (r : Fin 16) (c : Fin 265) : (dev265 y (ix2 r c) : EReal) = y (ix2 r c) - mean16 (fun r c => y (ix2 r c)) c := by
    pointwise [dev265]
    rfl
  simp only [h] at e
  generalize var265 (dev265 y) = v at e ⊢
  pointwise [bnH265]
  rw [e]
  rfl

/-- A dense layer into 512 columns. -/
def den512 (y : FVec Ideal S16x1024 .f32) (w : FVec Ideal S1024x512 .f32) (b : FVec Ideal S512 .f32) : FVec Ideal S16x512 .f32 :=
  addf (Host.dotGeneral dot_S16x1024_S1024x512_S16x512_1_0_0_1_n_n none y w)
    (broadcastInDim S16x512 ![0, 1] bcast_S1x512_S16x512_0_1 (broadcastInDim S1x512 ![1] bcast_S512_S1x512_1 b))

/-- A dense layer into 265 columns. -/
def den265 (y : FVec Ideal S16x512 .f32) (w : FVec Ideal S512x265 .f32) (b : FVec Ideal S265 .f32) : FVec Ideal S16x265 .f32 :=
  addf (Host.dotGeneral dot_S16x512_S512x265_S16x265_1_0_0_1_n_n none y w)
    (broadcastInDim S16x265 ![0, 1] bcast_S1x265_S16x265_0_1 (broadcastInDim S1x265 ![1] bcast_S265_S1x265_1 b))

/-- A dense layer into 40 columns. -/
def den40 (y : FVec Ideal S16x265 .f32) (w : FVec Ideal S265x40 .f32) (b : FVec Ideal S40 .f32) : FVec Ideal S16x40 .f32 :=
  addf (Host.dotGeneral dot_S16x265_S265x40_S16x40_1_0_0_1_n_n none y w)
    (broadcastInDim S16x40 ![0, 1] bcast_S1x40_S16x40_0_1 (broadcastInDim S1x40 ![1] bcast_S40_S1x40_1 b))

/-- The head's first dense layer at an entry. -/
theorem den512_apply (y : FVec Ideal S16x1024 .f32) (w : FVec Ideal S1024x512 .f32) (b : FVec Ideal S512 .f32) (r : Fin 16) (c : Fin 512) :
    (den512 y w b (ix2 r c) : EReal) = lin16 (fun r c => y (ix2 r c)) (fun k c => w (ix2 k c)) (fun c => b (ix1 c)) r c := by
  pointwise [den512]
  rfl

/-- The second dense layer at an entry. -/
theorem den265_apply (y : FVec Ideal S16x512 .f32) (w : FVec Ideal S512x265 .f32) (b : FVec Ideal S265 .f32) (r : Fin 16) (c : Fin 265) :
    (den265 y w b (ix2 r c) : EReal) = lin16 (fun r c => y (ix2 r c)) (fun k c => w (ix2 k c)) (fun c => b (ix1 c)) r c := by
  pointwise [den265]
  rfl

/-- The last dense layer at an entry. -/
theorem den40_apply (y : FVec Ideal S16x265 .f32) (w : FVec Ideal S265x40 .f32) (b : FVec Ideal S40 .f32) (r : Fin 16) (c : Fin 40) :
    (den40 y w b (ix2 r c) : EReal) = lin16 (fun r c => y (ix2 r c)) (fun k c => w (ix2 k c)) (fun c => b (ix1 c)) r c := by
  pointwise [den40]
  rfl

/-- A row less its greatest value. -/
def sub40 (y : FVec Ideal S16x40 .f32) : FVec Ideal S16x40 .f32 :=
  subf y (broadcastInDim S16x40 ![0, 1] bcast_S16x1_S16x40_0_1 (broadcastInDim S16x1 ![0] bcast_S16_S16x1_0
    (maximumf (broadcastInDim S16 ![] bcast_S_S16 (constant S_ .f32 0xFF800000#32))
      (Host.reduce FloatOps.maximumf y (constant S_ .f32 0xFF800000#32) reducesTo_S16x40_S16_d1 h_S_))))

/-- A row less the logarithm of the sum of its exponentials. -/
def lse40 (d : FVec Ideal S16x40 .f32) : FVec Ideal S16x40 .f32 :=
  subf d (broadcastInDim S16x40 ![0, 1] bcast_S16x1_S16x40_0_1 (Host.log (broadcastInDim S16x1 ![0] bcast_S16_S16x1_0
    (Host.reduceAdd (Host.exp d) (constant S_ .f32 0x00000000#32) reducesTo_S16x40_S16_d1 h_S_))))

/-- The logarithm of the softmax at an index. -/
theorem lse40_apply (y : FVec Ideal S16x40 .f32) (r : Fin 16) (c : Fin 40) :
    (lse40 (sub40 y) (ix2 r c) : EReal) = logsm (fun r c => y (ix2 r c)) r c := by
  have e (r : Fin 16) (c : Fin 40) : (sub40 y (ix2 r c) : EReal) = y (ix2 r c) - Finset.univ.fold max ⊥ fun k => (y (ix2 r k) : EReal) := by
    pointwise [sub40]
    rw [ofBits_bot, bot_sup_eq]
  generalize sub40 y = d at e ⊢
  pointwise [lse40]
  simp only [e]
  rfl

/-- The values above zero. -/
def rl512 (y : FVec Ideal S16x512 .f32) : FVec Ideal S16x512 .f32 :=
  maximumf y (broadcastInDim S16x512 ![] bcast_S_S16x512 (constant S_ .f32 0x00000000#32))

/-- The values above zero. -/
def rl265 (y : FVec Ideal S16x265 .f32) : FVec Ideal S16x265 .f32 :=
  maximumf y (broadcastInDim S16x265 ![] bcast_S_S16x265 (constant S_ .f32 0x00000000#32))

/-- The rectified first layer at an entry. -/
theorem rl512_apply (y : FVec Ideal S16x512 .f32) (r : Fin 16) (c : Fin 512) : (rl512 y (ix2 r c) : EReal) = relu16 (fun r c => y (ix2 r c)) r c := by
  pointwise [rl512]
  rfl

/-- The rectified second layer at an entry. -/
theorem rl265_apply (y : FVec Ideal S16x265 .f32) (r : Fin 16) (c : Fin 265) : (rl265 y (ix2 r c) : EReal) = relu16 (fun r c => y (ix2 r c)) r c := by
  pointwise [rl265]
  rfl

variable (V0 : Valuation τ sig (Elt Ideal))

/-- The contents of an argument, as a vector. -/
abbrev A (b : Ref sig .tc) : (Proc.devRef .tc b : DevRef τ sig).ty.Contents (Elt Ideal) := V0 (Proc.devRef .tc b)

/-- The program's first rectified layer is this composition. -/
theorem v161_eq : res_main_v161 V0 = rl512 (den512 (bnH1024 (res_main_v137 V0) (var1024 (dev1024 (res_main_v137 V0))) (A V0 main_arg13) (A V0 main_arg14))
    (A V0 main_arg15) (A V0 main_arg16)) := rfl

/-- Its second rectified layer. -/
theorem v185_eq : res_main_v185 V0 = rl265 (den265 (bnH512 (res_main_v161 V0) (var512 (dev512 (res_main_v161 V0))) (A V0 main_arg17) (A V0 main_arg18))
    (A V0 main_arg19) (A V0 main_arg20)) := rfl

/-- Its last dense layer. -/
theorem v208_eq : res_main_v208 V0 = den40 (bnH265 (res_main_v185 V0) (var265 (dev265 (res_main_v185 V0))) (A V0 main_arg21) (A V0 main_arg22))
    (A V0 main_arg23) (A V0 main_arg24) := rfl

/-- Its logits less their row maxima. -/
theorem call10_eq : res_main_call10_v5 V0 = sub40 (res_main_v208 V0) := rfl

/-- The reference's result, as its head over its pooled features `y`. -/
theorem result_apply (y : Fin 16 → Fin 1024 → EReal) (hy : ∀ (r : Fin 16) (c : Fin 1024), (res_main_v137 V0 (ix2 r c) : EReal) = relu16 y r c)
    (r : Fin 16) (c : Fin 40) : (lse40 (res_main_call10_v5 V0) (ix2 r c) : EReal)
      = head y (fun c => A V0 main_arg13 (ix1 c)) (fun c => A V0 main_arg14 (ix1 c)) (fun k c => A V0 main_arg15 (ix2 k c)) (fun c => A V0 main_arg16 (ix1 c))
        (fun c => A V0 main_arg17 (ix1 c)) (fun c => A V0 main_arg18 (ix1 c)) (fun k c => A V0 main_arg19 (ix2 k c)) (fun c => A V0 main_arg20 (ix1 c))
        (fun c => A V0 main_arg21 (ix1 c)) (fun c => A V0 main_arg22 (ix1 c)) (fun k c => A V0 main_arg23 (ix2 k c)) (fun c => A V0 main_arg24 (ix1 c)) r c := by
  have h1 (r : Fin 16) (c : Fin 512) := rl512_apply (den512 (bnH1024 (res_main_v137 V0) (var1024 (dev1024 (res_main_v137 V0))) (A V0 main_arg13) (A V0 main_arg14))
    (A V0 main_arg15) (A V0 main_arg16)) r c
  simp only [← v161_eq, den512_apply, bnH1024_apply, hy] at h1
  have h2 (r : Fin 16) (c : Fin 265) := rl265_apply (den265 (bnH512 (res_main_v161 V0) (var512 (dev512 (res_main_v161 V0))) (A V0 main_arg17) (A V0 main_arg18))
    (A V0 main_arg19) (A V0 main_arg20)) r c
  simp only [← v185_eq, den265_apply, bnH512_apply, h1] at h2
  rw [call10_eq, lse40_apply, v208_eq]
  simp only [den40_apply, bnH265_apply, h2]
  rfl

end Cert.ReferenceIdeal.RefHead

end
-- ==== Proof.Match2.lean ====
/- The reference program's intermediate arrays are the kernel program's. -/
module

public import proofs.«01_k».proof.Proof.Match1
public import proofs.«01_k».proof.Proof.RefHead

@[expose] public section

set_option maxRecDepth 16384

noncomputable section

namespace Cert.Match

open Idealize.ShloMosaic Idealize.ShloMosaic.TcCoe Idealize.SL.Sem
open Cert.ReferenceIdeal Cert.ReferenceIdeal.Gen Cert.ReferenceIdeal.Value Cert.Spec
open Cert.ReferenceIdeal.Knn (pt eg score eyeW eyeW_apply score_apply topK_nb)
open Cert.ReferenceIdeal.Graph (cloudR srcW dstW startW edgeF edgeZ top60 top128)
open Cert.ReferenceIdeal.Norm (bnZ varZ devZ poolR)
open Cert.KernelIdeal.Chain (featK normK zK bnK pooledK headK)
open Cert.KernelIdeal.Hosts (rowsF)

/-- What the arguments are assumed to be: the points within bounds, the first normalisation's gain real, the second normalisation's gain
    nonnegative. -/
structure Good (x : FVec Ideal S16384x3 .f32) (g : FVec Ideal S60 .f32) (gd : FVec Ideal S128 .f32) : Prop where
  x : ∀ q i, ∃ r : ℝ, |r| ≤ 28867 ∧ (x (ix2 q i) : EReal) = r
  g : ∀ c, IsReal (g (ix1 c))
  gd : ∀ c, (0 : EReal) ≤ gd (ix1 c)

section Reference

variable (V0 : Valuation τ sig (Elt Ideal))

/-- An argument of the reference. -/
abbrev ar (r : Ref sig .tc) : Buf (Elt Ideal) (((0 : Dev nD) : Thread nD τ).loc r) := V0 (Proc.devRef .tc r)

/-- The program's points by cloud. -/
theorem v0_apply (b : Fin 16) (p : Fin 1024) (i : Fin 3) : res_main_v0 V0 (ix3 b p i) = cloudR (ar V0 main_arg0) b p i := by
  exact cloudK_apply (ar V0 main_arg0) b p i

variable (h : Good (ar V0 main_arg0) (ar V0 main_arg5) (ar V0 main_arg9))
include h

/-- The points are real. -/
theorem cloud_real (b : Fin 16) (p : Fin 1024) (i : Fin 3) : IsReal (cloudR (ar V0 main_arg0) b p i) :=
  (h.x (pt b p) i).imp fun _ => And.right

/-- The selected positions are the nearest points'. -/
theorem near_apply (b : Fin 16) (p : Fin 1024) (k : Fin 20) :
    (Host.topK S16x1024x20 2 (FloatOps.cmpfTotal (F := Ideal) (φ := .f32) .gt) (score (res_main_v0 V0)) sliceFits_S16x1024x1024_S16x1024x20).2 (ix3 b p k)
      = BitVec.ofNat 32 (nb (cloudR (ar V0 main_arg0) b) p k).val := by
  refine topK_nb _ (cloudR (ar V0 main_arg0) b) b p (fun j => ?_) (fun j hj => sqd_lt_far (fun p i => h.x (pt b p) i) p j hj) k
  rw [score_apply, eyeW_apply, ← masked_eq (cloud_real V0 h b) p j]
  simp only [v0_apply]

/-- An edge's source word. -/
theorem src_apply (b : Fin 16) (p : Fin 1024) (k : Fin 20) :
    res_main_v30 V0 (ix1 (eg (pt b p) k)) = BitVec.ofNat 32 (pt b (nb (cloudR (ar V0 main_arg0) b) p k)).val := by
  rw [Graph.v30_eq]
  exact Graph.srcW_apply _ b p k _ (near_apply V0 h b p k)

omit h in
/-- An edge's target word. -/
theorem dst_apply (q : Fin 16384) (k : Fin 20) : res_main_v33 V0 (ix1 (eg q k)) = BitVec.ofNat 32 q.val := by
  rw [Graph.v33_eq]; exact Graph.dstW_apply q k

/-- The first layer's features. -/
theorem v55_apply (b : Fin 16) (p : Fin 1024) (c : Fin 60) :
    (res_main_v55 V0 (ix2 (pt b p) c) : Ideal .f32) = feat (cloudR (ar V0 main_arg0) b) (fun i c => ar V0 main_arg3 (ix2 i c)) (fun c => ar V0 main_arg4 (ix1 c)) p c := by
  rw [Graph.v55_eq, feat, sup_range]
  refine (Graph.top60_apply _ _ _).trans (Finset.sup_congr rfl fun k _ => ?_)
  rw [Graph.edgeF_apply]
  simp only [Graph.rowsP_apply _ _ _ _ _ (src_apply V0 h b p k), Graph.rowsP_apply _ _ _ _ _ (dst_apply V0 (pt b p) k)]
  rfl

/-- The first layer's features, both programs'. -/
theorem v55_eq : res_main_v55 V0 = rowsF (featK (ar V0 main_arg0) (ar V0 main_arg3) (ar V0 main_arg4)) := by
  funext j
  idx_vars j
  obtain ⟨b, p, rfl⟩ := exists_pt j0
  rw [v55_apply V0 h, rowsF_apply, featK_apply]

/-- The normalised features, both programs'. -/
theorem v74_apply (b : Fin 16) (p : Fin 1024) (i : Fin 60) :
    res_main_v74 V0 (ix2 (pt b p) i) = normK (featK (ar V0 main_arg0) (ar V0 main_arg3) (ar V0 main_arg4)) (ar V0 main_arg5) (ar V0 main_arg6) (ix3 b p i) := by
  rw [normK_apply, Norm.v74_eq, v55_eq V0 h]

/-- The normalised features. -/
abbrev normR (V0 : Valuation τ sig (Elt Ideal)) : FVec Ideal Cert.KernelIdeal.S16x1024x60 .f32 :=
  normK (featK (ar V0 main_arg0) (ar V0 main_arg3) (ar V0 main_arg4)) (ar V0 main_arg5) (ar V0 main_arg6)

/-- A normalised feature is real at every point or infinite at every point, as its offset is. -/
theorem norm_real (i : Fin 60) : (∀ b p, IsReal (normR V0 (ix3 b p i))) ∨ ∀ b p, ¬ IsReal (normR V0 (ix3 b p i)) := by
  have e := fun b p => normK_real (f := featK (ar V0 main_arg0) (ar V0 main_arg3) (ar V0 main_arg4)) (o := ar V0 main_arg6)
    (fun b p c => by rw [featK_apply]; exact feat_nonneg _ _ _ p c) h.g b p i
  by_cases ho : IsReal (ar V0 main_arg6 (ix1 i))
  · refine Or.inl fun b p => ?_
    obtain ⟨r, hr, e⟩ := e b p
    rw [normR, e]; exact hr.add ho
  · refine Or.inr fun b p => ?_
    obtain ⟨r, hr, e⟩ := e b p
    rw [normR, e, add_comm]; exact inf_add ho _

/-- The second layer's values from the normalised features. -/
def zR (V0 : Valuation τ sig (Elt Ideal)) (b : Fin 16) (p : Fin 1024) (k : ℕ) (c : Fin 128) : EReal :=
  zed (fun p i => normR V0 (ix3 b p i)) (fun i c => ar V0 main_arg7 (ix2 ⟨i.val, by omega⟩ c)) (fun i c => ar V0 main_arg7 (ix2 ⟨60 + i.val, by omega⟩ c))
    (fun i c => ar V0 main_arg7 (ix2 ⟨120 + i.val, by omega⟩ c)) (fun c => ar V0 main_arg8 (ix1 c)) (nb (cloudR (ar V0 main_arg0) b) p k) p c

/-- The reference's second layer on the edges. -/
def edgeV (V0 : Valuation τ sig (Elt Ideal)) (e : Fin 327680) (c : Fin 128) : EReal := res_main_v109 V0 (ix2 e c)

/-- The second layer's values, both programs'. -/
theorem v109_apply (b : Fin 16) (p : Fin 1024) (k : Fin 20) (c : Fin 128) : edgeV V0 (eg (pt b p) k) c = zR V0 b p k c := by
  rw [edgeV, zR, Graph.v109_eq, Graph.edgeZ_apply]
  simp only [Graph.rowsF_apply _ _ _ _ _ (src_apply V0 h b p k), Graph.rowsF_apply _ _ _ _ _ (dst_apply V0 (pt b p) k), v74_apply V0 h]
  rfl

omit h in
/-- They are nonnegative. -/
theorem z_nonneg (b : Fin 16) (p : Fin 1024) (k : ℕ) (c : Fin 128) : 0 ≤ zR V0 b p k c :=
  zed_nonneg _ _ _ _ _ _ _ _

/-- They are nonnegative on every edge. -/
theorem v109_nonneg (e : Fin 327680) (c : Fin 128) : 0 ≤ edgeV V0 e c := by
  obtain ⟨q, k, rfl⟩ := exists_eg e
  obtain ⟨b, p, rfl⟩ := exists_pt q
  rw [v109_apply V0 h]; exact z_nonneg V0 b p k c

/-- The normalised greatest values, both programs'. -/
theorem top_apply (b : Fin 16) (p : Fin 1024) (c : Fin 128) :
    (top128 (bnZ (res_main_v109 V0) (varZ (devZ (res_main_v109 V0))) (ar V0 main_arg9) (ar V0 main_arg10)) (ix2 (pt b p) c) : EReal)
      = bnK (zR V0) (ar V0 main_arg9) (ar V0 main_arg10) (ix3 b p c) := by
  rw [Graph.top128_apply, bnK_apply, sup_range]
  have hs : Ideal.div (∑ e, edgeV V0 e c) (Ideal.ofBits .f32 0x48A00000#32)
      = Ideal.div (∑ b, ∑ k ∈ Finset.range 20, ∑ p, zR V0 b p k c) (Ideal.ofBits .f32 0x48A00000#32) := by
    rw [sum_edges (fun e => edgeV V0 e c) (fun b p k => zR V0 b p k c) fun b p k => v109_apply V0 h b p k c]
  have hq : Ideal.div (∑ e, edgeV V0 e c * edgeV V0 e c) (Ideal.ofBits .f32 0x48A00000#32)
      = Ideal.div (∑ b, ∑ k ∈ Finset.range 20, ∑ p, zR V0 b p k c * zR V0 b p k c) (Ideal.ofBits .f32 0x48A00000#32) := by
    rw [sum_edges (fun e => edgeV V0 e c * edgeV V0 e c) (fun b p k => zR V0 b p k c * zR V0 b p k c)
      fun b p k => by rw [v109_apply V0 h b p k c]]
  rw [← hs, ← hq, bits_edges]
  have hb : ∀ k : Fin 20, bnZ (res_main_v109 V0) (varZ (devZ (res_main_v109 V0))) (ar V0 main_arg9) (ar V0 main_arg10) (ix2 (eg (pt b p) k) c)
      = affC (meanC ((327680 : ℝ) : EReal) (edgeV V0) c) (varC ((327680 : ℝ) : EReal) (edgeV V0) c) (ar V0 main_arg9 (ix1 c)) (ar V0 main_arg10 (ix1 c))
          (zR V0 b p k c) := fun k => by
    rw [Norm.bnZ_apply, bits_edges, bnC, ← v109_apply V0 h]
    rfl
  simp only [hb]
  have hN : (0 : ℝ) < 327680 := by norm_num
  by_cases hr : ∀ e, IsReal (edgeV V0 e c)
  · rw [← var_eq hr hN.ne' (by simp)]
    obtain ⟨v, hv, ev⟩ := var_nonneg hr hN (isReal_mean hr hN.ne')
    have e2 : varC ((327680 : ℝ) : EReal) (edgeV V0) c = v := ev
    rw [ev, e2, ← sup_mono_comm Finset.univ ⟨0, Finset.mem_univ _⟩ (aff_mono hv (h.gd c))]
    rfl
  · obtain ⟨i, hi⟩ := not_forall.1 hr
    have hi' := (isReal_or_top (v109_nonneg V0 h i c)).resolve_left hi
    have hu : Ideal.div (∑ e, edgeV V0 e c) ((327680 : ℝ) : EReal) = ⊤ := mean_top (fun e => v109_nonneg V0 h e c) hi' hN
    have hm : meanC ((327680 : ℝ) : EReal) (edgeV V0) c = ⊤ := hu
    have hv : varC ((327680 : ℝ) : EReal) (edgeV V0) c = ⊤ := by
      change Ideal.div (∑ e, (edgeV V0 e c - meanC ((327680 : ℝ) : EReal) (edgeV V0) c) * (edgeV V0 e c - meanC ((327680 : ℝ) : EReal) (edgeV V0) c)) ((327680 : ℝ) : EReal) = ⊤
      rw [hm]; exact var_top (fun e => edgeV V0 e c) i hN
    have hw : Ideal.div (∑ e, edgeV V0 e c * edgeV V0 e c) ((327680 : ℝ) : EReal) = ⊤ :=
      mean_top (fun e => mul_nonneg (v109_nonneg V0 h e c) (v109_nonneg V0 h e c)) (by rw [hi', EReal.top_mul_top]) hN
    rw [hu, hw, hm, hv, EReal.top_mul_top, EReal.sub_top, aff_bot]
    simp only [aff_top]
    exact Finset.sup_const ⟨0, Finset.mem_univ _⟩ _

/-- The pooled values, both programs'. -/
theorem v137_apply (r : Fin 16) (c : Fin 1024) :
    (res_main_v137 V0 (ix2 r c) : EReal)
      = relu16 (fun r c => pooledK (bnK (zR V0) (ar V0 main_arg9) (ar V0 main_arg10)) (ar V0 main_arg11) (ar V0 main_arg12) (ix2 r c)) r c := by
  rw [Norm.v137_eq, Norm.poolR_apply, relu16, pooledK_apply]
  rw [← sup_mono_comm Finset.univ ⟨0, Finset.mem_univ _⟩ (f := fun x => x + (ar V0 main_arg12 (ix1 c) : EReal)) (fun x y hxy => add_le_add hxy le_rfl)]
  simp only [top_apply V0 h]

/-- The kernel program's normalised greatest values are these. -/
theorem bn_eq : bnK (zK (ar V0 main_arg0) (normR V0) (ar V0 main_arg7) (ar V0 main_arg8)) (ar V0 main_arg9) (ar V0 main_arg10)
    = bnK (zR V0) (ar V0 main_arg9) (ar V0 main_arg10) :=
  bnK_back _ _ _ _ _ (norm_real V0 h)

/-- The results, both programs'. -/
theorem result_eq : RefHead.lse40 (res_main_call10_v5 V0)
    = headK (pooledK (bnK (zK (ar V0 main_arg0) (normR V0) (ar V0 main_arg7) (ar V0 main_arg8)) (ar V0 main_arg9) (ar V0 main_arg10)) (ar V0 main_arg11) (ar V0 main_arg12)) (ar V0 main_arg13) (ar V0 main_arg14)
        (ar V0 main_arg15) (ar V0 main_arg16) (ar V0 main_arg17) (ar V0 main_arg18) (ar V0 main_arg19) (ar V0 main_arg20) (ar V0 main_arg21)
        (ar V0 main_arg22) (ar V0 main_arg23) (ar V0 main_arg24) := by
  rw [bn_eq V0 h]
  funext j
  idx_vars j
  refine (RefHead.result_apply V0 _ (v137_apply V0 h) j0 j1).trans ?_
  have e10 : ∀ (v : FVec Ideal S1024 .f32) (c : Fin 1024), shapeCast Cert.KernelIdeal.S1x1024 v Cert.KernelIdeal.Gen.shapeCasts_S1024_S1x1024 (ix2 0 c) = v (ix1 c) := fun v c => by pointwise []
  have e5 : ∀ (v : FVec Ideal S512 .f32) (c : Fin 512), shapeCast Cert.KernelIdeal.S1x512 v Cert.KernelIdeal.Gen.shapeCasts_S512_S1x512 (ix2 0 c) = v (ix1 c) := fun v c => by pointwise []
  have e2 : ∀ (v : FVec Ideal S265 .f32) (c : Fin 265), shapeCast Cert.KernelIdeal.S1x265 v Cert.KernelIdeal.Gen.shapeCasts_S265_S1x265 (ix2 0 c) = v (ix1 c) := fun v c => by pointwise []
  have e4 : ∀ (v : FVec Ideal S40 .f32) (c : Fin 40), shapeCast Cert.KernelIdeal.S1x40 v Cert.KernelIdeal.Gen.shapeCasts_S40_S1x40 (ix2 0 c) = v (ix1 c) := fun v c => by pointwise []
  generalize pooledK _ _ _ = y
  simp only [headK, Cert.KernelIdeal.Arrays.headA, e10, e5, e2, e4]
  rfl

end Reference

end Cert.Match

end
-- ==== Proof.Precond.lean ====
/- What the precondition says of the arguments. -/
module

public import proofs.«01_k».proof.Pre_inputs_in_range
public import proofs.«01_k».proof.Proof.Match2
public import Idealize.ShloMosaic.Lib.ReduceAll

@[expose] public section

set_option maxRecDepth 16384

noncomputable section

namespace Cert.Precond

open Idealize.ShloMosaic Idealize.ShloMosaic.TcCoe Idealize.SL.Sem
open Cert.Spec Cert.Match

/-- The side conditions of the precondition's operations. -/
instance facts : Cert.Pre_inputs_in_range.Facts where
  bcast_S_S16384x3 := by decide
  reducesTo_S16384x3_S_d0_1 := by decide
  h_S_ := by decide
  bcast_S_S60 := by decide
  reducesTo_S60_S_d0 := by decide
  bcast_S_S128 := by decide
  reducesTo_S128_S_d0 := by decide

/-- A condition has one index. -/
instance : Subsingleton Cert.Pre_inputs_in_range.S_.Idx := ⟨fun _ _ => funext fun i => i.elim0⟩

/-- The and of two conditions. -/
theorem both {a b : IVec Cert.Pre_inputs_in_range.S_ 1} (h : andi a b = fun _ => 1#1) : (a = fun _ => 1#1) ∧ b = fun _ => 1#1 := by
  have h' : ∀ j, a j = 1#1 ∧ b j = 1#1 := fun j => IntOp.andi_eq_one.1 (congrFun h j)
  exact ⟨funext fun j => (h' j).1, funext fun j => (h' j).2⟩

/-- A condition on all elements, at an element. -/
theorem every {s : Shape} {axes : List (Fin s.rank)} {x : IVec s 1} {h : s.ReducesTo axes Cert.Pre_inputs_in_range.S_} {hu : 0 < Cert.Pre_inputs_in_range.S_.numel}
    (e : Host.reduce IntOp.andi x (constantI Cert.Pre_inputs_in_range.S_ 1 1#1) h hu = fun _ => 1#1) (i : s.Idx) : x i = 1#1 :=
  Host.reduce_andi_all x _ h hu (fun i => i.elim0) (congrFun e _) i

/-- A comparison that holds. -/
theorem holds {p : Prop} [Decidable p] (h : BitVec.ofBool (decide p) = 1#1) : p := by
  by_contra hp
  simp [hp] at h

/-- An element whose absolute value lies below infinity is real. -/
theorem finite_of {s : Shape} {x : FVec Ideal s .f32} {hb : Cert.Pre_inputs_in_range.S_.BroadcastsInDim s (![] : Fin 0 → Fin s.rank)} {i : s.Idx}
    (h : cmpf .olt (Host.absf x) (broadcastInDim s ![] hb (constant (F := Ideal) Cert.Pre_inputs_in_range.S_ .f32 0x7F800000#32)) i = 1#1) : IsReal (x i) := by
  have h' : max (x i : EReal) (-(x i : EReal)) < Ideal.ofBits .f32 0x7F800000#32 := holds h
  rw [bits_top] at h'
  exact isReal_of_abs h'

/-- An element whose absolute value is at most the bound is a real within it. -/
theorem bounded_of {s : Shape} {x : FVec Ideal s .f32} {hb : Cert.Pre_inputs_in_range.S_.BroadcastsInDim s (![] : Fin 0 → Fin s.rank)} {i : s.Idx}
    (h : cmpf .ole (Host.absf x) (broadcastInDim s ![] hb (constant (F := Ideal) Cert.Pre_inputs_in_range.S_ .f32 0x46E18600#32)) i = 1#1) :
    ∃ r : ℝ, |r| ≤ 28867 ∧ (x i : EReal) = r := by
  have h' : max (x i : EReal) (-(x i : EReal)) ≤ Ideal.ofBits .f32 0x46E18600#32 := holds h
  rw [bits_bound] at h'
  obtain ⟨r, e⟩ := isReal_of_abs (lt_of_le_of_lt h' (EReal.coe_lt_top _))
  refine ⟨r, ?_, e⟩
  rw [e, ← EReal.coe_neg, max_le_iff, EReal.coe_le_coe_iff, EReal.coe_le_coe_iff] at h'
  exact abs_le.2 ⟨by linarith [h'.2], h'.1⟩

/-- An element at least zero. -/
theorem nonneg_of {s : Shape} {x : FVec Ideal s .f32} {hb : Cert.Pre_inputs_in_range.S_.BroadcastsInDim s (![] : Fin 0 → Fin s.rank)} {i : s.Idx}
    (h : cmpf .oge x (broadcastInDim s ![] hb (constant (F := Ideal) Cert.Pre_inputs_in_range.S_ .f32 0x00000000#32)) i = 1#1) : (0 : EReal) ≤ x i := by
  have h' : Ideal.ofBits .f32 0x00000000#32 ≤ (x i : EReal) := holds h
  rwa [Ideal.ofBits_zero_f32] at h'

/-- The precondition makes the arguments good. -/
theorem good (x0 : FVec Ideal Cert.Pre_inputs_in_range.S16384x3 .f32) (x1 : IVec Cert.Pre_inputs_in_range.S2x327680 32) (x2 : IVec Cert.Pre_inputs_in_range.S16384 32)
    (x3 : FVec Ideal Cert.Pre_inputs_in_range.S3x60 .f32) (x4 x5 x6 : FVec Ideal Cert.Pre_inputs_in_range.S60 .f32)
    (x7 : FVec Ideal Cert.Pre_inputs_in_range.S180x128 .f32) (x8 x9 x10 : FVec Ideal Cert.Pre_inputs_in_range.S128 .f32)
    (x11 : FVec Ideal Cert.Pre_inputs_in_range.S128x1024 .f32) (x12 x13 x14 : FVec Ideal Cert.Pre_inputs_in_range.S1024 .f32)
    (x15 : FVec Ideal Cert.Pre_inputs_in_range.S1024x512 .f32) (x16 x17 x18 : FVec Ideal Cert.Pre_inputs_in_range.S512 .f32)
    (x19 : FVec Ideal Cert.Pre_inputs_in_range.S512x265 .f32) (x20 x21 x22 : FVec Ideal Cert.Pre_inputs_in_range.S265 .f32)
    (x23 : FVec Ideal Cert.Pre_inputs_in_range.S265x40 .f32) (x24 : FVec Ideal Cert.Pre_inputs_in_range.S40 .f32)
    (h : Cert.Pre_inputs_in_range.fn (F := Ideal) x0 x1 x2 x3 x4 x5 x6 x7 x8 x9 x10 x11 x12 x13 x14 x15 x16 x17 x18 x19 x20 x21 x22 x23 x24 = fun _ => 1#1) :
    Good x0 x5 x9 := by
  unfold Cert.Pre_inputs_in_range.fn at h
  dsimp only at h
  obtain ⟨h, h9⟩ := both h
  obtain ⟨h0, h5⟩ := both h
  exact ⟨fun q i => bounded_of (every h0 (ix2 q i)), fun c => finite_of (every h5 (ix1 c)),
    fun c => nonneg_of (every h9 (ix1 c))⟩

end Cert.Precond

end
-- ==== Proof.Value.lean ====
/- The two programs' results agree. -/
module

public import proofs.«01_k».proof.Proof.Precond

@[expose] public section

set_option maxRecDepth 16384

noncomputable section

namespace Cert.Match

open Idealize.ShloMosaic Idealize.ShloMosaic.TcCoe Idealize.SL.Sem
open Cert.KernelIdeal Cert.KernelIdeal.Gen Cert.KernelIdeal.Arrays Cert.KernelIdeal.Chain Cert.Spec
open Cert.ReferenceIdeal.Knn (pt)
open Cert.ReferenceIdeal.Graph (cloudR)

variable (m : (ℓ : Loc nD τ sig) → Buf (Elt Ideal) ℓ) (ρ : Dev nD → PrngReg) (c : Dev nD)

/-- The kernel program's arguments are good. -/
abbrev GoodM : Prop := Good (arg m c main_arg0) (arg m c main_arg5) (arg m c main_arg9)

/-- With good arguments, the points' differences from themselves are zero. -/
theorem points_cancel (h : GoodM m c) (b : Fin 16) (p : Fin 1024) (i : Fin 3) :
    clouds (cloudK (arg m c main_arg0)) b p i - clouds (cloudK (arg m c main_arg0)) b p i = 0 := by
  rw [clouds_eq]
  exact IsReal.sub_self ((h.x (pt b p) i).imp fun _ => And.right)

/-- The head of equal arrays. -/
theorem headK_congr {y y' : FVec Ideal S16x1024 .f32} {g1 g1' b1 b1' : FVec Ideal S1024 .f32} {w2 w2' : FVec Ideal S1024x512 .f32}
    {c2 c2' g2 g2' b2 b2' : FVec Ideal S512 .f32} {w3 w3' : FVec Ideal S512x265 .f32} {c3 c3' g3 g3' b3 b3' : FVec Ideal S265 .f32}
    {w4 w4' : FVec Ideal S265x40 .f32} {c4 c4' : FVec Ideal S40 .f32} (h0 : y = y') (h1 : g1 = g1') (h2 : b1 = b1') (h3 : w2 = w2') (h4 : c2 = c2')
    (h5 : g2 = g2') (h6 : b2 = b2') (h7 : w3 = w3') (h8 : c3 = c3') (h9 : g3 = g3') (h10 : b3 = b3') (h11 : w4 = w4') (h12 : c4 = c4') :
    headK y g1 b1 w2 c2 g2 b2 w3 c3 g3 b3 w4 c4 = headK y' g1' b1' w2' c2' g2' b2' w3' c3' g3' b3' w4' c4' := by
  subst h0 h1 h2 h3 h4 h5 h6 h7 h8 h9 h10 h11 h12; rfl

/-- The kernel program's result, with good arguments equal to a reference's, is that reference's. -/
theorem results_eq (h : GoodM m c) (V0 : Valuation Cert.ReferenceIdeal.τ Cert.ReferenceIdeal.sig (Elt Ideal))
    (h0 : ar V0 Cert.ReferenceIdeal.main_arg0 = arg m c main_arg0)
    (h3 : ar V0 Cert.ReferenceIdeal.main_arg3 = arg m c main_arg3)
    (h4 : ar V0 Cert.ReferenceIdeal.main_arg4 = arg m c main_arg4)
    (h5 : ar V0 Cert.ReferenceIdeal.main_arg5 = arg m c main_arg5)
    (h6 : ar V0 Cert.ReferenceIdeal.main_arg6 = arg m c main_arg6)
    (h7 : ar V0 Cert.ReferenceIdeal.main_arg7 = arg m c main_arg7)
    (h8 : ar V0 Cert.ReferenceIdeal.main_arg8 = arg m c main_arg8)
    (h9 : ar V0 Cert.ReferenceIdeal.main_arg9 = arg m c main_arg9)
    (h10 : ar V0 Cert.ReferenceIdeal.main_arg10 = arg m c main_arg10)
    (h11 : ar V0 Cert.ReferenceIdeal.main_arg11 = arg m c main_arg11)
    (h12 : ar V0 Cert.ReferenceIdeal.main_arg12 = arg m c main_arg12)
    (h13 : ar V0 Cert.ReferenceIdeal.main_arg13 = arg m c main_arg13)
    (h14 : ar V0 Cert.ReferenceIdeal.main_arg14 = arg m c main_arg14)
    (h15 : ar V0 Cert.ReferenceIdeal.main_arg15 = arg m c main_arg15)
    (h16 : ar V0 Cert.ReferenceIdeal.main_arg16 = arg m c main_arg16)
    (h17 : ar V0 Cert.ReferenceIdeal.main_arg17 = arg m c main_arg17)
    (h18 : ar V0 Cert.ReferenceIdeal.main_arg18 = arg m c main_arg18)
    (h19 : ar V0 Cert.ReferenceIdeal.main_arg19 = arg m c main_arg19)
    (h20 : ar V0 Cert.ReferenceIdeal.main_arg20 = arg m c main_arg20)
    (h21 : ar V0 Cert.ReferenceIdeal.main_arg21 = arg m c main_arg21)
    (h22 : ar V0 Cert.ReferenceIdeal.main_arg22 = arg m c main_arg22)
    (h23 : ar V0 Cert.ReferenceIdeal.main_arg23 = arg m c main_arg23)
    (h24 : ar V0 Cert.ReferenceIdeal.main_arg24 = arg m c main_arg24) :
    Cert.ReferenceIdeal.RefHead.lse40 (Cert.ReferenceIdeal.Value.res_main_call10_v5 V0) = W10 m ρ c (Proc.devRef .tc main_v69) := by
  have hg : Good (ar V0 Cert.ReferenceIdeal.main_arg0) (ar V0 Cert.ReferenceIdeal.main_arg5) (ar V0 Cert.ReferenceIdeal.main_arg9) := by
    rw [h0, h5, h9]; exact h
  refine (result_eq V0 hg).trans (Eq.trans ?_ (v69_eq m ρ c (points_cancel m c h)).symm)
  have ez : zK (ar V0 Cert.ReferenceIdeal.main_arg0) (normR V0) (ar V0 Cert.ReferenceIdeal.main_arg7) (ar V0 Cert.ReferenceIdeal.main_arg8) = zM m c := by
    rw [normR, h0, h3, h4, h5, h6, h7, h8]
    rfl
  have ep : pooledK (bnK (zK (ar V0 Cert.ReferenceIdeal.main_arg0) (normR V0) (ar V0 Cert.ReferenceIdeal.main_arg7) (ar V0 Cert.ReferenceIdeal.main_arg8)) (ar V0 Cert.ReferenceIdeal.main_arg9) (ar V0 Cert.ReferenceIdeal.main_arg10)) (ar V0 Cert.ReferenceIdeal.main_arg11)
      (ar V0 Cert.ReferenceIdeal.main_arg12) = pooledM m c := by
    rw [ez, h9, h10, h11, h12]
    rfl
  exact headK_congr ep h13 h14 h15 h16 h17 h18 h19 h20 h21 h22 h23 h24

end Cert.Match

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Run
public import proofs.«01_k».proof.Proof.Value
public import Idealize.ShloMosaic.Adequacy
public import Idealize.ShloMosaic.Init

@[expose] public section

set_option maxRecDepth 16384

noncomputable section

namespace Cert.Proof

open Idealize.ShloMosaic Idealize.SL.Sem

/-- The kernel, at the machine's words, ends with its arguments unchanged and its semaphores at zero. -/
theorem frame_k : Cert.quiescent_Kernel := fun m ρ _ => Cert.Kernel.Gen.frame m ρ

/-- The idealized kernel ends with its arguments unchanged and its semaphores at zero. -/
theorem frame_ki : Cert.quiescent_KernelIdeal := fun m ρ _ => Cert.KernelIdeal.Gen.frame m ρ

/-- The idealized reference ends with its arguments unchanged; it has no semaphore. -/
theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The idealized kernel and the idealized reference, from memories with equal arguments of which the kernel's meet the precondition, end with equal
    results and their arguments unchanged. -/
theorem value_ki_ri : Cert.algebraic_KernelIdeal_ReferenceIdeal_pre_inputs_in_range := fun m g m' g' hp ha => by
  have hg : ∀ c, Cert.Match.GoodM m c := fun c => Cert.Precond.good _ _ _ _ _ _ _ _ _ _ _ _ _ _ _ _ _ _ _ _ _ _ _ _ _ (hp c)
  refine ⟨fun c => Cert.KernelIdeal.Gen.W10 m g c (Proc.devRef .tc Cert.KernelIdeal.main_v69), ?_, ?_⟩
  · refine (θ_run Cert.KernelIdeal.defs _ _).mono (fun r h c => ?_) (Cert.KernelIdeal.Launch.run m g)
    exact ⟨h c _ (Cert.KernelIdeal.Gen.mem_uc Cert.KernelIdeal.main_v69 (by decide)),
        (h c _ (Cert.KernelIdeal.Gen.mem_uc Cert.KernelIdeal.main_arg0 (by decide))).trans (Cert.KernelIdeal.Gen.W10_main_arg0 m g c),
        (h c _ (Cert.KernelIdeal.Gen.mem_uc Cert.KernelIdeal.main_arg1 (by decide))).trans (Cert.KernelIdeal.Gen.W10_main_arg1 m g c),
        (h c _ (Cert.KernelIdeal.Gen.mem_uc Cert.KernelIdeal.main_arg2 (by decide))).trans (Cert.KernelIdeal.Gen.W10_main_arg2 m g c),
        (h c _ (Cert.KernelIdeal.Gen.mem_uc Cert.KernelIdeal.main_arg3 (by decide))).trans (Cert.KernelIdeal.Gen.W10_main_arg3 m g c),
        (h c _ (Cert.KernelIdeal.Gen.mem_uc Cert.KernelIdeal.main_arg4 (by decide))).trans (Cert.KernelIdeal.Gen.W10_main_arg4 m g c),
        (h c _ (Cert.KernelIdeal.Gen.mem_uc Cert.KernelIdeal.main_arg5 (by decide))).trans (Cert.KernelIdeal.Gen.W10_main_arg5 m g c),
        (h c _ (Cert.KernelIdeal.Gen.mem_uc Cert.KernelIdeal.main_arg6 (by decide))).trans (Cert.KernelIdeal.Gen.W10_main_arg6 m g c),
        (h c _ (Cert.KernelIdeal.Gen.mem_uc Cert.KernelIdeal.main_arg7 (by decide))).trans (Cert.KernelIdeal.Gen.W10_main_arg7 m g c),
        (h c _ (Cert.KernelIdeal.Gen.mem_uc Cert.KernelIdeal.main_arg8 (by decide))).trans (Cert.KernelIdeal.Gen.W10_main_arg8 m g c),
        (h c _ (Cert.KernelIdeal.Gen.mem_uc Cert.KernelIdeal.main_arg9 (by decide))).trans (Cert.KernelIdeal.Gen.W10_main_arg9 m g c),
        (h c _ (Cert.KernelIdeal.Gen.mem_uc Cert.KernelIdeal.main_arg10 (by decide))).trans (Cert.KernelIdeal.Gen.W10_main_arg10 m g c),
        (h c _ (Cert.KernelIdeal.Gen.mem_uc Cert.KernelIdeal.main_arg11 (by decide))).trans (Cert.KernelIdeal.Gen.W10_main_arg11 m g c),
        (h c _ (Cert.KernelIdeal.Gen.mem_uc Cert.KernelIdeal.main_arg12 (by decide))).trans (Cert.KernelIdeal.Gen.W10_main_arg12 m g c),
        (h c _ (Cert.KernelIdeal.Gen.mem_uc Cert.KernelIdeal.main_arg13 (by decide))).trans (Cert.KernelIdeal.Gen.W10_main_arg13 m g c),
        (h c _ (Cert.KernelIdeal.Gen.mem_uc Cert.KernelIdeal.main_arg14 (by decide))).trans (Cert.KernelIdeal.Gen.W10_main_arg14 m g c),
        (h c _ (Cert.KernelIdeal.Gen.mem_uc Cert.KernelIdeal.main_arg15 (by decide))).trans (Cert.KernelIdeal.Gen.W10_main_arg15 m g c),
        (h c _ (Cert.KernelIdeal.Gen.mem_uc Cert.KernelIdeal.main_arg16 (by decide))).trans (Cert.KernelIdeal.Gen.W10_main_arg16 m g c),
        (h c _ (Cert.KernelIdeal.Gen.mem_uc Cert.KernelIdeal.main_arg17 (by decide))).trans (Cert.KernelIdeal.Gen.W10_main_arg17 m g c),
        (h c _ (Cert.KernelIdeal.Gen.mem_uc Cert.KernelIdeal.main_arg18 (by decide))).trans (Cert.KernelIdeal.Gen.W10_main_arg18 m g c),
        (h c _ (Cert.KernelIdeal.Gen.mem_uc Cert.KernelIdeal.main_arg19 (by decide))).trans (Cert.KernelIdeal.Gen.W10_main_arg19 m g c),
        (h c _ (Cert.KernelIdeal.Gen.mem_uc Cert.KernelIdeal.main_arg20 (by decide))).trans (Cert.KernelIdeal.Gen.W10_main_arg20 m g c),
        (h c _ (Cert.KernelIdeal.Gen.mem_uc Cert.KernelIdeal.main_arg21 (by decide))).trans (Cert.KernelIdeal.Gen.W10_main_arg21 m g c),
        (h c _ (Cert.KernelIdeal.Gen.mem_uc Cert.KernelIdeal.main_arg22 (by decide))).trans (Cert.KernelIdeal.Gen.W10_main_arg22 m g c),
        (h c _ (Cert.KernelIdeal.Gen.mem_uc Cert.KernelIdeal.main_arg23 (by decide))).trans (Cert.KernelIdeal.Gen.W10_main_arg23 m g c),
        (h c _ (Cert.KernelIdeal.Gen.mem_uc Cert.KernelIdeal.main_arg24 (by decide))).trans (Cert.KernelIdeal.Gen.W10_main_arg24 m g c)⟩
  · refine (θ_run Cert.ReferenceIdeal.defs _ _).mono (fun r h c => ⟨(h c).1.trans ?_, (h c).2⟩) (Cert.ReferenceIdeal.Value.run (F := Ideal) m' g')
    obtain ⟨a0, a1, a2, a3, a4, a5, a6, a7, a8, a9, a10, a11, a12, a13, a14, a15, a16, a17, a18, a19, a20, a21, a22, a23, a24⟩ := ha c
    exact Cert.Match.results_eq m g c (hg c) (StableHlo.launchContents m' c) a0 a3 a4 a5 a6 a7 a8 a9 a10 a11 a12 a13 a14 a15 a16 a17 a18 a19 a20 a21 a22 a23 a24

/-- Everything claimed. -/
theorem claim : Cert.Claim :=
  ⟨Cert.Kernel.Gen.facts, Cert.KernelIdeal.Gen.facts, Cert.ReferenceIdeal.Gen.facts, Cert.Precond.facts,
    frame_k, frame_ki, fun m g _ => frame_ki m g trivial, frame_ri, fun m g _ => frame_ri m g trivial, trivial, value_ki_ri⟩

end Cert.Proof

end
